-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Add (m : (ℓ : Loc Cert.Add.nD Cert.Add.τ Cert.Add.sig) → Buf (Elt Bits) ℓ) : Prop :=
  True

def Pre_AddIdeal (m : (ℓ : Loc Cert.AddIdeal.nD Cert.AddIdeal.τ Cert.AddIdeal.sig) → Buf (Elt Ideal) ℓ) : Prop :=
  True

def Pre_AddRefIdeal (m : (ℓ : Loc Cert.AddRefIdeal.nD Cert.AddRefIdeal.τ Cert.AddRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Parts (m : (ℓ : Loc Cert.Parts.nD Cert.Parts.τ Cert.Parts.sig) → Buf (Elt Bits) ℓ) : Prop :=
  True

def Pre_PartsIdeal (m : (ℓ : Loc Cert.PartsIdeal.nD Cert.PartsIdeal.τ Cert.PartsIdeal.sig) → Buf (Elt Ideal) ℓ) : Prop :=
  True

def Pre_PartsRefIdeal (m : (ℓ : Loc Cert.PartsRefIdeal.nD Cert.PartsRefIdeal.τ Cert.PartsRefIdeal.sig) → Buf (Elt Ideal) ℓ) : Prop :=
  True

def Pre_Gathered (m : (ℓ : Loc Cert.Gathered.nD Cert.Gathered.τ Cert.Gathered.sig) → Buf (Elt Bits) ℓ) : Prop :=
  True

def Pre_GatheredIdeal (m : (ℓ : Loc Cert.GatheredIdeal.nD Cert.GatheredIdeal.τ Cert.GatheredIdeal.sig) → Buf (Elt Ideal) ℓ) : Prop :=
  True

def Pre_GatheredRefIdeal (m : (ℓ : Loc Cert.GatheredRefIdeal.nD Cert.GatheredRefIdeal.τ Cert.GatheredRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Add [hAdd : Cert.Add.Facts] : Prop :=
  ∀ (m : (ℓ : Loc Cert.Add.nD Cert.Add.τ Cert.Add.sig) → Buf (Elt Bits) ℓ) (g : Dev Cert.Add.nD → PrngReg), Pre_Add m →
    θ_run (Cert.Add.defs (F := Bits)) (onTc (τ := Cert.Add.τ) (Cert.Add.main (F := Bits))) ⟨m, fun _ => 0, g⟩ (fun r => (∀ c : Dev Cert.Add.nD,
      r.2.mem ((c.tc : Thread Cert.Add.nD Cert.Add.τ).loc Cert.Add.main_arg0) = m ((c.tc : Thread Cert.Add.nD Cert.Add.τ).loc Cert.Add.main_arg0)
      ∧ r.2.mem ((c.tc : Thread Cert.Add.nD Cert.Add.τ).loc Cert.Add.main_arg1) = m ((c.tc : Thread Cert.Add.nD Cert.Add.τ).loc Cert.Add.main_arg1)
      ∧ r.2.mem ((c.tc : Thread Cert.Add.nD Cert.Add.τ).loc Cert.Add.main_arg2) = m ((c.tc : Thread Cert.Add.nD Cert.Add.τ).loc Cert.Add.main_arg2)
      ∧ r.2.mem ((c.tc : Thread Cert.Add.nD Cert.Add.τ).loc Cert.Add.main_arg3) = m ((c.tc : Thread Cert.Add.nD Cert.Add.τ).loc Cert.Add.main_arg3))
      ∧ r.2.sem = fun _ => 0)

def quiescent_AddIdeal [hAddIdeal : Cert.AddIdeal.Facts] : Prop :=
  ∀ (m : (ℓ : Loc Cert.AddIdeal.nD Cert.AddIdeal.τ Cert.AddIdeal.sig) → Buf (Elt Ideal) ℓ) (g : Dev Cert.AddIdeal.nD → PrngReg), Pre_AddIdeal m →
    θ_run (Cert.AddIdeal.defs (F := Ideal)) (onTc (τ := Cert.AddIdeal.τ) (Cert.AddIdeal.main (F := Ideal))) ⟨m, fun _ => 0, g⟩ (fun r => (∀ c : Dev Cert.AddIdeal.nD,
      r.2.mem ((c.tc : Thread Cert.AddIdeal.nD Cert.AddIdeal.τ).loc Cert.AddIdeal.main_arg0) = m ((c.tc : Thread Cert.AddIdeal.nD Cert.AddIdeal.τ).loc Cert.AddIdeal.main_arg0)
      ∧ r.2.mem ((c.tc : Thread Cert.AddIdeal.nD Cert.AddIdeal.τ).loc Cert.AddIdeal.main_arg1) = m ((c.tc : Thread Cert.AddIdeal.nD Cert.AddIdeal.τ).loc Cert.AddIdeal.main_arg1)
      ∧ r.2.mem ((c.tc : Thread Cert.AddIdeal.nD Cert.AddIdeal.τ).loc Cert.AddIdeal.main_arg2) = m ((c.tc : Thread Cert.AddIdeal.nD Cert.AddIdeal.τ).loc Cert.AddIdeal.main_arg2)
      ∧ r.2.mem ((c.tc : Thread Cert.AddIdeal.nD Cert.AddIdeal.τ).loc Cert.AddIdeal.main_arg3) = m ((c.tc : Thread Cert.AddIdeal.nD Cert.AddIdeal.τ).loc Cert.AddIdeal.main_arg3))
      ∧ r.2.sem = fun _ => 0)

def quiescent_AddRefIdeal [hAddRefIdeal : Cert.AddRefIdeal.Facts] : Prop :=
  ∀ (m : (ℓ : Loc Cert.AddRefIdeal.nD Cert.AddRefIdeal.τ Cert.AddRefIdeal.sig) → Buf (Elt Ideal) ℓ) (g : Dev Cert.AddRefIdeal.nD → PrngReg), Pre_AddRefIdeal m →
    θ_run (Cert.AddRefIdeal.defs (F := Ideal)) (onTc (τ := Cert.AddRefIdeal.τ) (Cert.AddRefIdeal.main (F := Ideal))) ⟨m, fun _ => 0, g⟩ (fun r => (∀ c : Dev Cert.AddRefIdeal.nD,
      r.2.mem ((c.tc : Thread Cert.AddRefIdeal.nD Cert.AddRefIdeal.τ).loc Cert.AddRefIdeal.main_arg0) = m ((c.tc : Thread Cert.AddRefIdeal.nD Cert.AddRefIdeal.τ).loc Cert.AddRefIdeal.main_arg0)
      ∧ r.2.mem ((c.tc : Thread Cert.AddRefIdeal.nD Cert.AddRefIdeal.τ).loc Cert.AddRefIdeal.main_arg1) = m ((c.tc : Thread Cert.AddRefIdeal.nD Cert.AddRefIdeal.τ).loc Cert.AddRefIdeal.main_arg1)
      ∧ r.2.mem ((c.tc : Thread Cert.AddRefIdeal.nD Cert.AddRefIdeal.τ).loc Cert.AddRefIdeal.main_arg2) = m ((c.tc : Thread Cert.AddRefIdeal.nD Cert.AddRefIdeal.τ).loc Cert.AddRefIdeal.main_arg2)
      ∧ r.2.mem ((c.tc : Thread Cert.AddRefIdeal.nD Cert.AddRefIdeal.τ).loc Cert.AddRefIdeal.main_arg3) = m ((c.tc : Thread Cert.AddRefIdeal.nD Cert.AddRefIdeal.τ).loc Cert.AddRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1)
      ∧ r.2.mem ((c.tc : Thread Cert.Tn.nD Cert.Tn.τ).loc Cert.Tn.main_arg2) = m ((c.tc : Thread Cert.Tn.nD Cert.Tn.τ).loc Cert.Tn.main_arg2)
      ∧ r.2.mem ((c.tc : Thread Cert.Tn.nD Cert.Tn.τ).loc Cert.Tn.main_arg3) = m ((c.tc : Thread Cert.Tn.nD Cert.Tn.τ).loc Cert.Tn.main_arg3))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
      ∧ r.2.mem ((c.tc : Thread Cert.TnIdeal.nD Cert.TnIdeal.τ).loc Cert.TnIdeal.main_arg2) = m ((c.tc : Thread Cert.TnIdeal.nD Cert.TnIdeal.τ).loc Cert.TnIdeal.main_arg2)
      ∧ r.2.mem ((c.tc : Thread Cert.TnIdeal.nD Cert.TnIdeal.τ).loc Cert.TnIdeal.main_arg3) = m ((c.tc : Thread Cert.TnIdeal.nD Cert.TnIdeal.τ).loc Cert.TnIdeal.main_arg3))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1)
      ∧ r.2.mem ((c.tc : Thread Cert.TnRefIdeal.nD Cert.TnRefIdeal.τ).loc Cert.TnRefIdeal.main_arg2) = m ((c.tc : Thread Cert.TnRefIdeal.nD Cert.TnRefIdeal.τ).loc Cert.TnRefIdeal.main_arg2)
      ∧ r.2.mem ((c.tc : Thread Cert.TnRefIdeal.nD Cert.TnRefIdeal.τ).loc Cert.TnRefIdeal.main_arg3) = m ((c.tc : Thread Cert.TnRefIdeal.nD Cert.TnRefIdeal.τ).loc Cert.TnRefIdeal.main_arg3))
      ∧ r.2.sem = fun _ => 0)

def quiescent_Parts [hParts : Cert.Parts.Facts] : Prop :=
  ∀ (m : (ℓ : Loc Cert.Parts.nD Cert.Parts.τ Cert.Parts.sig) → Buf (Elt Bits) ℓ) (g : Dev Cert.Parts.nD → PrngReg), Pre_Parts m →
    θ_run (Cert.Parts.defs (F := Bits)) (onTc (τ := Cert.Parts.τ) (Cert.Parts.main (F := Bits))) ⟨m, fun _ => 0, g⟩ (fun r => (∀ c : Dev Cert.Parts.nD,
      r.2.mem ((c.tc : Thread Cert.Parts.nD Cert.Parts.τ).loc Cert.Parts.main_arg0) = m ((c.tc : Thread Cert.Parts.nD Cert.Parts.τ).loc Cert.Parts.main_arg0)
      ∧ r.2.mem ((c.tc : Thread Cert.Parts.nD Cert.Parts.τ).loc Cert.Parts.main_arg1) = m ((c.tc : Thread Cert.Parts.nD Cert.Parts.τ).loc Cert.Parts.main_arg1))
      ∧ r.2.sem = fun _ => 0)

def quiescent_PartsIdeal [hPartsIdeal : Cert.PartsIdeal.Facts] : Prop :=
  ∀ (m : (ℓ : Loc Cert.PartsIdeal.nD Cert.PartsIdeal.τ Cert.PartsIdeal.sig) → Buf (Elt Ideal) ℓ) (g : Dev Cert.PartsIdeal.nD → PrngReg), Pre_PartsIdeal m →
    θ_run (Cert.PartsIdeal.defs (F := Ideal)) (onTc (τ := Cert.PartsIdeal.τ) (Cert.PartsIdeal.main (F := Ideal))) ⟨m, fun _ => 0, g⟩ (fun r => (∀ c : Dev Cert.PartsIdeal.nD,
      r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
      ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1))
      ∧ r.2.sem = fun _ => 0)

def quiescent_PartsRefIdeal [hPartsRefIdeal : Cert.PartsRefIdeal.Facts] : Prop :=
  ∀ (m : (ℓ : Loc Cert.PartsRefIdeal.nD Cert.PartsRefIdeal.τ Cert.PartsRefIdeal.sig) → Buf (Elt Ideal) ℓ) (g : Dev Cert.PartsRefIdeal.nD → PrngReg), Pre_PartsRefIdeal m →
    θ_run (Cert.PartsRefIdeal.defs (F := Ideal)) (onTc (τ := Cert.PartsRefIdeal.τ) (Cert.PartsRefIdeal.main (F := Ideal))) ⟨m, fun _ => 0, g⟩ (fun r => (∀ c : Dev Cert.PartsRefIdeal.nD,
      r.2.mem ((c.tc : Thread Cert.PartsRefIdeal.nD Cert.PartsRefIdeal.τ).loc Cert.PartsRefIdeal.main_arg0) = m ((c.tc : Thread Cert.PartsRefIdeal.nD Cert.PartsRefIdeal.τ).loc Cert.PartsRefIdeal.main_arg0)
      ∧ r.2.mem ((c.tc : Thread Cert.PartsRefIdeal.nD Cert.PartsRefIdeal.τ).loc Cert.PartsRefIdeal.main_arg1) = m ((c.tc : Thread Cert.PartsRefIdeal.nD Cert.PartsRefIdeal.τ).loc Cert.PartsRefIdeal.main_arg1))
      ∧ r.2.sem = fun _ => 0)

def quiescent_Gathered [hGathered : Cert.Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0))
      ∧ r.2.sem = fun _ => 0)

def quiescent_GatheredIdeal [hGatheredIdeal : Cert.GatheredIdeal.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0))
      ∧ r.2.sem = fun _ => 0)

def quiescent_GatheredRefIdeal [hGatheredRefIdeal : Cert.GatheredRefIdeal.Facts] : Prop :=
  ∀ (m : (ℓ : Loc Cert.GatheredRefIdeal.nD Cert.GatheredRefIdeal.τ Cert.GatheredRefIdeal.sig) → Buf (Elt Ideal) ℓ) (g : Dev Cert.GatheredRefIdeal.nD → PrngReg), Pre_GatheredRefIdeal m →
    θ_run (Cert.GatheredRefIdeal.defs (F := Ideal)) (onTc (τ := Cert.GatheredRefIdeal.τ) (Cert.GatheredRefIdeal.main (F := Ideal))) ⟨m, fun _ => 0, g⟩ (fun r => (∀ c : Dev Cert.GatheredRefIdeal.nD,
      r.2.mem ((c.tc : Thread Cert.GatheredRefIdeal.nD Cert.GatheredRefIdeal.τ).loc Cert.GatheredRefIdeal.main_arg0) = m ((c.tc : Thread Cert.GatheredRefIdeal.nD Cert.GatheredRefIdeal.τ).loc Cert.GatheredRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v18_0)) (v1 : (c : Dev Cert.LossIdeal.nD) → Buf (Elt Ideal) ((c.tc : Thread Cert.LossIdeal.nD Cert.LossIdeal.τ).loc Cert.LossIdeal.main_v18_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v18_0) = v0 c
          ∧ r.2.mem ((c.tc : Thread Cert.LossIdeal.nD Cert.LossIdeal.τ).loc Cert.LossIdeal.main_v18_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v40) = v0 c
          ∧ r.2.mem ((c.tc : Thread Cert.LossRefIdeal.nD Cert.LossRefIdeal.τ).loc Cert.LossRefIdeal.main_v42) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v23_0)) (v1 : (c : Dev Cert.NormIdeal.nD) → Buf (Elt Ideal) ((c.tc : Thread Cert.NormIdeal.nD Cert.NormIdeal.τ).loc Cert.NormIdeal.main_v23_1)) (v2 : (c : Dev Cert.NormIdeal.nD) → Buf (Elt Ideal) ((c.tc : Thread Cert.NormIdeal.nD Cert.NormIdeal.τ).loc Cert.NormIdeal.main_v23_2)) (v3 : (c : Dev Cert.NormIdeal.nD) → Buf (Elt Ideal) ((c.tc : Thread Cert.NormIdeal.nD Cert.NormIdeal.τ).loc Cert.NormIdeal.main_v23_3)) (v4 : (c : Dev Cert.NormIdeal.nD) → Buf (Elt Ideal) ((c.tc : Thread Cert.NormIdeal.nD Cert.NormIdeal.τ).loc Cert.NormIdeal.main_v23_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v23_0) = v0 c
          ∧ r.2.mem ((c.tc : Thread Cert.NormIdeal.nD Cert.NormIdeal.τ).loc Cert.NormIdeal.main_v23_1) = v1 c
          ∧ r.2.mem ((c.tc : Thread Cert.NormIdeal.nD Cert.NormIdeal.τ).loc Cert.NormIdeal.main_v23_2) = v2 c
          ∧ r.2.mem ((c.tc : Thread Cert.NormIdeal.nD Cert.NormIdeal.τ).loc Cert.NormIdeal.main_v23_3) = v3 c
          ∧ r.2.mem ((c.tc : Thread Cert.NormIdeal.nD Cert.NormIdeal.τ).loc Cert.NormIdeal.main_v23_4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v68) = v0 c
          ∧ r.2.mem ((c.tc : Thread Cert.NormRefIdeal.nD Cert.NormRefIdeal.τ).loc Cert.NormRefIdeal.main_v70) = v1 c
          ∧ r.2.mem ((c.tc : Thread Cert.NormRefIdeal.nD Cert.NormRefIdeal.τ).loc Cert.NormRefIdeal.main_v71) = v2 c
          ∧ r.2.mem ((c.tc : Thread Cert.NormRefIdeal.nD Cert.NormRefIdeal.τ).loc Cert.NormRefIdeal.main_v72) = v3 c
          ∧ r.2.mem ((c.tc : Thread Cert.NormRefIdeal.nD Cert.NormRefIdeal.τ).loc Cert.NormRefIdeal.main_v73) = v4 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v42_0)) (v1 : (c : Dev Cert.FfnIdeal.nD) → Buf (Elt Ideal) ((c.tc : Thread Cert.FfnIdeal.nD Cert.FfnIdeal.τ).loc Cert.FfnIdeal.main_v42_1)) (v2 : (c : Dev Cert.FfnIdeal.nD) → Buf (Elt Ideal) ((c.tc : Thread Cert.FfnIdeal.nD Cert.FfnIdeal.τ).loc Cert.FfnIdeal.main_v42_2)) (v3 : (c : Dev Cert.FfnIdeal.nD) → Buf (Elt Ideal) ((c.tc : Thread Cert.FfnIdeal.nD Cert.FfnIdeal.τ).loc Cert.FfnIdeal.main_v42_3)) (v4 : (c : Dev Cert.FfnIdeal.nD) → Buf (Elt Ideal) ((c.tc : Thread Cert.FfnIdeal.nD Cert.FfnIdeal.τ).loc Cert.FfnIdeal.main_v42_4)) (v5 : (c : Dev Cert.FfnIdeal.nD) → Buf (Elt Ideal) ((c.tc : Thread Cert.FfnIdeal.nD Cert.FfnIdeal.τ).loc Cert.FfnIdeal.main_v42_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v42_0) = v0 c
          ∧ r.2.mem ((c.tc : Thread Cert.FfnIdeal.nD Cert.FfnIdeal.τ).loc Cert.FfnIdeal.main_v42_1) = v1 c
          ∧ r.2.mem ((c.tc : Thread Cert.FfnIdeal.nD Cert.FfnIdeal.τ).loc Cert.FfnIdeal.main_v42_2) = v2 c
          ∧ r.2.mem ((c.tc : Thread Cert.FfnIdeal.nD Cert.FfnIdeal.τ).loc Cert.FfnIdeal.main_v42_3) = v3 c
          ∧ r.2.mem ((c.tc : Thread Cert.FfnIdeal.nD Cert.FfnIdeal.τ).loc Cert.FfnIdeal.main_v42_4) = v4 c
          ∧ r.2.mem ((c.tc : Thread Cert.FfnIdeal.nD Cert.FfnIdeal.τ).loc Cert.FfnIdeal.main_v42_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v90) = v0 c
          ∧ r.2.mem ((c.tc : Thread Cert.FfnRefIdeal.nD Cert.FfnRefIdeal.τ).loc Cert.FfnRefIdeal.main_v91) = v1 c
          ∧ r.2.mem ((c.tc : Thread Cert.FfnRefIdeal.nD Cert.FfnRefIdeal.τ).loc Cert.FfnRefIdeal.main_v92) = v2 c
          ∧ r.2.mem ((c.tc : Thread Cert.FfnRefIdeal.nD Cert.FfnRefIdeal.τ).loc Cert.FfnRefIdeal.main_v93) = v3 c
          ∧ r.2.mem ((c.tc : Thread Cert.FfnRefIdeal.nD Cert.FfnRefIdeal.τ).loc Cert.FfnRefIdeal.main_v94) = v4 c
          ∧ r.2.mem ((c.tc : Thread Cert.FfnRefIdeal.nD Cert.FfnRefIdeal.τ).loc Cert.FfnRefIdeal.main_v95) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v22_0)) (v1 : (c : Dev Cert.UpIdeal.nD) → Buf (Elt Ideal) ((c.tc : Thread Cert.UpIdeal.nD Cert.UpIdeal.τ).loc Cert.UpIdeal.main_v22_1)) (v2 : (c : Dev Cert.UpIdeal.nD) → Buf (Elt Ideal) ((c.tc : Thread Cert.UpIdeal.nD Cert.UpIdeal.τ).loc Cert.UpIdeal.main_v22_2)) (v3 : (c : Dev Cert.UpIdeal.nD) → Buf (Elt Ideal) ((c.tc : Thread Cert.UpIdeal.nD Cert.UpIdeal.τ).loc Cert.UpIdeal.main_v22_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v22_0) = v0 c
          ∧ r.2.mem ((c.tc : Thread Cert.UpIdeal.nD Cert.UpIdeal.τ).loc Cert.UpIdeal.main_v22_1) = v1 c
          ∧ r.2.mem ((c.tc : Thread Cert.UpIdeal.nD Cert.UpIdeal.τ).loc Cert.UpIdeal.main_v22_2) = v2 c
          ∧ r.2.mem ((c.tc : Thread Cert.UpIdeal.nD Cert.UpIdeal.τ).loc Cert.UpIdeal.main_v22_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v26) = v0 c
          ∧ r.2.mem ((c.tc : Thread Cert.UpRefIdeal.nD Cert.UpRefIdeal.τ).loc Cert.UpRefIdeal.main_v27) = v1 c
          ∧ r.2.mem ((c.tc : Thread Cert.UpRefIdeal.nD Cert.UpRefIdeal.τ).loc Cert.UpRefIdeal.main_v28) = v2 c
          ∧ r.2.mem ((c.tc : Thread Cert.UpRefIdeal.nD Cert.UpRefIdeal.τ).loc Cert.UpRefIdeal.main_v31) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v41_0)) (v1 : (c : Dev Cert.DownIdeal.nD) → Buf (Elt Ideal) ((c.tc : Thread Cert.DownIdeal.nD Cert.DownIdeal.τ).loc Cert.DownIdeal.main_v41_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v41_0) = v0 c
          ∧ r.2.mem ((c.tc : Thread Cert.DownIdeal.nD Cert.DownIdeal.τ).loc Cert.DownIdeal.main_v41_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v51) = v0 c
          ∧ r.2.mem ((c.tc : Thread Cert.DownRefIdeal.nD Cert.DownRefIdeal.τ).loc Cert.DownRefIdeal.main_v47) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v20_0)) (v1 : (c : Dev Cert.OutIdeal.nD) → Buf (Elt Ideal) ((c.tc : Thread Cert.OutIdeal.nD Cert.OutIdeal.τ).loc Cert.OutIdeal.main_v20_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v20_0) = v0 c
          ∧ r.2.mem ((c.tc : Thread Cert.OutIdeal.nD Cert.OutIdeal.τ).loc Cert.OutIdeal.main_v20_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v45) = v0 c
          ∧ r.2.mem ((c.tc : Thread Cert.OutRefIdeal.nD Cert.OutRefIdeal.τ).loc Cert.OutRefIdeal.main_v41) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v20_0)) (v1 : (c : Dev Cert.InIdeal.nD) → Buf (Elt Ideal) ((c.tc : Thread Cert.InIdeal.nD Cert.InIdeal.τ).loc Cert.InIdeal.main_v20_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v20_0) = v0 c
          ∧ r.2.mem ((c.tc : Thread Cert.InIdeal.nD Cert.InIdeal.τ).loc Cert.InIdeal.main_v20_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v25) = v0 c
          ∧ r.2.mem ((c.tc : Thread Cert.InRefIdeal.nD Cert.InRefIdeal.τ).loc Cert.InRefIdeal.main_v26) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Add_AddIdeal : Prop :=
  True

def algebraic_AddIdeal_AddRefIdeal [hAddIdeal : Cert.AddIdeal.Facts] [hAddRefIdeal : Cert.AddRefIdeal.Facts] : Prop :=
  ∀ (m : (ℓ : Loc Cert.AddIdeal.nD Cert.AddIdeal.τ Cert.AddIdeal.sig) → Buf (Elt Ideal) ℓ) (g : Dev Cert.AddIdeal.nD → PrngReg)
    (m' : (ℓ : Loc Cert.AddRefIdeal.nD Cert.AddRefIdeal.τ Cert.AddRefIdeal.sig) → Buf (Elt Ideal) ℓ) (g' : Dev Cert.AddRefIdeal.nD → PrngReg), Pre_AddIdeal m →
    (∀ c : Dev Cert.AddIdeal.nD,
      m' ((c.tc : Thread Cert.AddRefIdeal.nD Cert.AddRefIdeal.τ).loc Cert.AddRefIdeal.main_arg0) = m ((c.tc : Thread Cert.AddIdeal.nD Cert.AddIdeal.τ).loc Cert.AddIdeal.main_arg0)
      ∧ m' ((c.tc : Thread Cert.AddRefIdeal.nD Cert.AddRefIdeal.τ).loc Cert.AddRefIdeal.main_arg1) = m ((c.tc : Thread Cert.AddIdeal.nD Cert.AddIdeal.τ).loc Cert.AddIdeal.main_arg1)
      ∧ m' ((c.tc : Thread Cert.AddRefIdeal.nD Cert.AddRefIdeal.τ).loc Cert.AddRefIdeal.main_arg2) = m ((c.tc : Thread Cert.AddIdeal.nD Cert.AddIdeal.τ).loc Cert.AddIdeal.main_arg2)
      ∧ m' ((c.tc : Thread Cert.AddRefIdeal.nD Cert.AddRefIdeal.τ).loc Cert.AddRefIdeal.main_arg3) = m ((c.tc : Thread Cert.AddIdeal.nD Cert.AddIdeal.τ).loc Cert.AddIdeal.main_arg3)) →
    ∃ (v0 : (c : Dev Cert.AddIdeal.nD) → Buf (Elt Ideal) ((c.tc : Thread Cert.AddIdeal.nD Cert.AddIdeal.τ).loc Cert.AddIdeal.main_v3)),
      θ_run (Cert.AddIdeal.defs (F := Ideal)) (onTc (τ := Cert.AddIdeal.τ) (Cert.AddIdeal.main (F := Ideal))) ⟨m, fun _ => 0, g⟩ (fun r => ∀ c : Dev Cert.AddIdeal.nD,
          r.2.mem ((c.tc : Thread Cert.AddIdeal.nD Cert.AddIdeal.τ).loc Cert.AddIdeal.main_v3) = v0 c
          ∧ r.2.mem ((c.tc : Thread Cert.AddIdeal.nD Cert.AddIdeal.τ).loc Cert.AddIdeal.main_arg0) = m ((c.tc : Thread Cert.AddIdeal.nD Cert.AddIdeal.τ).loc Cert.AddIdeal.main_arg0)
          ∧ r.2.mem ((c.tc : Thread Cert.AddIdeal.nD Cert.AddIdeal.τ).loc Cert.AddIdeal.main_arg1) = m ((c.tc : Thread Cert.AddIdeal.nD Cert.AddIdeal.τ).loc Cert.AddIdeal.main_arg1)
          ∧ r.2.mem ((c.tc : Thread Cert.AddIdeal.nD Cert.AddIdeal.τ).loc Cert.AddIdeal.main_arg2) = m ((c.tc : Thread Cert.AddIdeal.nD Cert.AddIdeal.τ).loc Cert.AddIdeal.main_arg2)
          ∧ r.2.mem ((c.tc : Thread Cert.AddIdeal.nD Cert.AddIdeal.τ).loc Cert.AddIdeal.main_arg3) = m ((c.tc : Thread Cert.AddIdeal.nD Cert.AddIdeal.τ).loc Cert.AddIdeal.main_arg3))
      ∧ θ_run (Cert.AddRefIdeal.defs (F := Ideal)) (onTc (τ := Cert.AddRefIdeal.τ) (Cert.AddRefIdeal.main (F := Ideal))) ⟨m', fun _ => 0, g'⟩ (fun r => ∀ c : Dev Cert.AddRefIdeal.nD,
          r.2.mem ((c.tc : Thread Cert.AddRefIdeal.nD Cert.AddRefIdeal.τ).loc Cert.AddRefIdeal.main_v6) = v0 c
          ∧ r.2.mem ((c.tc : Thread Cert.AddRefIdeal.nD Cert.AddRefIdeal.τ).loc Cert.AddRefIdeal.main_arg0) = m' ((c.tc : Thread Cert.AddRefIdeal.nD Cert.AddRefIdeal.τ).loc Cert.AddRefIdeal.main_arg0)
          ∧ r.2.mem ((c.tc : Thread Cert.AddRefIdeal.nD Cert.AddRefIdeal.τ).loc Cert.AddRefIdeal.main_arg1) = m' ((c.tc : Thread Cert.AddRefIdeal.nD Cert.AddRefIdeal.τ).loc Cert.AddRefIdeal.main_arg1)
          ∧ r.2.mem ((c.tc : Thread Cert.AddRefIdeal.nD Cert.AddRefIdeal.τ).loc Cert.AddRefIdeal.main_arg2) = m' ((c.tc : Thread Cert.AddRefIdeal.nD Cert.AddRefIdeal.τ).loc Cert.AddRefIdeal.main_arg2)
          ∧ r.2.mem ((c.tc : Thread Cert.AddRefIdeal.nD Cert.AddRefIdeal.τ).loc Cert.AddRefIdeal.main_arg3) = m' ((c.tc : Thread Cert.AddRefIdeal.nD Cert.AddRefIdeal.τ).loc Cert.AddRefIdeal.main_arg3))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v47_3)) (v1 : (c : Dev Cert.MixIdeal.nD) → Buf (Elt Ideal) ((c.tc : Thread Cert.MixIdeal.nD Cert.MixIdeal.τ).loc Cert.MixIdeal.main_v47_4)) (v2 : (c : Dev Cert.MixIdeal.nD) → Buf (Elt Ideal) ((c.tc : Thread Cert.MixIdeal.nD Cert.MixIdeal.τ).loc Cert.MixIdeal.main_v47_5)) (v3 : (c : Dev Cert.MixIdeal.nD) → Buf (Elt Ideal) ((c.tc : Thread Cert.MixIdeal.nD Cert.MixIdeal.τ).loc Cert.MixIdeal.main_v47_6)) (v4 : (c : Dev Cert.MixIdeal.nD) → Buf (Elt Ideal) ((c.tc : Thread Cert.MixIdeal.nD Cert.MixIdeal.τ).loc Cert.MixIdeal.main_v47_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v47_3) = v0 c
          ∧ r.2.mem ((c.tc : Thread Cert.MixIdeal.nD Cert.MixIdeal.τ).loc Cert.MixIdeal.main_v47_4) = v1 c
          ∧ r.2.mem ((c.tc : Thread Cert.MixIdeal.nD Cert.MixIdeal.τ).loc Cert.MixIdeal.main_v47_5) = v2 c
          ∧ r.2.mem ((c.tc : Thread Cert.MixIdeal.nD Cert.MixIdeal.τ).loc Cert.MixIdeal.main_v47_6) = v3 c
          ∧ r.2.mem ((c.tc : Thread Cert.MixIdeal.nD Cert.MixIdeal.τ).loc Cert.MixIdeal.main_v47_7) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v126) = v0 c
          ∧ r.2.mem ((c.tc : Thread Cert.MixRefIdeal.nD Cert.MixRefIdeal.τ).loc Cert.MixRefIdeal.main_v128) = v1 c
          ∧ r.2.mem ((c.tc : Thread Cert.MixRefIdeal.nD Cert.MixRefIdeal.τ).loc Cert.MixRefIdeal.main_v129) = v2 c
          ∧ r.2.mem ((c.tc : Thread Cert.MixRefIdeal.nD Cert.MixRefIdeal.τ).loc Cert.MixRefIdeal.main_v130) = v3 c
          ∧ r.2.mem ((c.tc : Thread Cert.MixRefIdeal.nD Cert.MixRefIdeal.τ).loc Cert.MixRefIdeal.main_v131) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)) →
    ∃ (v0 : (c : Dev Cert.FwdIdeal.nD) → Buf (Elt Ideal) ((c.tc : Thread Cert.FwdIdeal.nD Cert.FwdIdeal.τ).loc Cert.FwdIdeal.main_v20_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v20_1) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v25) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)
      ∧ m' ((c.tc : Thread Cert.TnRefIdeal.nD Cert.TnRefIdeal.τ).loc Cert.TnRefIdeal.main_arg2) = m ((c.tc : Thread Cert.TnIdeal.nD Cert.TnIdeal.τ).loc Cert.TnIdeal.main_arg2)
      ∧ m' ((c.tc : Thread Cert.TnRefIdeal.nD Cert.TnRefIdeal.τ).loc Cert.TnRefIdeal.main_arg3) = m ((c.tc : Thread Cert.TnIdeal.nD Cert.TnIdeal.τ).loc Cert.TnIdeal.main_arg3)) →
    ∃ (v0 : (c : Dev Cert.TnIdeal.nD) → Buf (Elt Ideal) ((c.tc : Thread Cert.TnIdeal.nD Cert.TnIdeal.τ).loc Cert.TnIdeal.main_v3_0)) (v1 : (c : Dev Cert.TnIdeal.nD) → Buf (Elt Ideal) ((c.tc : Thread Cert.TnIdeal.nD Cert.TnIdeal.τ).loc Cert.TnIdeal.main_v3_1)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v3_0) = v0 c
          ∧ r.2.mem ((c.tc : Thread Cert.TnIdeal.nD Cert.TnIdeal.τ).loc Cert.TnIdeal.main_v3_1) = v1 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
          ∧ r.2.mem ((c.tc : Thread Cert.TnIdeal.nD Cert.TnIdeal.τ).loc Cert.TnIdeal.main_arg2) = m ((c.tc : Thread Cert.TnIdeal.nD Cert.TnIdeal.τ).loc Cert.TnIdeal.main_arg2)
          ∧ r.2.mem ((c.tc : Thread Cert.TnIdeal.nD Cert.TnIdeal.τ).loc Cert.TnIdeal.main_arg3) = m ((c.tc : Thread Cert.TnIdeal.nD Cert.TnIdeal.τ).loc Cert.TnIdeal.main_arg3))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v4) = v0 c
          ∧ r.2.mem ((c.tc : Thread Cert.TnRefIdeal.nD Cert.TnRefIdeal.τ).loc Cert.TnRefIdeal.main_v6) = v1 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1)
          ∧ r.2.mem ((c.tc : Thread Cert.TnRefIdeal.nD Cert.TnRefIdeal.τ).loc Cert.TnRefIdeal.main_arg2) = m' ((c.tc : Thread Cert.TnRefIdeal.nD Cert.TnRefIdeal.τ).loc Cert.TnRefIdeal.main_arg2)
          ∧ r.2.mem ((c.tc : Thread Cert.TnRefIdeal.nD Cert.TnRefIdeal.τ).loc Cert.TnRefIdeal.main_arg3) = m' ((c.tc : Thread Cert.TnRefIdeal.nD Cert.TnRefIdeal.τ).loc Cert.TnRefIdeal.main_arg3))

def preserves_Parts_PartsIdeal : Prop :=
  True

def algebraic_PartsIdeal_PartsRefIdeal [hPartsIdeal : Cert.PartsIdeal.Facts] [hPartsRefIdeal : Cert.PartsRefIdeal.Facts] : Prop :=
  ∀ (m : (ℓ : Loc Cert.PartsIdeal.nD Cert.PartsIdeal.τ Cert.PartsIdeal.sig) → Buf (Elt Ideal) ℓ) (g : Dev Cert.PartsIdeal.nD → PrngReg)
    (m' : (ℓ : Loc Cert.PartsRefIdeal.nD Cert.PartsRefIdeal.τ Cert.PartsRefIdeal.sig) → Buf (Elt Ideal) ℓ) (g' : Dev Cert.PartsRefIdeal.nD → PrngReg), Pre_PartsIdeal m →
    (∀ c : Dev Cert.PartsIdeal.nD,
      m' ((c.tc : Thread Cert.PartsRefIdeal.nD Cert.PartsRefIdeal.τ).loc Cert.PartsRefIdeal.main_arg0) = m ((c.tc : Thread Cert.PartsIdeal.nD Cert.PartsIdeal.τ).loc Cert.PartsIdeal.main_arg0)
      ∧ m' ((c.tc : Thread Cert.PartsRefIdeal.nD Cert.PartsRefIdeal.τ).loc Cert.PartsRefIdeal.main_arg1) = m ((c.tc : Thread Cert.PartsIdeal.nD Cert.PartsIdeal.τ).loc Cert.PartsIdeal.main_arg1)) →
    ∃ (v0 : (c : Dev Cert.PartsIdeal.nD) → Buf (Elt Ideal) ((c.tc : Thread Cert.PartsIdeal.nD Cert.PartsIdeal.τ).loc Cert.PartsIdeal.main_v1)),
      θ_run (Cert.PartsIdeal.defs (F := Ideal)) (onTc (τ := Cert.PartsIdeal.τ) (Cert.PartsIdeal.main (F := Ideal))) ⟨m, fun _ => 0, g⟩ (fun r => ∀ c : Dev Cert.PartsIdeal.nD,
          r.2.mem ((c.tc : Thread Cert.PartsIdeal.nD Cert.PartsIdeal.τ).loc Cert.PartsIdeal.main_v1) = v0 c
          ∧ r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
          ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1))
      ∧ θ_run (Cert.PartsRefIdeal.defs (F := Ideal)) (onTc (τ := Cert.PartsRefIdeal.τ) (Cert.PartsRefIdeal.main (F := Ideal))) ⟨m', fun _ => 0, g'⟩ (fun r => ∀ c : Dev Cert.PartsRefIdeal.nD,
          r.2.mem ((c.tc : Thread Cert.PartsRefIdeal.nD Cert.PartsRefIdeal.τ).loc Cert.PartsRefIdeal.main_v1) = v0 c
          ∧ r.2.mem ((c.tc : Thread Cert.PartsRefIdeal.nD Cert.PartsRefIdeal.τ).loc Cert.PartsRefIdeal.main_arg0) = m' ((c.tc : Thread Cert.PartsRefIdeal.nD Cert.PartsRefIdeal.τ).loc Cert.PartsRefIdeal.main_arg0)
          ∧ r.2.mem ((c.tc : Thread Cert.PartsRefIdeal.nD Cert.PartsRefIdeal.τ).loc Cert.PartsRefIdeal.main_arg1) = m' ((c.tc : Thread Cert.PartsRefIdeal.nD Cert.PartsRefIdeal.τ).loc Cert.PartsRefIdeal.main_arg1))

def preserves_Gathered_GatheredIdeal : Prop :=
  True

def algebraic_GatheredIdeal_GatheredRefIdeal [hGatheredIdeal : Cert.GatheredIdeal.Facts] [hGatheredRefIdeal : Cert.GatheredRefIdeal.Facts] : Prop :=
  ∀ (m : (ℓ : Loc Cert.GatheredIdeal.nD Cert.GatheredIdeal.τ Cert.GatheredIdeal.sig) → Buf (Elt Ideal) ℓ) (g : Dev Cert.GatheredIdeal.nD → PrngReg)
    (m' : (ℓ : Loc Cert.GatheredRefIdeal.nD Cert.GatheredRefIdeal.τ Cert.GatheredRefIdeal.sig) → Buf (Elt Ideal) ℓ) (g' : Dev Cert.GatheredRefIdeal.nD → PrngReg), Pre_GatheredIdeal m →
    (∀ c : Dev Cert.GatheredIdeal.nD,
      m' ((c.tc : Thread Cert.GatheredRefIdeal.nD Cert.GatheredRefIdeal.τ).loc Cert.GatheredRefIdeal.main_arg0) = m ((c.tc : Thread Cert.GatheredIdeal.nD Cert.GatheredIdeal.τ).loc Cert.GatheredIdeal.main_arg0)) →
    ∃ (v0 : (c : Dev Cert.GatheredIdeal.nD) → Buf (Elt Ideal) ((c.tc : Thread Cert.GatheredIdeal.nD Cert.GatheredIdeal.τ).loc Cert.GatheredIdeal.main_v0)),
      θ_run (Cert.GatheredIdeal.defs (F := Ideal)) (onTc (τ := Cert.GatheredIdeal.τ) (Cert.GatheredIdeal.main (F := Ideal))) ⟨m, fun _ => 0, g⟩ (fun r => ∀ c : Dev Cert.GatheredIdeal.nD,
          r.2.mem ((c.tc : Thread Cert.GatheredIdeal.nD Cert.GatheredIdeal.τ).loc Cert.GatheredIdeal.main_v0) = v0 c
          ∧ r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0))
      ∧ θ_run (Cert.GatheredRefIdeal.defs (F := Ideal)) (onTc (τ := Cert.GatheredRefIdeal.τ) (Cert.GatheredRefIdeal.main (F := Ideal))) ⟨m', fun _ => 0, g'⟩ (fun r => ∀ c : Dev Cert.GatheredRefIdeal.nD,
          r.2.mem ((c.tc : Thread Cert.GatheredRefIdeal.nD Cert.GatheredRefIdeal.τ).loc Cert.GatheredRefIdeal.main_v0) = v0 c
          ∧ r.2.mem ((c.tc : Thread Cert.GatheredRefIdeal.nD Cert.GatheredRefIdeal.τ).loc Cert.GatheredRefIdeal.main_arg0) = m' ((c.tc : Thread Cert.GatheredRefIdeal.nD Cert.GatheredRefIdeal.τ).loc Cert.GatheredRefIdeal.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hAdd : Cert.Add.Facts) (hAddIdeal : Cert.AddIdeal.Facts) (hAddRefIdeal : Cert.AddRefIdeal.Facts) (hMix : Cert.Mix.Facts) (hMixIdeal : Cert.MixIdeal.Facts) (hMixRefIdeal : Cert.MixRefIdeal.Facts) (hFwd : Cert.Fwd.Facts) (hFwdIdeal : Cert.FwdIdeal.Facts) (hFwdRefIdeal : Cert.FwdRefIdeal.Facts) (hTn : Cert.Tn.Facts) (hTnIdeal : Cert.TnIdeal.Facts) (hTnRefIdeal : Cert.TnRefIdeal.Facts) (hParts : Cert.Parts.Facts) (hPartsIdeal : Cert.PartsIdeal.Facts) (hPartsRefIdeal : Cert.PartsRefIdeal.Facts) (hGathered : Cert.Gathered.Facts) (hGatheredIdeal : Cert.GatheredIdeal.Facts) (hGatheredRefIdeal : Cert.GatheredRefIdeal.Facts) (hAdam : Cert.Adam.Facts) (hAdamIdeal : Cert.AdamIdeal.Facts) (hAdamRefIdeal : Cert.AdamRefIdeal.Facts) (hPre_norm_finite : Cert.Pre_norm_finite.Facts) (hPre_ffn_finite : Cert.Pre_ffn_finite.Facts) (hPre_mix_finite : Cert.Pre_mix_finite.Facts),
    quiescent_Loss (hLoss := hLoss)
    ∧ quiescent_LossIdeal (hLossIdeal := hLossIdeal)
    ∧ quiescent_LossRefIdeal (hLossRefIdeal := hLossRefIdeal)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Add (hAdd := hAdd)
    ∧ quiescent_AddIdeal (hAddIdeal := hAddIdeal)
    ∧ quiescent_AddRefIdeal (hAddRefIdeal := hAddRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Fwd (hFwd := hFwd)
    ∧ quiescent_FwdIdeal (hFwdIdeal := hFwdIdeal)
    ∧ quiescent_FwdRefIdeal (hFwdRefIdeal := hFwdRefIdeal)
    ∧ quiescent_Tn (hTn := hTn)
    ∧ quiescent_TnIdeal (hTnIdeal := hTnIdeal)
    ∧ quiescent_TnRefIdeal (hTnRefIdeal := hTnRefIdeal)
    ∧ quiescent_Parts (hParts := hParts)
    ∧ quiescent_PartsIdeal (hPartsIdeal := hPartsIdeal)
    ∧ quiescent_PartsRefIdeal (hPartsRefIdeal := hPartsRefIdeal)
    ∧ quiescent_Gathered (hGathered := hGathered)
    ∧ quiescent_GatheredIdeal (hGatheredIdeal := hGatheredIdeal)
    ∧ quiescent_GatheredRefIdeal (hGatheredRefIdeal := hGatheredRefIdeal)
    ∧ quiescent_Adam (hAdam := hAdam)
    ∧ quiescent_AdamIdeal (hAdamIdeal := hAdamIdeal)
    ∧ quiescent_AdamRefIdeal (hAdamRefIdeal := hAdamRefIdeal)
    ∧ preserves_Loss_LossIdeal
    ∧ algebraic_LossIdeal_LossRefIdeal (hLossIdeal := hLossIdeal) (hLossRefIdeal := hLossRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Add_AddIdeal
    ∧ algebraic_AddIdeal_AddRefIdeal (hAddIdeal := hAddIdeal) (hAddRefIdeal := hAddRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Fwd_FwdIdeal
    ∧ algebraic_FwdIdeal_FwdRefIdeal (hFwdIdeal := hFwdIdeal) (hFwdRefIdeal := hFwdRefIdeal)
    ∧ preserves_Tn_TnIdeal
    ∧ algebraic_TnIdeal_TnRefIdeal (hTnIdeal := hTnIdeal) (hTnRefIdeal := hTnRefIdeal)
    ∧ preserves_Parts_PartsIdeal
    ∧ algebraic_PartsIdeal_PartsRefIdeal (hPartsIdeal := hPartsIdeal) (hPartsRefIdeal := hPartsRefIdeal)
    ∧ preserves_Gathered_GatheredIdeal
    ∧ algebraic_GatheredIdeal_GatheredRefIdeal (hGatheredIdeal := hGatheredIdeal) (hGatheredRefIdeal := hGatheredRefIdeal)
    ∧ preserves_Adam_AdamIdeal
    ∧ algebraic_AdamIdeal_AdamRefIdeal (hAdamIdeal := hAdamIdeal) (hAdamRefIdeal := hAdamRefIdeal)
-- ==== Pre_ffn_finite.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S16384x1024 .f32) : IVec S16384x1024 1 × IVec S1024x2816 1 × IVec S1024x2816 1 × IVec S2816x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S16384x1024 .f32 := Host.absf main_arg6
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_mix_finite.lean ====
abbrev S16384x2176 : Shape := ⟨2, ![16384, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S16384x1024 : Shape := ⟨2, ![16384, 1024]⟩
abbrev S_ : Shape := ⟨0, ![]⟩

class Facts : Prop where
  bcast_S_S16384x2176 : S_.BroadcastsInDim S16384x2176 (![] : Fin 0 → Fin S16384x2176.rank)
  bcast_S_S31x384 : S_.BroadcastsInDim S31x384 (![] : Fin 0 → Fin S31x384.rank)
  bcast_S_S384 : S_.BroadcastsInDim S384 (![] : Fin 0 → Fin S384.rank)
  bcast_S_S16384x1024 : S_.BroadcastsInDim S16384x1024 (![] : Fin 0 → Fin S16384x1024.rank)

variable [Facts]

def fn {F : FTy → Type} [FloatOps F] (main_arg0 : FVec F S16384x2176 .f32) (main_arg1 : FVec F S4x64x64 .f32) (main_arg2 : FVec F S256 .f32) (main_arg3 : FVec F S3x384 .f32) (main_arg4 : FVec F S31x384 .f32) (main_arg5 : FVec F S384 .f32) (main_arg6 : FVec F S384 .f32) (main_arg7 : FVec F S384 .f32) (main_arg8 : FVec F S16384x1024 .f32) : IVec S16384x2176 1 × IVec S31x384 1 × IVec S384 1 × IVec S384 1 × IVec S384 1 × IVec S16384x1024 1 :=
  let main_v0 : FVec F S16384x2176 .f32 := Host.absf main_arg0
  let main_cst : FVec F S_ .f32 := constant S_ .f32 0x7F800000#32
  let main_v1 : FVec F S16384x2176 .f32 := broadcastInDim S16384x2176 ![] bcast_S_S16384x2176 main_cst
  let main_v2 : IVec S16384x2176 1 := cmpf .olt main_v0 main_v1
  let main_v3 : FVec F S31x384 .f32 := Host.absf main_arg4
  let main_cst_0 : FVec F S_ .f32 := constant S_ .f32 0x7F800000#32
  let main_v4 : FVec F S31x384 .f32 := broadcastInDim S31x384 ![] bcast_S_S31x384 main_cst_0
  let main_v5 : IVec S31x384 1 := cmpf .olt main_v3 main_v4
  let main_v6 : FVec F S384 .f32 := Host.absf main_arg5
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S384 .f32 := Host.absf main_arg6
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384 .f32 := Host.absf main_arg7
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S16384x1024 .f32 := Host.absf main_arg8
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_norm_finite.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024 .f32) (main_arg5 : FVec F S16384x1024 .f32) : IVec S16384x1024 1 × IVec S16384x1024 1 × IVec S1024x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S16384x1024 .f32 := Host.absf main_arg5
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Loss.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩
abbrev S512x1024 : Shape := ⟨2, ![512, 1024]⟩
abbrev S1 : Shape := ⟨1, ![1]⟩

abbrev nBuf : Space → Nat
  | .hbm => 29
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S_, .f32⟩
  | .hbm, ⟨61, _⟩ => ⟨S1x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Norm.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1 : Shape := ⟨2, ![1024, 1]⟩
abbrev S256x1024 : Shape := ⟨2, ![256, 1024]⟩
abbrev S256x1 : Shape := ⟨2, ![256, 1]⟩
abbrev S256 : Shape := ⟨1, ![256]⟩

abbrev nBuf : Space → Nat
  | .hbm => 40
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .bf16⟩
  | .hbm, ⟨37, _⟩ => ⟨S16384x1024, .bf16⟩
  | .hbm, ⟨38, _⟩ => ⟨S1x1024, .f32⟩
  | .hbm, ⟨39, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x1024, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .bf16⟩
  | .hbm, ⟨97, _⟩ => ⟨S16384x1024, .bf16⟩
  | .hbm, ⟨98, _⟩ => ⟨S1x1024, .f32⟩
  | .hbm, ⟨99, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S256x1024 : Shape := ⟨2, ![256, 1024]⟩
abbrev S256x1 : Shape := ⟨2, ![256, 1]⟩
abbrev S256x2816 : Shape := ⟨2, ![256, 2816]⟩
abbrev S256 : Shape := ⟨1, ![256]⟩
abbrev S256x256 : Shape := ⟨2, ![256, 256]⟩

abbrev nBuf : Space → Nat
  | .hbm => 64
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1024, .bf16⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .bf16⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x2816, .bf16⟩
  | .hbm, ⟨57, _⟩ => ⟨S16384x2816, .bf16⟩
  | .hbm, ⟨58, _⟩ => ⟨S16384x1024, .f32⟩
  | .hbm, ⟨59, _⟩ => ⟨S16384x1024, .bf16⟩
  | .hbm, ⟨60, _⟩ => ⟨S16384x2816, .bf16⟩
  | .hbm, ⟨61, _⟩ => ⟨S16384x2816, .bf16⟩
  | .hbm, ⟨62, _⟩ => ⟨S1x1024, .f32⟩
  | .hbm, ⟨63, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S2816x1024, .bf16⟩
  | .local _ .vmem, ⟨8, _⟩ => ⟨S2816x1024, .bf16⟩
  | .local _ .vmem, ⟨9, _⟩ => ⟨S2816x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | .local _ .vmem, ⟨23, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v42_4 : Ref sig .tc := ⟨.hbm, 62, rfl⟩
abbrev main_v42_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 143
  | .vmem => 0
  | .smem => 0
  | _ => 0

abbrev hbmTy0_0 (i : Nat) : BufTy := match i % 128 with
  | 0 => ⟨S16384x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S16384x1024, .f32⟩
  | 7 => ⟨S_, .f32⟩
  | 8 => ⟨S16384x1024, .f32⟩
  | 9 => ⟨S_, .f32⟩
  | 10 => ⟨S16384x2816, .f32⟩
  | 11 => ⟨S_, .f32⟩
  | 12 => ⟨S16384x2816, .f32⟩
  | 13 => ⟨S16384x2816, .f32⟩
  | 14 => ⟨S16384x2816, .f32⟩
  | 15 => ⟨S16384x2816, .f32⟩
  | 16 => ⟨S16384x2816, .f32⟩
  | 17 => ⟨S_, .f32⟩
  | 18 => ⟨S16384x2816, .f32⟩
  | 19 => ⟨S16384x2816, .f32⟩
  | 20 => ⟨S_, .f32⟩
  | 21 => ⟨S16384x2816, .f32⟩
  | 22 => ⟨S16384x2816, .f32⟩
  | 23 => ⟨S_, .f32⟩
  | 24 => ⟨S16384x2816, .f32⟩
  | 25 => ⟨S16384x2816, .f32⟩
  | 26 => ⟨S16384x2816, .f32⟩
  | 27 => ⟨S16384x2816, .f32⟩
  | 28 => ⟨S16384x2816, .f32⟩
  | 29 => ⟨S16384x2816, .f32⟩
  | 30 => ⟨S16384x2816, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S16384x1024, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x1024, .f32⟩
  | 59 => ⟨S16384x1024, .f32⟩
  | 60 => ⟨S_, .f32⟩
  | 61 => ⟨S16384x1, .f32⟩
  | 62 => ⟨S16384x1, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | 76 => ⟨S16384x1024, .f32⟩
  | 77 => ⟨S_, .f32⟩
  | 78 => ⟨S1024, .f32⟩
  | 79 => ⟨S1x1024, .f32⟩
  | 80 => ⟨S_, .f32⟩
  | 81 => ⟨S1024, .f32⟩
  | 82 => ⟨S16384x1024, .f32⟩
  | 83 => ⟨S_, .f32⟩
  | 84 => ⟨S1024, .f32⟩
  | 85 => ⟨S1x1024, .f32⟩
  | 86 => ⟨S16384x1024, .f32⟩
  | 87 => ⟨S16384x1024, .f32⟩
  | 88 => ⟨S_, .f32⟩
  | 89 => ⟨S1024, .f32⟩
  | 90 => ⟨S16384x1024, .f32⟩
  | 91 => ⟨S_, .f32⟩
  | 92 => ⟨S16384, .f32⟩
  | 93 => ⟨S16384x1, .f32⟩
  | 94 => ⟨S16384x1024, .f32⟩
  | 95 => ⟨S16384x1024, .f32⟩
  | 96 => ⟨S16384x1, .f32⟩
  | 97 => ⟨S16384x1024, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384, .f32⟩
  | 106 => ⟨S16384x1024, .f32⟩
  | 107 => ⟨S16384x1024, .f32⟩
  | 108 => ⟨S16384x1024, .f32⟩
  | 109 => ⟨S_, .f32⟩
  | 110 => ⟨S16384, .f32⟩
  | 111 => ⟨S16384x1, .f32⟩
  | 112 => ⟨S16384x1024, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384, .f32⟩
  | 119 => ⟨S16384x1024, .f32⟩
  | 120 => ⟨S16384x1024, .f32⟩
  | 121 => ⟨S_, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x1024, .f32⟩
  | 3 => ⟨S16384x1024, .f32⟩
  | 4 => ⟨S16384x2816, .f32⟩
  | 5 => ⟨S16384x2816, .f32⟩
  | 6 => ⟨S16384x2816, .f32⟩
  | 7 => ⟨S16384x2816, .f32⟩
  | 8 => ⟨S16384x1024, .f32⟩
  | 9 => ⟨S16384x1024, .f32⟩
  | 10 => ⟨S16384x1024, .bf16⟩
  | 11 => ⟨S16384x2816, .bf16⟩
  | 12 => ⟨S16384x2816, .bf16⟩
  | 13 => ⟨S1x1024, .f32⟩
  | 14 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v5_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v5_1 : Ref sig .tc := ⟨.hbm, 26, rfl⟩
abbrev main_v5_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_v17 : Ref sig .tc := ⟨.hbm, 42, rfl⟩
abbrev main_cst_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_19 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_22 : Ref sig .tc := ⟨.hbm, 121, rfl⟩
abbrev main_v79 : Ref sig .tc := ⟨.hbm, 122, rfl⟩
abbrev main_v80 : Ref sig .tc := ⟨.hbm, 123, rfl⟩
abbrev main_cst_23 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩

abbrev nD : Nat := 1
abbrev τ : Topo := Topo.v7x

variable {F : FTy → Type} [FloatOps F]
-- ==== Up.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 36
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S1x1024, .f32⟩
  | .hbm, ⟨28, _⟩ => ⟨S2816x1024, .f32⟩
  | .hbm, ⟨29, _⟩ => ⟨S2816x1024, .bf16⟩
  | .hbm, ⟨30, _⟩ => ⟨S2816x1024, .f32⟩
  | .hbm, ⟨31, _⟩ => ⟨S2816x1024, .bf16⟩
  | .hbm, ⟨32, _⟩ => ⟨S16384x1024, .bf16⟩
  | .hbm, ⟨33, _⟩ => ⟨S16384x2816, .bf16⟩
  | .hbm, ⟨34, _⟩ => ⟨S16384x2816, .bf16⟩
  | .hbm, ⟨35, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2816x1024, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpRefIdeal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x2816, .f32⟩
  | .hbm, ⟨35, _⟩ => ⟨S16384x2816, .f32⟩
  | .hbm, ⟨36, _⟩ => ⟨S16384x1024, .bf16⟩
  | .hbm, ⟨37, _⟩ => ⟨S16384x2816, .bf16⟩
  | .hbm, ⟨38, _⟩ => ⟨S16384x2816, .bf16⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Down.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1024x1024 : Shape := ⟨2, ![1024, 1024]⟩
abbrev S1024x1 : Shape := ⟨2, ![1024, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 56
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S2816x1024, .f32⟩
  | .hbm, ⟨35, _⟩ => ⟨S2816x1024, .bf16⟩
  | .hbm, ⟨36, _⟩ => ⟨S16384x2816, .f32⟩
  | .hbm, ⟨37, _⟩ => ⟨S2816x1024, .f32⟩
  | .hbm, ⟨38, _⟩ => ⟨S2816x1024, .bf16⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .bf16⟩
  | .hbm, ⟨51, _⟩ => ⟨S2816x1024, .bf16⟩
  | .hbm, ⟨52, _⟩ => ⟨S1x1024, .f32⟩
  | .hbm, ⟨53, _⟩ => ⟨S1x1024, .f32⟩
  | .hbm, ⟨54, _⟩ => ⟨S16384x1024, .f32⟩
  | .hbm, ⟨55, _⟩ => ⟨S16384x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Out.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1 : Shape := ⟨2, ![1024, 1]⟩
abbrev S256x1024 : Shape := ⟨2, ![256, 1024]⟩
abbrev S256 : Shape := ⟨1, ![256]⟩
abbrev S256x1 : Shape := ⟨2, ![256, 1]⟩

abbrev nBuf : Space → Nat
  | .hbm => 32
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S1024x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S1024x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== In.lean ====
abbrev S16384x1024 : Shape := ⟨2, ![16384, 1024]⟩
abbrev S1024 : Shape := ⟨1, ![1024]⟩
abbrev S1024x2176 : Shape := ⟨2, ![1024, 2176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2176x1024 : Shape := ⟨2, ![2176, 1024]⟩
abbrev S16384x2176 : Shape := ⟨2, ![16384, 2176]⟩
abbrev S1024x1024 : Shape := ⟨2, ![1024, 1024]⟩
abbrev S256x1024 : Shape := ⟨2, ![256, 1024]⟩
abbrev S256x2176 : Shape := ⟨2, ![256, 2176]⟩

abbrev nBuf : Space → Nat
  | .hbm => 31
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2176, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1x1024, .f32⟩
  | .hbm, ⟨27, _⟩ => ⟨S2176x1024, .f32⟩
  | .hbm, ⟨28, _⟩ => ⟨S2176x1024, .bf16⟩
  | .hbm, ⟨29, _⟩ => ⟨S16384x2176, .bf16⟩
  | .hbm, ⟨30, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S2176x1024, .bf16⟩
  | .local _ .vmem, ⟨5, _⟩ => ⟨S1024x2176, .bf16⟩
  | .local _ .vmem, ⟨6, _⟩ => ⟨S1024x2176, .bf16⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InRefIdeal.lean ====
abbrev S16384x1024 : Shape := ⟨2, ![16384, 1024]⟩
abbrev S1024 : Shape := ⟨1, ![1024]⟩
abbrev S1024x2176 : Shape := ⟨2, ![1024, 2176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2176 : Shape := ⟨2, ![16384, 2176]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2176, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x2176, .f32⟩
  | .hbm, ⟨34, _⟩ => ⟨S16384x2176, .bf16⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Add.lean ====
abbrev S16384x1024 : Shape := ⟨2, ![16384, 1024]⟩
abbrev S1024x2176 : Shape := ⟨2, ![1024, 2176]⟩
abbrev S16384x2176 : Shape := ⟨2, ![16384, 2176]⟩
abbrev S2176x1024 : Shape := ⟨2, ![2176, 1024]⟩
abbrev S1024x1024 : Shape := ⟨2, ![1024, 1024]⟩
abbrev S256x2176 : Shape := ⟨2, ![256, 2176]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2176, .f32⟩
  | .hbm, ⟨2, _⟩ => ⟨S16384x1024, .f32⟩
  | .hbm, ⟨3, _⟩ => ⟨S16384x2176, .f32⟩
  | .hbm, ⟨4, _⟩ => ⟨S16384x2176, .bf16⟩
  | .hbm, ⟨5, _⟩ => ⟨S2176x1024, .f32⟩
  | .hbm, ⟨6, _⟩ => ⟨S2176x1024, .bf16⟩
  | .hbm, ⟨7, _⟩ => ⟨S16384x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AddRefIdeal.lean ====
abbrev S16384x1024 : Shape := ⟨2, ![16384, 1024]⟩
abbrev S1024x2176 : Shape := ⟨2, ![1024, 2176]⟩
abbrev S16384x2176 : Shape := ⟨2, ![16384, 2176]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2176, .f32⟩
  | .hbm, ⟨2, _⟩ => ⟨S16384x1024, .f32⟩
  | .hbm, ⟨3, _⟩ => ⟨S16384x2176, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x2176, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Mix.lean ====
abbrev S16384x2176 : Shape := ⟨2, ![16384, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S16384x1024 : Shape := ⟨2, ![16384, 1024]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S8x384 : Shape := ⟨2, ![8, 384]⟩
abbrev S32x384 : Shape := ⟨2, ![32, 384]⟩
abbrev S16384x384 : Shape := ⟨2, ![16384, 384]⟩
abbrev S15x384 : Shape := ⟨2, ![15, 384]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16414x384 : Shape := ⟨2, ![16414, 384]⟩
abbrev S16384x31x1 : Shape := ⟨3, ![16384, 31, 1]⟩
abbrev S16384x31x384 : Shape := ⟨3, ![16384, 31, 384]⟩
abbrev S1x31x384 : Shape := ⟨3, ![1, 31, 384]⟩
abbrev S1x384 : Shape := ⟨2, ![1, 384]⟩
abbrev S1x256 : Shape := ⟨2, ![1, 256]⟩
abbrev S32x2176 : Shape := ⟨2, ![32, 2176]⟩
abbrev S512x2176 : Shape := ⟨2, ![512, 2176]⟩
abbrev S32x1024 : Shape := ⟨2, ![32, 1024]⟩
abbrev S512x1024 : Shape := ⟨2, ![512, 1024]⟩
abbrev S512x384 : Shape := ⟨2, ![512, 384]⟩
abbrev S576x2176 : Shape := ⟨2, ![576, 2176]⟩
abbrev S576x1024 : Shape := ⟨2, ![576, 1024]⟩
abbrev S576x384 : Shape := ⟨2, ![576, 384]⟩
abbrev S8x584x384 : Shape := ⟨3, ![8, 584, 384]⟩
abbrev S576x256 : Shape := ⟨2, ![576, 256]⟩
abbrev S1x576x384 : Shape := ⟨3, ![1, 576, 384]⟩
abbrev S1x8x384 : Shape := ⟨3, ![1, 8, 384]⟩
abbrev S64x384 : Shape := ⟨2, ![64, 384]⟩
abbrev S64 : Shape := ⟨1, ![64]⟩
abbrev S64x1 : Shape := ⟨2, ![64, 1]⟩
abbrev S1x64x384 : Shape := ⟨3, ![1, 64, 384]⟩
abbrev S1x80x384 : Shape := ⟨3, ![1, 80, 384]⟩
abbrev S80x384 : Shape := ⟨2, ![80, 384]⟩
abbrev S1x88x384 : Shape := ⟨3, ![1, 88, 384]⟩
abbrev S88x384 : Shape := ⟨2, ![88, 384]⟩
abbrev S1x512x384 : Shape := ⟨3, ![1, 512, 384]⟩
abbrev S512x256 : Shape := ⟨2, ![512, 256]⟩
abbrev S560x256 : Shape := ⟨2, ![560, 256]⟩
abbrev S544x256 : Shape := ⟨2, ![544, 256]⟩
abbrev S528x256 : Shape := ⟨2, ![528, 256]⟩

abbrev nBuf : Space → Nat
  | .hbm => 74
  | .vmem => 46
  | .smem => 0
  | _ => 0

abbrev bufTy : (tb : Table) → Fin (tcTables nBuf tb) → BufTy
  | .hbm, ⟨0, _⟩ => ⟨S16384x2176, .f32⟩
  | .hbm, ⟨1, _⟩ => ⟨S4x64x64, .f32⟩
  | .hbm, ⟨2, _⟩ => ⟨S256, .f32⟩
  | .hbm, ⟨3, _⟩ => ⟨S3x384, .f32⟩
  | .hbm, ⟨4, _⟩ => ⟨S31x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S16384x1024, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x64x1x64, .f32⟩
  | .hbm, ⟨17, _⟩ => ⟨S4x1x4x1, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S_, .i32⟩
  | .hbm, ⟨24, _⟩ => ⟨S_, .f32⟩
  | .hbm, ⟨25, _⟩ => ⟨S8x384, .f32⟩
  | .hbm, ⟨26, _⟩ => ⟨S_, .i32⟩
  | .hbm, ⟨27, _⟩ => ⟨S_, .f32⟩
  | .hbm, ⟨28, _⟩ => ⟨S32x384, .f32⟩
  | .hbm, ⟨29, _⟩ => ⟨S16384x2176, .bf16⟩
  | .hbm, ⟨30, _⟩ => ⟨S16384x384, .f32⟩
  | .hbm, ⟨31, _⟩ => ⟨S16384x384, .f32⟩
  | .hbm, ⟨32, _⟩ => ⟨S16384x384, .f32⟩
  | .hbm, ⟨33, _⟩ => ⟨S16384x384, .f32⟩
  | .hbm, ⟨34, _⟩ => ⟨S_, .f32⟩
  | .hbm, ⟨35, _⟩ => ⟨S16384x384, .f32⟩
  | .hbm, ⟨36, _⟩ => ⟨S16384x384, .f32⟩
  | .hbm, ⟨37, _⟩ => ⟨S_, .f32⟩
  | .hbm, ⟨38, _⟩ => ⟨S16384x384, .f32⟩
  | .hbm, ⟨39, _⟩ => ⟨S16384x384, .f32⟩
  | .hbm, ⟨40, _⟩ => ⟨S16384x384, .f32⟩
  | .hbm, ⟨41, _⟩ => ⟨S_, .f32⟩
  | .hbm, ⟨42, _⟩ => ⟨S15x384, .f32⟩
  | .hbm, ⟨43, _⟩ => ⟨S16384, .i32⟩
  | .hbm, ⟨44, _⟩ => ⟨S16384x1, .i32⟩
  | .hbm, ⟨45, _⟩ => ⟨S31, .i32⟩
  | .hbm, ⟨46, _⟩ => ⟨S1x31, .i32⟩
  | .hbm, ⟨47, _⟩ => ⟨S16384x31, .i32⟩
  | .hbm, ⟨48, _⟩ => ⟨S16384x31, .i32⟩
  | .hbm, ⟨49, _⟩ => ⟨S16384x31, .i32⟩
  | .hbm, ⟨50, _⟩ => ⟨S16414x384, .f32⟩
  | .hbm, ⟨51, _⟩ => ⟨S16384x31x1, .i32⟩
  | .hbm, ⟨52, _⟩ => ⟨S16384x31x384, .f32⟩
  | .hbm, ⟨53, _⟩ => ⟨S1x31x384, .f32⟩
  | .hbm, ⟨54, _⟩ => ⟨S16384x31x384, .f32⟩
  | .hbm, ⟨55, _⟩ => ⟨S16384x31x384, .f32⟩
  | .hbm, ⟨56, _⟩ => ⟨S_, .f32⟩
  | .hbm, ⟨57, _⟩ => ⟨S16384x384, .f32⟩
  | .hbm, ⟨58, _⟩ => ⟨S1x384, .f32⟩
  | .hbm, ⟨59, _⟩ => ⟨S16384x384, .f32⟩
  | .hbm, ⟨60, _⟩ => ⟨S16384x384, .f32⟩
  | .hbm, ⟨61, _⟩ => ⟨S16384x1024, .bf16⟩
  | .hbm, ⟨62, _⟩ => ⟨S256x256, .bf16⟩
  | .hbm, ⟨63, _⟩ => ⟨S1x256, .f32⟩
  | .hbm, ⟨64, _⟩ => ⟨S1x384, .f32⟩
  | .hbm, ⟨65, _⟩ => ⟨S1x384, .f32⟩
  | .hbm, ⟨66, _⟩ => ⟨S16384x2176, .bf16⟩
  | .hbm, ⟨67, _⟩ => ⟨S256x256, .f32⟩
  | .hbm, ⟨68, _⟩ => ⟨S1x256, .f32⟩
  | .hbm, ⟨69, _⟩ => ⟨S8x384, .f32⟩
  | .hbm, ⟨70, _⟩ => ⟨S32x384, .f32⟩
  | .hbm, ⟨71, _⟩ => ⟨S1x384, .f32⟩
  | .hbm, ⟨72, _⟩ => ⟨S1x384, .f32⟩
  | .hbm, ⟨73, _⟩ => ⟨S1x384, .f32⟩
  | .local _ .vmem, ⟨0, _⟩ => ⟨S32x2176, .bf16⟩
  | .local _ .vmem, ⟨1, _⟩ => ⟨S32x2176, .bf16⟩
  | .local _ .vmem, ⟨2, _⟩ => ⟨S512x2176, .bf16⟩
  | .local _ .vmem, ⟨3, _⟩ => ⟨S512x2176, .bf16⟩
  | .local _ .vmem, ⟨4, _⟩ => ⟨S32x2176, .bf16⟩
  | .local _ .vmem, ⟨5, _⟩ => ⟨S32x2176, .bf16⟩
  | .local _ .vmem, ⟨6, _⟩ => ⟨S32x1024, .bf16⟩
  | .local _ .vmem, ⟨7, _⟩ => ⟨S32x1024, .bf16⟩
  | .local _ .vmem, ⟨8, _⟩ => ⟨S512x1024, .bf16⟩
  | .local _ .vmem, ⟨9, _⟩ => ⟨S512x1024, .bf16⟩
  | .local _ .vmem, ⟨10, _⟩ => ⟨S32x1024, .bf16⟩
  | .local _ .vmem, ⟨11, _⟩ => ⟨S32x1024, .bf16⟩
  | .local _ .vmem, ⟨12, _⟩ => ⟨S32x384, .f32⟩
  | .local _ .vmem, ⟨13, _⟩ => ⟨S32x384, .f32⟩
  | .local _ .vmem, ⟨14, _⟩ => ⟨S512x384, .f32⟩
  | .local _ .vmem, ⟨15, _⟩ => ⟨S512x384, .f32⟩
  | .local _ .vmem, ⟨16, _⟩ => ⟨S32x384, .f32⟩
  | .local _ .vmem, ⟨17, _⟩ => ⟨S32x384, .f32⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S8x384, .f32⟩
  | .local _ .vmem, ⟨22, _⟩ => ⟨S32x384, .f32⟩
  | .local _ .vmem, ⟨23, _⟩ => ⟨S1x384, .f32⟩
  | .local _ .vmem, ⟨24, _⟩ => ⟨S1x384, .f32⟩
  | .local _ .vmem, ⟨25, _⟩ => ⟨S512x2176, .bf16⟩
  | .local _ .vmem, ⟨26, _⟩ => ⟨S512x2176, .bf16⟩
  | .local _ .vmem, ⟨27, _⟩ => ⟨S256x256, .f32⟩
  | .local _ .vmem, ⟨28, _⟩ => ⟨S1x256, .f32⟩
  | .local _ .vmem, ⟨29, _⟩ => ⟨S8x384, .f32⟩
  | .local _ .vmem, ⟨30, _⟩ => ⟨S32x384, .f32⟩
  | .local _ .vmem, ⟨31, _⟩ => ⟨S1x384, .f32⟩
  | .local _ .vmem, ⟨32, _⟩ => ⟨S1x384, .f32⟩
  | .local _ .vmem, ⟨33, _⟩ => ⟨S1x384, .f32⟩
  | .local _ .vmem, ⟨34, _⟩ => ⟨S576x2176, .f32⟩
  | .local _ .vmem, ⟨35, _⟩ => ⟨S576x1024, .f32⟩
  | .local _ .vmem, ⟨36, _⟩ => ⟨S576x384, .f32⟩
  | .local _ .vmem, ⟨37, _⟩ => ⟨S8x584x384, .f32⟩
  | .local _ .vmem, ⟨38, _⟩ => ⟨S8x584x384, .f32⟩
  | .local _ .vmem, ⟨39, _⟩ => ⟨S576x384, .f32⟩
  | .local _ .vmem, ⟨40, _⟩ => ⟨S576x384, .f32⟩
  | .local _ .vmem, ⟨41, _⟩ => ⟨S576x384, .f32⟩
  | .local _ .vmem, ⟨42, _⟩ => ⟨S576x256, .f32⟩
  | .local _ .vmem, ⟨43, _⟩ => ⟨S576x256, .f32⟩
  | .local _ .vmem, ⟨44, _⟩ => ⟨S576x256, .f32⟩
  | .local _ .vmem, ⟨45, _⟩ => ⟨S576x256, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call0_v0 : Ref sig .tc := ⟨.hbm, 24, rfl⟩
abbrev main_v13 : Ref sig .tc := ⟨.hbm, 25, rfl⟩
abbrev main_c_1 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_v47_3 : Ref sig .tc := ⟨.hbm, 69, rfl⟩
abbrev main_v47_4 : Ref sig .tc := ⟨.hbm, 70, rfl⟩
abbrev main_v47_5 : Ref sig .tc := ⟨.hbm, 71, rfl⟩
abbrev main_v47_6 : Ref sig .tc := ⟨.hbm, 72, rfl⟩
abbrev main_v47_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_scratch7 : Ref sig .tc := ⟨.vmem, 41, rfl⟩
abbrev cc0_scratch8 : Ref sig .tc := ⟨.vmem, 42, rfl⟩
abbrev cc0_scratch9 : Ref sig .tc := ⟨.vmem, 43, rfl⟩
abbrev cc0_scratch10 : Ref sig .tc := ⟨.vmem, 44, rfl⟩
abbrev cc0_scratch11 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2176 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MixRefIdeal.lean ====
abbrev S16384x2176 : Shape := ⟨2, ![16384, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S16384x1024 : Shape := ⟨2, ![16384, 1024]⟩
abbrev S16384x384 : Shape := ⟨2, ![16384, 384]⟩
abbrev S_ : Shape := ⟨0, ![]⟩
abbrev S15x384 : Shape := ⟨2, ![15, 384]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16414x384 : Shape := ⟨2, ![16414, 384]⟩
abbrev S16384x31x1 : Shape := ⟨3, ![16384, 31, 1]⟩
abbrev S16384x31x384 : Shape := ⟨3, ![16384, 31, 384]⟩
abbrev S1x31x384 : Shape := ⟨3, ![1, 31, 384]⟩
abbrev S1x384 : Shape := ⟨2, ![1, 384]⟩
abbrev S3 : Shape := ⟨1, ![3]⟩
abbrev S1x3 : Shape := ⟨2, ![1, 3]⟩
abbrev S16384x3 : Shape := ⟨2, ![16384, 3]⟩
abbrev S16386x384 : Shape := ⟨2, ![16386, 384]⟩
abbrev S16384x3x1 : Shape := ⟨3, ![16384, 3, 1]⟩
abbrev S16384x3x384 : Shape := ⟨3, ![16384, 3, 384]⟩
abbrev S1x3x384 : Shape := ⟨3, ![1, 3, 384]⟩
abbrev S5x384 : Shape := ⟨2, ![5, 384]⟩
abbrev S8x384 : Shape := ⟨2, ![8, 384]⟩
abbrev S32x384 : Shape := ⟨2, ![32, 384]⟩

abbrev nBuf : Space → Nat
  | .hbm => 190
  | .vmem => 0
  | .smem => 0
  | _ => 0

abbrev hbmTy0_0 (i : Nat) : BufTy := match i % 128 with
  | 0 => ⟨S16384x2176, .f32⟩
  | 1 => ⟨S4x64x64, .f32⟩
  | 2 => ⟨S256, .f32⟩
  | 3 => ⟨S3x384, .f32⟩
  | 4 => ⟨S31x384, .f32⟩
  | 5 => ⟨S384, .f32⟩
  | 6 => ⟨S384, .f32⟩
  | 7 => ⟨S384, .f32⟩
  | 8 => ⟨S16384x1024, .f32⟩
  | 9 => ⟨S16384x384, .f32⟩
  | 10 => ⟨S16384x384, .f32⟩
  | 11 => ⟨S16384x384, .f32⟩
  | 12 => ⟨S16384x384, .f32⟩
  | 13 => ⟨S_, .f32⟩
  | 14 => ⟨S16384x384, .f32⟩
  | 15 => ⟨S16384x384, .f32⟩
  | 16 => ⟨S_, .f32⟩
  | 17 => ⟨S16384x384, .f32⟩
  | 18 => ⟨S16384x384, .f32⟩
  | 19 => ⟨S16384x384, .f32⟩
  | 20 => ⟨S_, .f32⟩
  | 21 => ⟨S15x384, .f32⟩
  | 22 => ⟨S16384, .i32⟩
  | 23 => ⟨S16384x1, .i32⟩
  | 24 => ⟨S31, .i32⟩
  | 25 => ⟨S1x31, .i32⟩
  | 26 => ⟨S16384x31, .i32⟩
  | 27 => ⟨S16384x31, .i32⟩
  | 28 => ⟨S16384x31, .i32⟩
  | 29 => ⟨S16414x384, .f32⟩
  | 30 => ⟨S16384x31x1, .i32⟩
  | 31 => ⟨S16384x31x384, .f32⟩
  | 32 => ⟨S1x31x384, .f32⟩
  | 33 => ⟨S16384x31x384, .f32⟩
  | 34 => ⟨S16384x31x384, .f32⟩
  | 35 => ⟨S_, .f32⟩
  | 36 => ⟨S16384x384, .f32⟩
  | 37 => ⟨S1x384, .f32⟩
  | 38 => ⟨S16384x384, .f32⟩
  | 39 => ⟨S16384x384, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S16384x384, .f32⟩
  | 47 => ⟨S16384x384, .f32⟩
  | 48 => ⟨S16384x384, .f32⟩
  | 49 => ⟨S_, .f32⟩
  | 50 => ⟨S16384x384, .f32⟩
  | 51 => ⟨S16384x384, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x384, .f32⟩
  | 59 => ⟨S16384x384, .f32⟩
  | 60 => ⟨S_, .f32⟩
  | 61 => ⟨S16384x1, .f32⟩
  | 62 => ⟨S16384x1, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x384, .f32⟩
  | 69 => ⟨S16384x384, .f32⟩
  | 70 => ⟨S1x384, .f32⟩
  | 71 => ⟨S16384x384, .f32⟩
  | 72 => ⟨S16384x384, .f32⟩
  | 73 => ⟨S1x384, .f32⟩
  | 74 => ⟨S16384x384, .f32⟩
  | 75 => ⟨S16384x384, .f32⟩
  | 76 => ⟨S16384x384, .f32⟩
  | 77 => ⟨S16384x384, .f32⟩
  | 78 => ⟨S_, .f32⟩
  | 79 => ⟨S16384x384, .f32⟩
  | 80 => ⟨S16384x384, .f32⟩
  | 81 => ⟨S_, .f32⟩
  | 82 => ⟨S16384x384, .f32⟩
  | 83 => ⟨S16384x384, .f32⟩
  | 84 => ⟨S_, .f32⟩
  | 85 => ⟨S16384x384, .f32⟩
  | 86 => ⟨S16384x384, .f32⟩
  | 87 => ⟨S16384x384, .f32⟩
  | 88 => ⟨S16384x384, .f32⟩
  | 89 => ⟨S16384x384, .f32⟩
  | 90 => ⟨S16384x384, .f32⟩
  | 91 => ⟨S16384x384, .f32⟩
  | 92 => ⟨S16384x384, .f32⟩
  | 93 => ⟨S16384x384, .f32⟩
  | 94 => ⟨S_, .f32⟩
  | 95 => ⟨S384, .f32⟩
  | 96 => ⟨S1x384, .f32⟩
  | 97 => ⟨S_, .f32⟩
  | 98 => ⟨S384, .f32⟩
  | 99 => ⟨S16384x384, .f32⟩
  | 100 => ⟨S_, .f32⟩
  | 101 => ⟨S384, .f32⟩
  | 102 => ⟨S1x384, .f32⟩
  | 103 => ⟨S16384x384, .f32⟩
  | 104 => ⟨S16384x384, .f32⟩
  | 105 => ⟨S_, .f32⟩
  | 106 => ⟨S384, .f32⟩
  | 107 => ⟨S16384x384, .f32⟩
  | 108 => ⟨S_, .f32⟩
  | 109 => ⟨S16384, .f32⟩
  | 110 => ⟨S16384x1, .f32⟩
  | 111 => ⟨S16384x384, .f32⟩
  | 112 => ⟨S16384x384, .f32⟩
  | 113 => ⟨S16384x1, .f32⟩
  | 114 => ⟨S16384x384, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384, .f32⟩
  | 123 => ⟨S16384x384, .f32⟩
  | 124 => ⟨S16384x384, .f32⟩
  | 125 => ⟨S16384x384, .f32⟩
  | 126 => ⟨S_, .f32⟩
  | 127 => ⟨S16384, .f32⟩
  | _ => ⟨S16384x2176, .f32⟩

abbrev hbmTy0_1 (i : Nat) : BufTy := match i % 128 with
  | 0 => ⟨S16384x1, .f32⟩
  | 1 => ⟨S16384x384, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384, .f32⟩
  | 8 => ⟨S16384x384, .f32⟩
  | 9 => ⟨S16384x384, .f32⟩
  | 10 => ⟨S_, .f32⟩
  | 11 => ⟨S384, .f32⟩
  | 12 => ⟨S1x384, .f32⟩
  | 13 => ⟨S_, .f32⟩
  | 14 => ⟨S384, .f32⟩
  | 15 => ⟨S16384x31x384, .f32⟩
  | 16 => ⟨S16384x31x384, .f32⟩
  | 17 => ⟨S_, .f32⟩
  | 18 => ⟨S31x384, .f32⟩
  | 19 => ⟨S1x31x384, .f32⟩
  | 20 => ⟨S_, .f32⟩
  | 21 => ⟨S31x384, .f32⟩
  | 22 => ⟨S16384x384, .f32⟩
  | 23 => ⟨S16384x384, .f32⟩
  | 24 => ⟨S16384x384, .f32⟩
  | 25 => ⟨S16384x384, .f32⟩
  | 26 => ⟨S_, .f32⟩
  | 27 => ⟨S1x384, .f32⟩
  | 28 => ⟨S16384, .i32⟩
  | 29 => ⟨S16384x1, .i32⟩
  | 30 => ⟨S3, .i32⟩
  | 31 => ⟨S1x3, .i32⟩
  | 32 => ⟨S16384x3, .i32⟩
  | 33 => ⟨S16384x3, .i32⟩
  | 34 => ⟨S16384x3, .i32⟩
  | 35 => ⟨S16386x384, .f32⟩
  | 36 => ⟨S16384x3x1, .i32⟩
  | 37 => ⟨S16384x3x384, .f32⟩
  | 38 => ⟨S1x3x384, .f32⟩
  | 39 => ⟨S16384x3x384, .f32⟩
  | 40 => ⟨S16384x3x384, .f32⟩
  | 41 => ⟨S_, .f32⟩
  | 42 => ⟨S16384x384, .f32⟩
  | 43 => ⟨S16384x384, .f32⟩
  | 44 => ⟨S16384x384, .f32⟩
  | 45 => ⟨S16384x384, .f32⟩
  | 46 => ⟨S16384x3x384, .f32⟩
  | 47 => ⟨S16384x3x384, .f32⟩
  | 48 => ⟨S_, .f32⟩
  | 49 => ⟨S3x384, .f32⟩
  | 50 => ⟨S1x3x384, .f32⟩
  | 51 => ⟨S_, .f32⟩
  | 52 => ⟨S3x384, .f32⟩
  | 53 => ⟨S_, .f32⟩
  | 54 => ⟨S5x384, .f32⟩
  | 55 => ⟨S8x384, .f32⟩
  | 56 => ⟨S_, .f32⟩
  | 57 => ⟨S1x384, .f32⟩
  | 58 => ⟨S32x384, .f32⟩
  | 59 => ⟨S1x384, .f32⟩
  | 60 => ⟨S1x384, .f32⟩
  | 61 => ⟨S1x384, .f32⟩
  | _ => ⟨S16384x2176, .f32⟩

abbrev hbmTy (i : Nat) : BufTy := match i / 128 with
  | 0 => hbmTy0_0 i
  | 1 => hbmTy0_1 i
  | _ => ⟨S16384x2176, .f32⟩

abbrev bufTy : (tb : Table) → Fin (tcTables nBuf tb) → BufTy
  | .hbm, ⟨i, _⟩ => hbmTy i
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_v55_2 : Ref sig .tc := ⟨.hbm, 83, rfl⟩
abbrev main_call1_cst_1 : Ref sig .tc := ⟨.hbm, 84, rfl⟩
abbrev main_call1_v6 : Ref sig .tc := ⟨.hbm, 85, rfl⟩
abbrev main_call1_v7 : Ref sig .tc := ⟨.hbm, 86, rfl⟩
abbrev main_v55_1 : Ref sig .tc := ⟨.hbm, 87, rfl⟩
abbrev main_v55_0 : Ref sig .tc := ⟨.hbm, 88, rfl⟩
abbrev main_v56 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_v67 : Ref sig .tc := ⟨.hbm, 107, rfl⟩
abbrev main_cst_14 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_15 : Ref sig .tc := ⟨.hbm, 115, rfl⟩
abbrev main_v74 : Ref sig .tc := ⟨.hbm, 116, rfl⟩
abbrev main_v75 : Ref sig .tc := ⟨.hbm, 117, rfl⟩
abbrev main_cst_16 : Ref sig .tc := ⟨.hbm, 118, rfl⟩
abbrev main_v76 : Ref sig .tc := ⟨.hbm, 119, rfl⟩
abbrev main_v77 : Ref sig .tc := ⟨.hbm, 120, rfl⟩
abbrev main_cst_17 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_18 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_19 : Ref sig .tc := ⟨.hbm, 131, rfl⟩
abbrev main_v86 : Ref sig .tc := ⟨.hbm, 132, rfl⟩
abbrev main_v87 : Ref sig .tc := ⟨.hbm, 133, rfl⟩
abbrev main_cst_20 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_21 : Ref sig .tc := ⟨.hbm, 138, rfl⟩
abbrev main_v91 : Ref sig .tc := ⟨.hbm, 139, rfl⟩
abbrev main_v92 : Ref sig .tc := ⟨.hbm, 140, rfl⟩
abbrev main_cst_22 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_23 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_25 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_call3_v0 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_cst_28 : Ref sig .tc := ⟨.hbm, 179, rfl⟩
abbrev main_v124 : Ref sig .tc := ⟨.hbm, 180, rfl⟩
abbrev main_cst_29 : Ref sig .tc := ⟨.hbm, 181, rfl⟩
abbrev main_v125 : Ref sig .tc := ⟨.hbm, 182, rfl⟩
abbrev main_v126 : Ref sig .tc := ⟨.hbm, 183, rfl⟩
abbrev main_cst_30 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩

abbrev nD : Nat := 1
abbrev τ : Topo := Topo.v7x

variable {F : FTy → Type} [FloatOps F]
-- ==== Fwd.lean ====
abbrev S16384x2176 : Shape := ⟨2, ![16384, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S8x384 : Shape := ⟨2, ![8, 384]⟩
abbrev S32x384 : Shape := ⟨2, ![32, 384]⟩
abbrev S1x384 : Shape := ⟨2, ![1, 384]⟩
abbrev S16384x1024 : Shape := ⟨2, ![16384, 1024]⟩
abbrev S16384x384 : Shape := ⟨2, ![16384, 384]⟩
abbrev S32x2176 : Shape := ⟨2, ![32, 2176]⟩
abbrev S1024x2176 : Shape := ⟨2, ![1024, 2176]⟩
abbrev S1024x1024 : Shape := ⟨2, ![1024, 1024]⟩
abbrev S1024x384 : Shape := ⟨2, ![1024, 384]⟩
abbrev S1088x2176 : Shape := ⟨2, ![1088, 2176]⟩
abbrev S8x1096x384 : Shape := ⟨3, ![8, 1096, 384]⟩
abbrev S1088x384 : Shape := ⟨2, ![1088, 384]⟩
abbrev S1088x256 : Shape := ⟨2, ![1088, 256]⟩
abbrev S1x1088x384 : Shape := ⟨3, ![1, 1088, 384]⟩
abbrev S1x8x384 : Shape := ⟨3, ![1, 8, 384]⟩
abbrev S1x80x384 : Shape := ⟨3, ![1, 80, 384]⟩
abbrev S80x384 : Shape := ⟨2, ![80, 384]⟩
abbrev S64x384 : Shape := ⟨2, ![64, 384]⟩
abbrev S1x88x384 : Shape := ⟨3, ![1, 88, 384]⟩
abbrev S88x384 : Shape := ⟨2, ![88, 384]⟩
abbrev S64 : Shape := ⟨1, ![64]⟩
abbrev S64x1 : Shape := ⟨2, ![64, 1]⟩
abbrev S1024x256 : Shape := ⟨2, ![1024, 256]⟩
abbrev S1072x256 : Shape := ⟨2, ![1072, 256]⟩
abbrev S1056x256 : Shape := ⟨2, ![1056, 256]⟩
abbrev S1040x256 : Shape := ⟨2, ![1040, 256]⟩

abbrev nBuf : Space → Nat
  | .hbm => 35
  | .vmem => 23
  | .smem => 0
  | _ => 0

abbrev bufTy : (tb : Table) → Fin (tcTables nBuf tb) → BufTy
  | .hbm, ⟨0, _⟩ => ⟨S16384x2176, .f32⟩
  | .hbm, ⟨1, _⟩ => ⟨S4x64x64, .f32⟩
  | .hbm, ⟨2, _⟩ => ⟨S256, .f32⟩
  | .hbm, ⟨3, _⟩ => ⟨S3x384, .f32⟩
  | .hbm, ⟨4, _⟩ => ⟨S31x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x64x1x64, .f32⟩
  | .hbm, ⟨16, _⟩ => ⟨S4x1x4x1, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S16384x2176, .bf16⟩
  | .hbm, ⟨23, _⟩ => ⟨S1x256, .f32⟩
  | .hbm, ⟨24, _⟩ => ⟨S_, .i32⟩
  | .hbm, ⟨25, _⟩ => ⟨S_, .f32⟩
  | .hbm, ⟨26, _⟩ => ⟨S8x384, .f32⟩
  | .hbm, ⟨27, _⟩ => ⟨S_, .i32⟩
  | .hbm, ⟨28, _⟩ => ⟨S_, .f32⟩
  | .hbm, ⟨29, _⟩ => ⟨S32x384, .f32⟩
  | .hbm, ⟨30, _⟩ => ⟨S1x384, .f32⟩
  | .hbm, ⟨31, _⟩ => ⟨S1x384, .f32⟩
  | .hbm, ⟨32, _⟩ => ⟨S1x384, .f32⟩
  | .hbm, ⟨33, _⟩ => ⟨S16384x1024, .bf16⟩
  | .hbm, ⟨34, _⟩ => ⟨S16384x384, .f32⟩
  | .local _ .vmem, ⟨0, _⟩ => ⟨S32x2176, .bf16⟩
  | .local _ .vmem, ⟨1, _⟩ => ⟨S32x2176, .bf16⟩
  | .local _ .vmem, ⟨2, _⟩ => ⟨S1024x2176, .bf16⟩
  | .local _ .vmem, ⟨3, _⟩ => ⟨S1024x2176, .bf16⟩
  | .local _ .vmem, ⟨4, _⟩ => ⟨S32x2176, .bf16⟩
  | .local _ .vmem, ⟨5, _⟩ => ⟨S32x2176, .bf16⟩
  | .local _ .vmem, ⟨6, _⟩ => ⟨S256x256, .bf16⟩
  | .local _ .vmem, ⟨7, _⟩ => ⟨S1x256, .f32⟩
  | .local _ .vmem, ⟨8, _⟩ => ⟨S8x384, .f32⟩
  | .local _ .vmem, ⟨9, _⟩ => ⟨S32x384, .f32⟩
  | .local _ .vmem, ⟨10, _⟩ => ⟨S1x384, .f32⟩
  | .local _ .vmem, ⟨11, _⟩ => ⟨S1x384, .f32⟩
  | .local _ .vmem, ⟨12, _⟩ => ⟨S1x384, .f32⟩
  | .local _ .vmem, ⟨13, _⟩ => ⟨S1024x1024, .bf16⟩
  | .local _ .vmem, ⟨14, _⟩ => ⟨S1024x1024, .bf16⟩
  | .local _ .vmem, ⟨15, _⟩ => ⟨S1024x384, .f32⟩
  | .local _ .vmem, ⟨16, _⟩ => ⟨S1024x384, .f32⟩
  | .local _ .vmem, ⟨17, _⟩ => ⟨S1088x2176, .f32⟩
  | .local _ .vmem, ⟨18, _⟩ => ⟨S8x1096x384, .f32⟩
  | .local _ .vmem, ⟨19, _⟩ => ⟨S1088x384, .f32⟩
  | .local _ .vmem, ⟨20, _⟩ => ⟨S1088x256, .f32⟩
  | .local _ .vmem, ⟨21, _⟩ => ⟨S1088x256, .f32⟩
  | .local _ .vmem, ⟨22, _⟩ => ⟨S1088x256, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_v15 : Ref sig .tc := ⟨.hbm, 26, rfl⟩
abbrev main_c_1 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FwdRefIdeal.lean ====
abbrev S16384x2176 : Shape := ⟨2, ![16384, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S16384x384 : Shape := ⟨2, ![16384, 384]⟩
abbrev S_ : Shape := ⟨0, ![]⟩
abbrev S15x384 : Shape := ⟨2, ![15, 384]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16414x384 : Shape := ⟨2, ![16414, 384]⟩
abbrev S16384x31x1 : Shape := ⟨3, ![16384, 31, 1]⟩
abbrev S16384x31x384 : Shape := ⟨3, ![16384, 31, 384]⟩
abbrev S1x31x384 : Shape := ⟨3, ![1, 31, 384]⟩
abbrev S1x384 : Shape := ⟨2, ![1, 384]⟩

abbrev nBuf : Space → Nat
  | .hbm => 39
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S4x64x64, .f32⟩
  | .hbm, ⟨2, _⟩ => ⟨S256, .f32⟩
  | .hbm, ⟨3, _⟩ => ⟨S3x384, .f32⟩
  | .hbm, ⟨4, _⟩ => ⟨S31x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S16384x384, .f32⟩
  | .hbm, ⟨9, _⟩ => ⟨S16384x384, .f32⟩
  | .hbm, ⟨10, _⟩ => ⟨S16384x384, .f32⟩
  | .hbm, ⟨11, _⟩ => ⟨S16384x384, .f32⟩
  | .hbm, ⟨12, _⟩ => ⟨S_, .f32⟩
  | .hbm, ⟨13, _⟩ => ⟨S16384x384, .f32⟩
  | .hbm, ⟨14, _⟩ => ⟨S16384x384, .f32⟩
  | .hbm, ⟨15, _⟩ => ⟨S_, .f32⟩
  | .hbm, ⟨16, _⟩ => ⟨S16384x384, .f32⟩
  | .hbm, ⟨17, _⟩ => ⟨S16384x384, .f32⟩
  | .hbm, ⟨18, _⟩ => ⟨S16384x384, .f32⟩
  | .hbm, ⟨19, _⟩ => ⟨S_, .f32⟩
  | .hbm, ⟨20, _⟩ => ⟨S15x384, .f32⟩
  | .hbm, ⟨21, _⟩ => ⟨S16384, .i32⟩
  | .hbm, ⟨22, _⟩ => ⟨S16384x1, .i32⟩
  | .hbm, ⟨23, _⟩ => ⟨S31, .i32⟩
  | .hbm, ⟨24, _⟩ => ⟨S1x31, .i32⟩
  | .hbm, ⟨25, _⟩ => ⟨S16384x31, .i32⟩
  | .hbm, ⟨26, _⟩ => ⟨S16384x31, .i32⟩
  | .hbm, ⟨27, _⟩ => ⟨S16384x31, .i32⟩
  | .hbm, ⟨28, _⟩ => ⟨S16414x384, .f32⟩
  | .hbm, ⟨29, _⟩ => ⟨S16384x31x1, .i32⟩
  | .hbm, ⟨30, _⟩ => ⟨S16384x31x384, .f32⟩
  | .hbm, ⟨31, _⟩ => ⟨S1x31x384, .f32⟩
  | .hbm, ⟨32, _⟩ => ⟨S16384x31x384, .f32⟩
  | .hbm, ⟨33, _⟩ => ⟨S16384x31x384, .f32⟩
  | .hbm, ⟨34, _⟩ => ⟨S_, .f32⟩
  | .hbm, ⟨35, _⟩ => ⟨S16384x384, .f32⟩
  | .hbm, ⟨36, _⟩ => ⟨S1x384, .f32⟩
  | .hbm, ⟨37, _⟩ => ⟨S16384x384, .f32⟩
  | .hbm, ⟨38, _⟩ => ⟨S16384x384, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Tn.lean ====
abbrev S16384x2816 : Shape := ⟨2, ![16384, 2816]⟩
abbrev S16384x1024 : Shape := ⟨2, ![16384, 1024]⟩
abbrev S1x1 : Shape := ⟨2, ![1, 1]⟩
abbrev S8x352x1024 : Shape := ⟨3, ![8, 352, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S1x1, .f32⟩
  | .hbm, ⟨3, _⟩ => ⟨S8x352x1024, .f32⟩
  | .hbm, ⟨4, _⟩ => ⟨S16384x2816, .bf16⟩
  | .hbm, ⟨5, _⟩ => ⟨S16384x1024, .bf16⟩
  | .hbm, ⟨6, _⟩ => ⟨S8x352x1024, .bf16⟩
  | .hbm, ⟨7, _⟩ => ⟨S2816x1024, .f32⟩
  | .hbm, ⟨8, _⟩ => ⟨S8x352x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S4x352x1024, .bf16⟩
  | .local _ .vmem, ⟨7, _⟩ => ⟨S4x352x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== TnRefIdeal.lean ====
abbrev S16384x2816 : Shape := ⟨2, ![16384, 2816]⟩
abbrev S16384x1024 : Shape := ⟨2, ![16384, 1024]⟩
abbrev S1x1 : Shape := ⟨2, ![1, 1]⟩
abbrev S8x352x1024 : Shape := ⟨3, ![8, 352, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S1x1, .f32⟩
  | .hbm, ⟨3, _⟩ => ⟨S8x352x1024, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S8x352x1024, .f32⟩
  | .hbm, ⟨11, _⟩ => ⟨S8x352x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Parts.lean ====
abbrev S2816x1024 : Shape := ⟨2, ![2816, 1024]⟩
abbrev S7x2816x1024 : Shape := ⟨3, ![7, 2816, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S7x2816x1024, .f32⟩
  | .hbm, ⟨2, _⟩ => ⟨S7x2816x1024, .bf16⟩
  | .hbm, ⟨3, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PartsRefIdeal.lean ====
abbrev S2816x1024 : Shape := ⟨2, ![2816, 1024]⟩
abbrev S7x2816x1024 : Shape := ⟨3, ![7, 2816, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S7x2816x1024, .f32⟩
  | .hbm, ⟨2, _⟩ => ⟨S_, .f32⟩
  | .hbm, ⟨3, _⟩ => ⟨S2816x1024, .f32⟩
  | .hbm, ⟨4, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Gathered.lean ====
abbrev S8x1160x128 : Shape := ⟨3, ![8, 1160, 128]⟩
abbrev S1160x128 : Shape := ⟨2, ![1160, 128]⟩
abbrev S1x1160x128 : Shape := ⟨3, ![1, 1160, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1160x128, .f32⟩
  | .hbm, ⟨1, _⟩ => ⟨S1160x128, .f32⟩
  | .local _ .vmem, ⟨0, _⟩ => ⟨S8x1160x128, .f32⟩
  | .local _ .vmem, ⟨1, _⟩ => ⟨S1160x128, .f32⟩
  | _, _ => ⟨S8x1160x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GatheredRefIdeal.lean ====
abbrev S8x1160x128 : Shape := ⟨3, ![8, 1160, 128]⟩
abbrev S_ : Shape := ⟨0, ![]⟩
abbrev S1160x128 : Shape := ⟨2, ![1160, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1160x128, .f32⟩
  | .hbm, ⟨1, _⟩ => ⟨S_, .f32⟩
  | .hbm, ⟨2, _⟩ => ⟨S1160x128, .f32⟩
  | _, _ => ⟨S8x1160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S4096x352 : Shape := ⟨2, ![4096, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4096x352 : Shape := ⟨2, ![4096, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S4096x352, .f32⟩
  | .hbm, ⟨7, _⟩ => ⟨S_, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S_, .f32⟩
  | .hbm, ⟨12, _⟩ => ⟨S4096x352, .f32⟩
  | .hbm, ⟨13, _⟩ => ⟨S4096x352, .f32⟩
  | .hbm, ⟨14, _⟩ => ⟨S4096x352, .f32⟩
  | .hbm, ⟨15, _⟩ => ⟨S_, .f32⟩
  | .hbm, ⟨16, _⟩ => ⟨S4096x352, .f32⟩
  | .hbm, ⟨17, _⟩ => ⟨S4096x352, .f32⟩
  | .hbm, ⟨18, _⟩ => ⟨S4096x352, .f32⟩
  | .hbm, ⟨19, _⟩ => ⟨S_, .f32⟩
  | .hbm, ⟨20, _⟩ => ⟨S4096x352, .f32⟩
  | .hbm, ⟨21, _⟩ => ⟨S4096x352, .f32⟩
  | .hbm, ⟨22, _⟩ => ⟨S_, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S_, .f32⟩
  | .hbm, ⟨27, _⟩ => ⟨S4096x352, .f32⟩
  | .hbm, ⟨28, _⟩ => ⟨S4096x352, .f32⟩
  | .hbm, ⟨29, _⟩ => ⟨S4096x352, .f32⟩
  | .hbm, ⟨30, _⟩ => ⟨S_, .f32⟩
  | .hbm, ⟨31, _⟩ => ⟨S4096x352, .f32⟩
  | .hbm, ⟨32, _⟩ => ⟨S4096x352, .f32⟩
  | .hbm, ⟨33, _⟩ => ⟨S4096x352, .f32⟩
  | .hbm, ⟨34, _⟩ => ⟨S_, .f32⟩
  | .hbm, ⟨35, _⟩ => ⟨S4096x352, .f32⟩
  | .hbm, ⟨36, _⟩ => ⟨S4096x352, .f32⟩
  | _, _ => ⟨S4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Base.lean ====
module

public import proofs.«01_k».proof.Defs
public import Idealize.ShloMosaic.Lib.Pipeline.ValueKit
public import Idealize.ShloMosaic.PureOps.Ideal.Laws

@[expose] public section

noncomputable section

namespace Cert.Base

open Idealize.ShloMosaic

/-! ## The values of the float literals -/

theorem lit_zero : Ideal.ofBits .f32 0x00000000#32 = 0 := Ideal.ofBits_zero_f32

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

/-! ## Sums of extended reals -/

/-- A sum of real numbers, taken as extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves out of a sum. -/
theorem sum_mul_coe {ι : Type*} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

end Cert.Base

end
-- ==== Proof.LossValue.lean ====
module

public import proofs.«01_k».proof.Defs
public import proofs.«01_k».proof.Proof.Base
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossIdeal.Pair

open Cert.LossIdeal Cert.LossIdeal.Gen

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] :=
  (by decide +kernel : ∀ t : Fin grid0.N, _)

/-- The normalised rows the region reads are the reference's. -/
theorem entry_xh (c : Dev nD) : V m c main_v15 = Cert.LossRefIdeal.Read.val_main_v18 (F := Ideal) (m ((c : Thread nD τ).loc main_arg0)) := by
  unfold V
  after_results_simp
  rfl

/-- The scale row is the reference's. -/
theorem entry_gam (c : Dev nD) : V m c main_v16 = Cert.LossRefIdeal.Read.val_main_v19 (F := Ideal) (m ((c : Thread nD τ).loc main_arg1)) := by
  unfold V
  after_results_simp
  funext i
  pointwise [Cert.LossRefIdeal.Read.val_main_v19]
  blk_ext

/-- The shift row is the reference's. -/
theorem entry_bet (c : Dev nD) : V m c main_v17 = Cert.LossRefIdeal.Read.val_main_v22 (F := Ideal) (m ((c : Thread nD τ).loc main_arg2)) := by
  unfold V
  after_results_simp
  funext i
  pointwise [Cert.LossRefIdeal.Read.val_main_v22]
  blk_ext

/-- The reference's residual: the normalised output less the target. -/
abbrev resid (c : Dev nD) : S16384x1024.Idx → EReal :=
  Cert.LossRefIdeal.Read.val_main_v26 (F := Ideal) (m ((c : Thread nD τ).loc main_arg0)) (m ((c : Thread nD τ).loc main_arg1))
    (m ((c : Thread nD τ).loc main_arg2)) (m ((c : Thread nD τ).loc main_arg3))

/-- The reference's gradient with respect to the normalised output. -/
abbrev refDy (c : Dev nD) : S16384x1024.Idx → EReal :=
  Cert.LossRefIdeal.Read.val_main_v40 (F := Ideal) (m ((c : Thread nD τ).loc main_arg0)) (m ((c : Thread nD τ).loc main_arg1))
    (m ((c : Thread nD τ).loc main_arg2)) (m ((c : Thread nD τ).loc main_arg3))

/-- The reference's sum of squared residuals. -/
abbrev refSum (c : Dev nD) : S1x1.Idx → EReal :=
  Cert.LossRefIdeal.Read.val_main_v42 (F := Ideal) (m ((c : Thread nD τ).loc main_arg0)) (m ((c : Thread nD τ).loc main_arg1))
    (m ((c : Thread nD τ).loc main_arg2)) (m ((c : Thread nD τ).loc main_arg3))

/-- The residual a grid point computes at a block index is the reference's at the array index under it. -/
theorem resid_point (c : Dev nD) (t : Fin cfg0.N) (y : S512x1024.Idx) (j : S16384x1024.Idx) (h0 : (j 0 : ℕ) = t.val * 512 + y 0) (h1 : (j 1 : ℕ) = y 1) :
    k0_pay2 (F := Ideal) (iblk m c 0 t) (iblk m c 1 t) (iblk m c 2 t) (iblk m c 3 t) y = resid m c j := by
  pointwise [k0_pay2, resid, Cert.LossRefIdeal.Read.val_main_v26, Cert.LossRefIdeal.Read.val_main_v25, Cert.LossRefIdeal.Read.val_main_v24,
    Cert.LossRefIdeal.Read.val_main_v23, Cert.LossRefIdeal.Read.val_main_v21, Cert.LossRefIdeal.Read.val_main_v20,
    Cert.LossRefIdeal.Read.val_main_v0, Cert.LossRefIdeal.Read.val_main_cst]
  blk_simp [iblk, entry_xh, entry_gam, entry_bet]
  blk_point [V, idx t]
  · exact (congrFun (entry_gam m c) _).trans (by blk_ext [idx t])
  · exact (congrFun (entry_bet m c) _).trans (by blk_ext [idx t])

/-- The two spellings of the mean's factor agree. -/
theorem scale_eq (e : EReal) : e * Ideal.ofBits .f32 0x3A800000#32
    = Ideal.div (Ideal.ofBits .f32 0x3F000000#32) (Ideal.ofBits .f32 0x44800000#32) * (Ideal.ofBits .f32 0x40000000#32 * e) := by
  rw [Cert.Base.lit_inv1024, Cert.Base.lit_half, Cert.Base.lit_1024, Cert.Base.lit_two, Ideal.div_coe (by norm_num), ← mul_assoc,
    ← EReal.coe_mul, ← EReal.coe_mul, mul_comm]
  congr 2
  norm_num

/-- What a grid point stores of the gradient is the reference's. -/
theorem point (c : Dev nD) (t : Fin cfg0.N) (y) : k0_pay3 (F := Ideal) (iblk m c 0 t) (iblk m c 1 t) (iblk m c 2 t) (iblk m c 3 t) y
    = refDy m c (((cfg0.win 4).blk t).view.emb y) := by
  have h := resid_point m c t y (((cfg0.win 4).blk t).view.emb y) (by blk_simp [idx t]) (by blk_simp [idx t])
  unfold k0_pay3
  pointwise [refDy, Cert.LossRefIdeal.Read.val_main_v40, Cert.LossRefIdeal.Read.val_main_v39, Cert.LossRefIdeal.Read.val_main_v38,
    Cert.LossRefIdeal.Read.val_main_v37, Cert.LossRefIdeal.Read.val_main_v36, Cert.LossRefIdeal.Read.val_main_v35, Cert.LossRefIdeal.Read.val_main_v29,
    Cert.LossRefIdeal.Read.val_main_v28, Cert.LossRefIdeal.Read.val_main_cst_10, Cert.LossRefIdeal.Read.val_main_cst_11,
    Cert.LossRefIdeal.Read.val_main_cst_12, Cert.LossRefIdeal.Read.val_main_cst_5]
  rw [h]
  exact scale_eq _

/-- The fill is zero. -/
theorem hzero (j) : k0_pay1 (F := Ideal) j = 0 := by pointwise [k0_pay1]

/-- A point adds the sum of its block's squared residuals. -/
theorem hpay (x0 x1 x2 x3 acc j) : k0_pay4 (F := Ideal) x0 x1 x2 x3 acc j
    = acc j + ∑ r : Fin 512, ∑ k : Fin 1024, k0_pay2 (F := Ideal) x0 x1 x2 x3 (ix2 r k) * k0_pay2 (F := Ideal) x0 x1 x2 x3 (ix2 r k) := by
  rw [Finset.sum_comm]
  unfold k0_pay4
  pointwise

/-- The reference's scaled loss is the sum of all squared residuals. -/
theorem href (c : Dev nD) (j) : refSum m c j = ∑ i : Fin 16384, ∑ k : Fin 1024, resid m c (ix2 i k) * resid m c (ix2 i k) := by
  pointwise [refSum, Cert.LossRefIdeal.Read.val_main_v42, Cert.LossRefIdeal.Read.val_main_v41, Cert.LossRefIdeal.Read.val_main_v34, Cert.LossRefIdeal.Read.val_main_v33, Cert.LossRefIdeal.Read.val_main_v32,
   Cert.LossRefIdeal.Read.val_main_v31, Cert.LossRefIdeal.Read.val_main_v30, Cert.LossRefIdeal.Read.val_main_v27, Cert.LossRefIdeal.Read.val_main_cst_13, Cert.LossRefIdeal.Read.val_main_cst_9, Cert.LossRefIdeal.Read.val_main_cst_7, Cert.LossRefIdeal.Read.val_main_cst_8, Cert.LossRefIdeal.Read.val_main_cst_6]
  simp only [Cert.LossRefIdeal.Read.val_main_cst_8_apply, Cert.LossRefIdeal.Read.val_main_cst_6_apply, Ideal.ofBits_def, Cert.Base.lit_zero, zero_add,
    Cert.Base.lit_half, Cert.Base.lit_1024, Cert.Base.lit_2048, Ideal.div_coe (show (1024 : ℝ) ≠ 0 by norm_num)]
  rw [Cert.Base.sum_mul_coe _ _ _ (by norm_num), mul_comm, ← mul_assoc, mul_comm, ← EReal.coe_mul, mul_assoc, ← EReal.coe_mul]
  norm_num

/-- The gradient after the run. -/
theorem finalDy (c : Dev nD) : (dats m 0 c).arrAt 4 cfg0.N = refDy m c := by
  refine (dats m 0 c).arrAt_eq_of_covers 4 _ (by decide +kernel) fun t hf y => ?_
  blk_simp
  rw [after0_4]
  by_cases h : t.val % 32 = 0
  · rw [outsAt0_A m c t h]; frame_out; exact point m c t y
  · rw [outsAt0_B m c t h]; frame_out; exact point m c t y

/-- The sum of squares after the run. -/
theorem finalSum (c : Dev nD) : (dats m 0 c).arrAt 5 cfg0.N = refSum m c := by
  refine (dats m 0 c).arrAt_eq_of_covers 5 _ (by decide +kernel) fun t hf y => ?_
  blk_simp
  rw [after0_5, Pipeline.eq_sum_fin_of_reset_step_apply_of_flush (fun n h => (outsAt0 m c n h).2) 32 (fun _ => 0) _
    (fun t h j => by rw [outsAt0_A m c t h]; frame_out; rw [hpay, hzero])
    (fun t h j => by rw [outsAt0_B m c t h]; frame_out; rw [hpay])
    t ((flush0_5 t).mp hf) _, zero_add, href]
  refine Fin.sum_mul_add_congr fun s k hl => ?_
  refine Fin.sum_fin_congr fun l => ?_
  have hs : (32 * (t.val / 32) + s.val) = s.val := by have := t.isLt; have hN : cfg0.grid.N = 32 := N_0; omega
  rw [resid_point m c _ (ix2 k l) (ix2 ⟨s.val * 512 + k.val, hl⟩ l) (by simp [hs]) (by simp)]

end Cert.LossIdeal.Pair

namespace Cert.LossPair

/-- The reference's frame. -/
theorem quiescent_ref : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- Kernel and reference leave equal results. -/
theorem algebraic : Cert.algebraic_LossIdeal_LossRefIdeal (hLossIdeal := Cert.LossIdeal.Gen.facts) (hLossRefIdeal := Cert.LossRefIdeal.Gen.facts) := by
  intro m g m' g' _ hag
  refine ⟨fun c => Cert.LossIdeal.Pair.refDy m c, fun c => Cert.LossIdeal.Pair.refSum m c,
    (θ_run _ _ _).mono (fun r h c => ⟨(h c).1.trans (Cert.LossIdeal.Pair.finalDy m c), (h c).2.1.trans (Cert.LossIdeal.Pair.finalSum m c), (h c).2.2⟩)
      (Cert.LossIdeal.Value.run_blocks m g),
    (θ_run _ _ _).mono (fun r h c => ⟨(h c).1.trans ?_, (h c).2.1.trans ?_, (h c).2.2⟩) (Cert.LossRefIdeal.Value.run (F := Ideal) m' g')⟩
  · obtain ⟨h0, h1, h2, h3⟩ := hag c
    rw [Cert.LossRefIdeal.Read.val_main_v40_eq, h0, h1, h2, h3]
  · obtain ⟨h0, h1, h2, h3⟩ := hag c
    rw [Cert.LossRefIdeal.Read.val_main_v42_eq, h0, h1, h2, h3]

end Cert.LossPair
-- ==== Proof.LayerNorm.lean ====
module

public import proofs.«01_k».proof.Proof.Base

@[expose] public section

noncomputable section

namespace Cert.LayerNorm

open Idealize.ShloMosaic

/-! ## A row's statistics and the gradient through them, over the real numbers -/

variable {n : ℕ}

/-- The mean of a row. -/
def mean (z : Fin n → ℝ) : ℝ := (∑ k, z k) / (n : ℝ)

/-- The row less its mean. -/
def cen (z : Fin n → ℝ) (k : Fin n) : ℝ := z k - mean z

/-- The residual's factor: the value of its literal. -/
def alpha : ℝ := (Ideal.ofBits .f32 0x3FD744FD#32).toReal

theorem lit_alpha : Ideal.ofBits .f32 0x3FD744FD#32 = ((alpha : ℝ) : EReal) := by
  have h : Ideal.ofBits .f32 0x3FD744FD#32 = ((14107901 / 2 ^ 23 : ℝ) : EReal) := by
    simp [Ideal.ofBits, Ideal.ieee, -EReal.coe_mul]; norm_num
  unfold alpha
  rw [h, EReal.toReal_coe]

theorem lit_n : Ideal.ofBits .f32 0x44800000#32 = (((1024 : ℕ) : ℝ) : EReal) := by
  rw [Cert.Base.lit_1024]; norm_num

/-- An array of real numbers, as an array of extended ones. -/
abbrev up {s : Shape} (f : s.Idx → ℝ) : s.Idx → EReal := fun i => ((f i : ℝ) : EReal)

/-- The small number added to the variance: the value of its literal. -/
def eps : ℝ := (Ideal.ofBits .f32 0x3727C5AC#32).toReal

/-- The variance of a row, with the small number. -/
def ve (z : Fin n → ℝ) : ℝ := mean (fun k => cen z k * cen z k) + eps

/-- One over the deviation. -/
def rstd (z : Fin n → ℝ) : ℝ := (Real.sqrt (ve z))⁻¹

/-- The normalised row. -/
def nrm (z : Fin n → ℝ) (k : Fin n) : ℝ := cen z k * rstd z

/-- The gradient with respect to the row, from the gradient u with respect to the normalised row. -/
def lnb (z u : Fin n → ℝ) (k : Fin n) : ℝ :=
  rstd z * (u k - mean u - nrm z k * mean (fun j => u j * nrm z j))

theorem lit_eps : Ideal.ofBits .f32 0x3727C5AC#32 = ((eps : ℝ) : EReal) := by
  have h : Ideal.ofBits .f32 0x3727C5AC#32 = ((10995116 / 2 ^ 40 : ℝ) : EReal) := by
    simp [Ideal.ofBits, Ideal.ieee, -EReal.coe_mul]; norm_num
  unfold eps
  rw [h, EReal.toReal_coe]

theorem eps_pos : 0 < eps := by
  have h : Ideal.ofBits .f32 0x3727C5AC#32 = ((10995116 / 2 ^ 40 : ℝ) : EReal) := by
    simp [Ideal.ofBits, Ideal.ieee, -EReal.coe_mul]; norm_num
  unfold eps
  rw [h, EReal.toReal_coe]
  norm_num

theorem ve_pos (z : Fin n → ℝ) : 0 < ve z := by
  unfold ve mean
  have h : 0 ≤ (∑ k, cen z k * cen z k) / (n : ℝ) :=
    div_nonneg (Finset.sum_nonneg fun k _ => mul_self_nonneg _) (Nat.cast_nonneg n)
  have := eps_pos
  linarith

theorem rstd_sq (z : Fin n → ℝ) : rstd z * rstd z = (ve z)⁻¹ := by
  unfold rstd
  rw [← mul_inv, Real.mul_self_sqrt (ve_pos z).le]

theorem sum_cen (hn : n ≠ 0) (z : Fin n → ℝ) : ∑ k, cen z k = 0 := by
  unfold cen mean
  have : (n : ℝ) ≠ 0 := by exact_mod_cast hn
  rw [Finset.sum_sub_distrib, Finset.sum_const, Finset.card_univ, Fintype.card_fin, nsmul_eq_mul, mul_div_cancel₀ _ this, sub_self]

/-- The gradient as reverse accumulation writes it: through the centred row twice, through the variance, and through
    the mean. -/
theorem lnb_reverse (hn : n ≠ 0) (z u : Fin n → ℝ) (k : Fin n) (c : ℝ)
    (hc : c = (∑ j, cen z j * u j) * (-(1 / 2) * (rstd z / ve z)) / (n : ℝ)) :
    u k * rstd z + c * (2 * cen z k) + (∑ j, -(u j * rstd z) + ∑ j, -(c * (2 * cen z j))) / (n : ℝ) = lnb z u k := by
  have hn' : (n : ℝ) ≠ 0 := by exact_mod_cast hn
  have h0 : ∑ j, -(c * (2 * cen z j)) = 0 := by
    rw [Finset.sum_neg_distrib, ← Finset.mul_sum, ← Finset.mul_sum, sum_cen hn]; ring
  have h1 : ∑ j, -(u j * rstd z) = -((∑ j, u j) * rstd z) := by
    rw [Finset.sum_neg_distrib, ← Finset.sum_mul]
  have h2 : ∑ j, u j * nrm z j = (∑ j, cen z j * u j) * rstd z := by
    rw [Finset.sum_mul]
    exact Finset.sum_congr rfl fun j _ => by unfold nrm; ring
  have hv : rstd z / ve z = rstd z * (rstd z * rstd z) := by rw [rstd_sq, div_eq_mul_inv]
  unfold lnb
  rw [h0, h1, hc, hv]
  unfold mean
  rw [h2]
  unfold nrm
  field_simp
  ring

/-! ## The same operations on extended reals that are real numbers -/

theorem div_nat (a : ℝ) (hn : n ≠ 0) (w : EReal) (hw : w = ((n : ℝ) : EReal)) : Ideal.div (a : EReal) w = ((a / (n : ℝ) : ℝ) : EReal) := by
  have hn' : (n : ℝ) ≠ 0 := by exact_mod_cast hn
  rw [hw, Ideal.div_coe hn', ← EReal.coe_mul, mul_one_div]

theorem div_real (a b : ℝ) (hb : b ≠ 0) : Ideal.div (a : EReal) (b : EReal) = ((a / b : ℝ) : EReal) := by
  rw [Ideal.div_coe hb, ← EReal.coe_mul, mul_one_div]

theorem mean_up (hn : n ≠ 0) (f : Fin n → ℝ) (w : EReal) (hw : w = ((n : ℝ) : EReal)) :
    Ideal.div (∑ k, ((f k : ℝ) : EReal)) w = ((mean f : ℝ) : EReal) := by
  rw [Cert.Base.coe_sum, div_nat _ hn w hw]
  rfl

theorem rstd_up (z : Fin n → ℝ) : Ideal.rsqrt ((ve z : ℝ) : EReal) = ((rstd z : ℝ) : EReal) := by
  have h := ve_pos z
  rw [Ideal.rsqrt_coe, if_neg (not_lt.mpr h.le), if_neg h.ne']
  rfl

theorem norm_row (z : Fin n → ℝ) (k : Fin n) : ((cen z k : ℝ) : EReal) * Ideal.rsqrt ((ve z : ℝ) : EReal) = ((nrm z k : ℝ) : EReal) := by
  rw [rstd_up, ← EReal.coe_mul]
  rfl

/-- The logistic function. -/
def sgm (v : ℝ) : ℝ := 1 / (1 + Real.exp (-v))

theorem sgm_up (v : ℝ) : Ideal.div 1 (1 + ((Real.exp (-v) : ℝ) : EReal)) = ((sgm v : ℝ) : EReal) := by
  have h : 1 + Real.exp (-v) ≠ 0 := by
    have := Real.exp_pos (-v)
    linarith
  rw [← EReal.coe_one, ← EReal.coe_add, div_real _ _ h]
  rfl

theorem one_sub_up (v : ℝ) : (1 : EReal) - ((v : ℝ) : EReal) = ((1 - v : ℝ) : EReal) := by
  rw [← EReal.coe_one, ← EReal.coe_sub]

theorem one_add_up (v : ℝ) : (1 : EReal) + ((v : ℝ) : EReal) = ((1 + v : ℝ) : EReal) := by
  rw [← EReal.coe_one, ← EReal.coe_add]

/-- The gradient through a row's normalisation as the kernels write it, on extended reals; w is the row's length. -/
def lnbAt (u xh : Fin n → EReal) (r w : EReal) (k : Fin n) : EReal :=
  r * ((u k - Ideal.div (∑ j, u j) w) - xh k * Ideal.div (∑ j, u j * xh j) w)

theorem lnbAt_eq (hn : n ≠ 0) {u xh : Fin n → EReal} {r w : EReal} (hw : w = ((n : ℝ) : EReal)) (z U : Fin n → ℝ) (hu : ∀ j, u j = ((U j : ℝ) : EReal))
    (hx : ∀ j, xh j = ((nrm z j : ℝ) : EReal)) (hr : r = ((rstd z : ℝ) : EReal)) (k : Fin n) : lnbAt u xh r w k = ((lnb z U k : ℝ) : EReal) := by
  unfold lnbAt
  simp only [hu, hx, hr, ← EReal.coe_mul, mean_up hn _ _ hw, ← EReal.coe_sub]
  rfl

/-- An index of two coordinates is the one with these coordinates. -/
theorem at2 {p q : ℕ} (i : (⟨2, ![p, q]⟩ : Shape).Idx) (a : Fin p) (k : Fin q) (h0 : (i 0 : ℕ) = a) (h1 : (i 1 : ℕ) = k) : i = ix2 a k := by
  rw [eq_ix2 i, Fin.ext h0, Fin.ext h1]

theorem at2' {p q : ℕ} {i : (⟨2, ![p, q]⟩ : Shape).Idx} {a : ℕ} {k : Fin q} (h0 : (i 0 : ℕ) = a) (ha : a < p) (h1 : (i 1 : ℕ) = k) : i = ix2 ⟨a, ha⟩ k :=
  at2 i ⟨a, ha⟩ k h0 h1

theorem at2'' {p q : ℕ} {i : (⟨2, ![p, q]⟩ : Shape).Idx} {a k : ℕ} (h0 : (i 0 : ℕ) = a) (ha : a < p) (h1 : (i 1 : ℕ) = k) (hk : k < q) : i = ix2 ⟨a, ha⟩ ⟨k, hk⟩ :=
  at2 i ⟨a, ha⟩ ⟨k, hk⟩ h0 h1

/-- A sum over 1024 rows as four sums over 256, first to last, onto a first term. -/
theorem sum_quarters (e : EReal) (f : Fin 1024 → EReal) : e + ∑ x : Fin 256, f ⟨x, by omega⟩ + ∑ x : Fin 256, f ⟨256 + x, by omega⟩
    + ∑ x : Fin 256, f ⟨512 + x, by omega⟩ + ∑ x : Fin 256, f ⟨768 + x, by omega⟩ = e + ∑ i, f i := by
  have h3 := Fin.sum_univ_add (a := 768) (b := 256) f
  have h2 := Fin.sum_univ_add (a := 512) (b := 256) (fun i => f (Fin.castAdd 256 i))
  have h1 := Fin.sum_univ_add (a := 256) (b := 256) (fun i => f (Fin.castAdd 256 (Fin.castAdd 256 i)))
  rw [show ∑ i, f i = _ from h3, show ∑ i : Fin 768, f (Fin.castAdd 256 i) = _ from h2, show ∑ i : Fin 512, f (Fin.castAdd 256 (Fin.castAdd 256 i)) = _ from h1]
  simp only [← add_assoc]
  rfl

/-- An array whose absolute values lie under infinity is one of real numbers. -/
theorem real_of_lt {s : Shape} (a b : FVec Ideal s .f32) (hb : ∀ i, b i = (⊤ : EReal)) (h : cmpf .olt (Host.absf a) b = fun _ => 1#1) :
    ∃ f : s.Idx → ℝ, a = up f := by
  refine ⟨fun i => EReal.toReal (a i), funext fun i => ?_⟩
  have hi : Ideal.cmp .olt (max (a i) (-(a i) : EReal)) (b i) = 1#1 := congrFun h i
  rw [hb] at hi
  have hlt : max (a i) (-(a i) : EReal) < ⊤ := by
    by_contra hn
    simp [Ideal.cmp, hn] at hi
  have h1 : (a i : EReal) ≠ ⊤ := (lt_of_le_of_lt (le_max_left _ _) hlt).ne
  have h2 : (a i : EReal) ≠ ⊥ := fun hbot => by rw [hbot] at hlt; simp at hlt
  exact (EReal.coe_toReal h1 h2).symm

theorem lit_inf : Ideal.ofBits .f32 0x7F800000#32 = ⊤ := by
  simp [Ideal.ofBits, Ideal.ieee]

end Cert.LayerNorm

end
-- ==== Proof.NormRefValue.lean ====
module

public import proofs.«01_k».proof.Defs
public import proofs.«01_k».proof.Proof.LayerNorm
public import proofs.«01_k».proof.Proof.Gen.NormRefIdeal.Run
public import proofs.«01_k».proof.Proof.Gen.NormRefIdeal.Read
public import Idealize.ShloMosaic.Lib.Pipeline.ValueKit

@[expose] public section

set_option maxRecDepth 16384

noncomputable section

open Idealize.ShloMosaic

namespace Cert.NormRefIdeal.Pair

open Cert.NormRefIdeal Cert.NormRefIdeal.Read Cert.LayerNorm

variable (X C : S16384x1024.Idx → ℝ) (W : S1024x1024.Idx → ℝ) (G : S1024.Idx → ℝ) (T : S16384x1024.Idx → ℝ)

/-- A row of the normalisation's argument. -/
def zrow (a : Fin 16384) (k : Fin 1024) : ℝ := alpha * X (ix2 a k) + ∑ j : Fin 1024, C (ix2 a j) * W (ix2 j k)

/-- A row of the gradient with respect to the normalised rows. -/
def urow (a : Fin 16384) (k : Fin 1024) : ℝ := T (ix2 a k) * G (ix1 k)

theorem ref_z (a : Fin 16384) (k : Fin 1024) : val_main_v5 (F := Ideal) (up X) (up C) (up W) (ix2 a k) = ((zrow X C W a k : ℝ) : EReal) := by
  pointwise [val_main_v5, val_main_v4, val_main_v3, val_main_v2, val_main_v1, val_main_v0, val_main_cst, val_main_cst_0]
  simp only [lit_alpha, zrow, ← EReal.coe_mul, Cert.Base.coe_sum, ← EReal.coe_add]

theorem ref_mu (a : Fin 16384) : val_main_v9 (F := Ideal) (up X) (up C) (up W) (ix2 a 0) = ((mean (zrow X C W a) : ℝ) : EReal) := by
  pointwise [val_main_v9, val_main_v8, val_main_v7, val_main_v6, val_main_cst_1, val_main_cst_2]
  simp only [ref_z, mean_up (by decide : 1024 ≠ 0) _ _ lit_n]

theorem ref_zc (a : Fin 16384) (k : Fin 1024) : val_main_v20 (F := Ideal) (up X) (up C) (up W) (ix2 a k) = ((cen (zrow X C W a) k : ℝ) : EReal) := by
  pointwise [val_main_v20, val_main_v19]
  simp only [ref_z, ref_mu, ← EReal.coe_sub, cen]

theorem ref_zc' (a : Fin 16384) (k : Fin 1024) : val_main_v11 (F := Ideal) (up X) (up C) (up W) (ix2 a k) = ((cen (zrow X C W a) k : ℝ) : EReal) := by
  pointwise [val_main_v11, val_main_v10]
  simp only [ref_z, ref_mu, ← EReal.coe_sub, cen]

theorem ref_ve (a : Fin 16384) : val_main_v22 (F := Ideal) (up X) (up C) (up W) (ix2 a 0) = ((ve (zrow X C W a) : ℝ) : EReal) := by
  pointwise [val_main_v22, val_main_v21, val_main_v18, val_main_v17, val_main_v16, val_main_v15, val_main_v12, val_main_cst_4, val_main_cst_5, val_main_cst_6]
  simp only [ref_zc', ← EReal.coe_mul, mean_up (by decide : 1024 ≠ 0) _ _ lit_n, lit_eps, ← EReal.coe_add, ve]

theorem ref_r (a : Fin 16384) : val_main_v23 (F := Ideal) (up X) (up C) (up W) (ix2 a 0) = ((rstd (zrow X C W a) : ℝ) : EReal) := by
  pointwise [val_main_v23]
  simp only [ref_ve, rstd_up]

theorem ref_xh (a : Fin 16384) (k : Fin 1024) : val_main_v28 (F := Ideal) (up X) (up C) (up W) (ix2 a k) = ((nrm (zrow X C W a) k : ℝ) : EReal) := by
  pointwise [val_main_v28, val_main_v27]
  simp only [ref_zc, ref_r, ← EReal.coe_mul, nrm]

theorem ref_u (a : Fin 16384) (k : Fin 1024) : val_main_v43 (F := Ideal) (up G) (up T) (ix2 a k) = ((urow G T a k : ℝ) : EReal) := by
  pointwise [val_main_v43, val_main_v42, val_main_v35, val_main_v29]
  simp only [← EReal.coe_mul, urow]

theorem ref_v50 (a : Fin 16384) : val_main_v55 (F := Ideal) (up X) (up C) (up W) (up G) (up T) (ix2 a 0)
    = (((∑ j, cen (zrow X C W a) j * urow G T a j) * (-(1 / 2) * (rstd (zrow X C W a) / ve (zrow X C W a))) / ((1024 : ℕ) : ℝ) : ℝ) : EReal) := by
  pointwise [val_main_v55, val_main_v54, val_main_v50, val_main_v47, val_main_v46, val_main_v45, val_main_v26, val_main_v25, val_main_v24, val_main_cst_7, val_main_cst_12, val_main_cst_14]
  simp only [ref_zc, ref_u, ref_r, ref_ve, ← EReal.coe_mul, Cert.Base.coe_sum, Cert.Base.lit_neg_half, div_real _ _ (ve_pos _).ne', div_nat _ (by decide : 1024 ≠ 0) _ lit_n]

theorem ref_dz (a : Fin 16384) (k : Fin 1024) : val_main_v68 (F := Ideal) (up X) (up C) (up W) (up G) (up T) (ix2 a k)
    = ((lnb (zrow X C W a) (urow G T a) k : ℝ) : EReal) := by
  rw [← lnb_reverse (by decide) (zrow X C W a) (urow G T a) k _ rfl]
  pointwise [val_main_v68, val_main_v67, val_main_v66, val_main_v65, val_main_v64, val_main_v63, val_main_v62, val_main_v61, val_main_v60, val_main_v59, val_main_v58,
    val_main_v57, val_main_v56, val_main_v53, val_main_v52, val_main_v51, val_main_v49, val_main_v48, val_main_v14, val_main_v13, val_main_cst_3,
    val_main_cst_13, val_main_cst_15, val_main_cst_16, val_main_cst_17, val_main_cst_18]
  simp only [Fin.sum_univ_one, ref_v50, ref_u, ref_r, ref_zc', Cert.Base.lit_two, ← EReal.coe_mul, ← EReal.coe_neg, Cert.Base.coe_sum, ← EReal.coe_add, div_nat _ (by decide : 1024 ≠ 0) _ lit_n]

theorem ref_da (a : Fin 16384) (k : Fin 1024) : val_main_v69 (F := Ideal) (up X) (up C) (up W) (up G) (up T) (ix2 a k)
    = ∑ j : Fin 1024, ((lnb (zrow X C W a) (urow G T a) j : ℝ) : EReal) * up W (ix2 k j) := by
  pointwise [val_main_v69]
  simp only [ref_dz]

theorem ref_dgam (k : Fin 1024) : val_main_v72 (F := Ideal) (up X) (up C) (up W) (up T) (ix2 0 k)
    = ∑ a : Fin 16384, up T (ix2 a k) * ((nrm (zrow X C W a) k : ℝ) : EReal) := by
  pointwise [val_main_v72, val_main_v44, val_main_v41, val_main_v40, val_main_v39, val_main_v35, val_main_cst_10, val_main_cst_11]
  simp only [Fin.sum_univ_one, ref_xh, mul_comm]

theorem ref_dbet (k : Fin 1024) : val_main_v73 (F := Ideal) (up T) (ix2 0 k) = ∑ a : Fin 16384, up T (ix2 a k) := by
  pointwise [val_main_v73, val_main_v38, val_main_v37, val_main_v36, val_main_cst_8, val_main_cst_9]
  simp only [Fin.sum_univ_one]

end Cert.NormRefIdeal.Pair

end
-- ==== Proof.NormValue.lean ====
module

public import proofs.«01_k».proof.Proof.NormRefValue
public import proofs.«01_k».proof.Proof.Gen.NormIdeal.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormIdeal.Pair

open Cert.NormIdeal Cert.NormIdeal.Gen Cert.LayerNorm
open Cert.NormRefIdeal.Pair (zrow urow)

variable (m : (ℓ : Loc nD τ sig) → Buf (Elt Ideal) ℓ)
variable (X C : S16384x1024.Idx → ℝ) (W : S1024x1024.Idx → ℝ) (G : S1024.Idx → ℝ) (T : S16384x1024.Idx → ℝ)

/-- The arguments of one device are these arrays of real numbers. -/
structure Args (c : Dev nD) : Prop where
  x : m ((c : Thread nD τ).loc main_arg0) = up X
  cat : m ((c : Thread nD τ).loc main_arg1) = up C
  w : m ((c : Thread nD τ).loc main_arg2) = up W
  gam : m ((c : Thread nD τ).loc main_arg3) = up G
  ct : m ((c : Thread nD τ).loc main_arg5) = up T

variable {m X C W G T} {c : Dev nD} (h : Args m X C W G T c)

/-- The windows' block indices. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ win0_8.index t = ![0, 0]
    ∧ win0_9.index t = ![0, 0] :=
  (by decide +kernel : ∀ t : Fin grid0.N, _)

include h

theorem entry_z (a : Fin 16384) (k : Fin 1024) : Ideal.ofBits .f32 0x3FD744FD#32 * up X (ix2 a k) + ∑ x : Fin 1024, up C (ix2 a x) * up W (ix2 x k) = ((zrow X C W a k : ℝ) : EReal) := by
  simp only [lit_alpha, zrow, ← EReal.coe_mul, Cert.Base.coe_sum, ← EReal.coe_add]

/-- The normalised rows the region reads. -/
theorem entry_xh (i : S16384x1024.Idx) (a : Fin 16384) (k : Fin 1024) (h0 : (i 0 : ℕ) = a) (h1 : (i 1 : ℕ) = k) : V m c main_v21 i = ((nrm (zrow X C W a) k : ℝ) : EReal) := by
  unfold V
  after_results_simp
  rw [h.x, h.cat, h.w, at2 i a k h0 h1]
  pointwise []
  simp only [entry_z h]
  simp only [mean_up (by decide : 1024 ≠ 0) _ _ lit_n, ← EReal.coe_sub, ← EReal.coe_mul, lit_eps, ← EReal.coe_add]
  exact norm_row _ _

/-- The rows' reciprocal deviations the region reads. -/
theorem entry_r (i : S16384x1.Idx) (a : Fin 16384) (k : Fin 1) (h0 : (i 0 : ℕ) = a) (h1 : (i 1 : ℕ) = k) : V m c main_v19 i = ((rstd (zrow X C W a) : ℝ) : EReal) := by
  unfold V
  after_results_simp
  rw [h.x, h.cat, h.w, at2 i a k h0 h1]
  pointwise []
  simp only [entry_z h]
  simp only [mean_up (by decide : 1024 ≠ 0) _ _ lit_n, ← EReal.coe_sub, ← EReal.coe_mul, lit_eps, ← EReal.coe_add]
  exact rstd_up _

/-- The scale row the region reads. -/
theorem entry_gam (i : S1x1024.Idx) (k : Fin 1024) (h0 : (i 0 : ℕ) = (0 : Fin 1)) (h1 : (i 1 : ℕ) = k) : V m c main_v22 i = ((G (ix1 k) : ℝ) : EReal) := by
  unfold V
  after_results_simp
  rw [h.gam, at2 i 0 k h0 h1]
  pointwise []

/-- The projection's weight the region reads. -/
theorem entry_w (i : S1024x1024.Idx) : V m c main_v1 i = ((W i : ℝ) : EReal) := by
  unfold V
  after_results_simp
  rw [h.w]
  pointwise []

/-- The blocks a grid point reads, at the array's indices. -/
theorem blk_ct (t : Fin cfg0.N) (y : S1024x1024.Idx) (a : Fin 16384) (k : Fin 1024) (h0 : (a : ℕ) = t.val * 1024 + y 0) (h1 : (k : ℕ) = y 1) :
    iblk m c 0 t y = ((T (ix2 a k) : ℝ) : EReal) := by
  blk_simp [iblk, idx t]
  refine (congrFun h.ct _).trans (congrArg (fun i => ((T i : ℝ) : EReal)) (at2 _ a k ?_ ?_)) <;> (blk_simp [idx t, h0, h1] <;> rfl)

theorem blk_xh (t : Fin cfg0.N) (y : S1024x1024.Idx) (a : Fin 16384) (k : Fin 1024) (h0 : (a : ℕ) = t.val * 1024 + y 0) (h1 : (k : ℕ) = y 1) :
    iblk m c 1 t y = ((nrm (zrow X C W a) k : ℝ) : EReal) := by
  blk_simp [iblk, idx t]
  refine entry_xh h _ a k ?_ ?_ <;> (blk_simp [idx t, h0, h1] <;> rfl)

theorem blk_r (t : Fin cfg0.N) (y : S1024x1.Idx) (a : Fin 16384) (h0 : (a : ℕ) = t.val * 1024 + y 0) :
    iblk m c 2 t y = ((rstd (zrow X C W a) : ℝ) : EReal) := by
  blk_simp [iblk, idx t]
  refine entry_r h _ a 0 ?_ ?_ <;> (blk_simp [idx t, h0] <;> rfl)

theorem blk_gam (t : Fin cfg0.N) (y : S1x1024.Idx) (k : Fin 1024) (h1 : (k : ℕ) = y 1) :
    iblk m c 3 t y = ((G (ix1 k) : ℝ) : EReal) := by
  blk_simp [iblk, idx t]
  refine entry_gam h _ k ?_ ?_ <;> (blk_simp [idx t, h1] <;> rfl)

theorem blk_w (t : Fin cfg0.N) (y : S1024x1024.Idx) : iblk m c 4 t y = ((W y : ℝ) : EReal) := by
  blk_simp [iblk, idx t]
  refine (entry_w h _).trans (congrArg (fun i => ((W i : ℝ) : EReal)) ((at2 _ (y 0) (y 1) ?_ ?_).trans (eq_ix2 y).symm)) <;> (blk_simp [idx t] <;> rfl)

omit h

/-- The gradient's rows from one point's blocks, as extended reals. -/
def dzAt (ct xh : S1024x1024.Idx → EReal) (rs : S1024x1.Idx → EReal) (gam : S1x1024.Idx → EReal) (i : S1024x1024.Idx) : EReal :=
  lnbAt (fun j => ct (ix2 (i 0) j) * gam (ix2 0 j)) (fun j => xh (ix2 (i 0) j)) (rs (ix2 (i 0) 0)) (Ideal.ofBits .f32 0x44800000#32) (i 1)

theorem dzAt_real (ct xh : S1024x1024.Idx → EReal) (rs : S1024x1.Idx → EReal) (gam : S1x1024.Idx → EReal) (y : S1024x1024.Idx) (z p g : Fin 1024 → ℝ)
    (hp : ∀ j, ct (ix2 (y 0) j) = ((p j : ℝ) : EReal)) (hx : ∀ j, xh (ix2 (y 0) j) = ((nrm z j : ℝ) : EReal)) (hr : rs (ix2 (y 0) 0) = ((rstd z : ℝ) : EReal))
    (hg : ∀ j, gam (ix2 0 j) = ((g j : ℝ) : EReal)) : dzAt ct xh rs gam y = ((lnb z (fun j => p j * g j) (y 1) : ℝ) : EReal) :=
  lnbAt_eq (by decide) lit_n _ _ (fun j => by rw [hp, hg, ← EReal.coe_mul]) hx hr _

theorem dzAt_eq (h : Args m X C W G T c) (t : Fin cfg0.N) (y : S1024x1024.Idx) (a : Fin 16384) (h0 : (a : ℕ) = t.val * 1024 + y 0) :
    dzAt (iblk m c 0 t) (iblk m c 1 t) (iblk m c 2 t) (iblk m c 3 t) y = ((lnb (zrow X C W a) (urow G T a) (y 1) : ℝ) : EReal) :=
  dzAt_real _ _ _ _ y _ _ _ (fun j => blk_ct h t (ix2 (y 0) j) a j h0 rfl) (fun j => blk_xh h t (ix2 (y 0) j) a j h0 rfl) (blk_r h t (ix2 (y 0) 0) a h0)
    (fun j => blk_gam h t (ix2 0 j) j rfl)

/-- What a point stores of the gradient is its blocks' formula: four pieces of 256 rows. -/
theorem piece_dz (c : Dev nD) (t : Fin cfg0.N) (y) : (outsAt0 m c t.val t.isLt).1 y = dzAt (iblk m c 0 t) (iblk m c 1 t) (iblk m c 2 t) (iblk m c 3 t) y := by
  by_cases h : t.val % 16 = 0
  · rw [outsAt0_A m c t h]
    frame_out
    canon_tiles x hx
    all_goals (rw [at2' hx0 (by omega) hx1]; open_payloads; pointwise [dzAt, lnbAt])
  · rw [outsAt0_B m c t h]
    frame_out
    canon_tiles x hx
    all_goals (rw [at2' hx0 (by omega) hx1]; open_payloads; pointwise [dzAt, lnbAt])

theorem piece_dzb (c : Dev nD) (t : Fin cfg0.N) (y) : (outsAt0 m c t.val t.isLt).2.1 y = dzAt (iblk m c 0 t) (iblk m c 1 t) (iblk m c 2 t) (iblk m c 3 t) y := by
  by_cases h : t.val % 16 = 0
  · rw [outsAt0_A m c t h]
    frame_out
    canon_tiles x hx
    all_goals (rw [at2' hx0 (by omega) hx1]; open_payloads; pointwise [dzAt, lnbAt])
  · rw [outsAt0_B m c t h]
    frame_out
    canon_tiles x hx
    all_goals (rw [at2' hx0 (by omega) hx1]; open_payloads; pointwise [dzAt, lnbAt])

/-- The product with the weight, from one point's blocks. -/
def daAt (ct xh : S1024x1024.Idx → EReal) (rs : S1024x1.Idx → EReal) (gam : S1x1024.Idx → EReal) (w : S1024x1024.Idx → EReal) (i : S1024x1024.Idx) : EReal :=
  ∑ j : Fin 1024, dzAt ct xh rs gam (ix2 (i 0) j) * w (ix2 (i 1) j)

theorem piece_da (c : Dev nD) (t : Fin cfg0.N) (y) : (outsAt0 m c t.val t.isLt).2.2.1 y = daAt (iblk m c 0 t) (iblk m c 1 t) (iblk m c 2 t) (iblk m c 3 t) (iblk m c 4 t) y := by
  by_cases h : t.val % 16 = 0
  · rw [outsAt0_A m c t h]
    frame_out
    canon_tiles x hx
    all_goals (rw [at2' hx0 (by omega) hx1]; open_payloads; pointwise [daAt, dzAt, lnbAt])
  · rw [outsAt0_B m c t h]
    frame_out
    canon_tiles x hx
    all_goals (rw [at2' hx0 (by omega) hx1]; open_payloads; pointwise [daAt, dzAt, lnbAt])

/-- One column's sum of products over a point's rows. -/
def colAt (ct xh : S1024x1024.Idx → EReal) (k : Fin 1024) : EReal := ∑ i : Fin 1024, ct (ix2 i k) * xh (ix2 i k)

/-- One column's sum over a point's rows. -/
def sumAt (ct : S1024x1024.Idx → EReal) (k : Fin 1024) : EReal := ∑ i : Fin 1024, ct (ix2 i k)

theorem col_quarters (e : EReal) (ct xh : S1024x1024.Idx → EReal) (k : Fin 1024) : e + ∑ x : Fin 256, ct (ix2 ⟨x, by omega⟩ k) * xh (ix2 ⟨x, by omega⟩ k)
    + ∑ x : Fin 256, ct (ix2 ⟨256 + x, by omega⟩ k) * xh (ix2 ⟨256 + x, by omega⟩ k) + ∑ x : Fin 256, ct (ix2 ⟨512 + x, by omega⟩ k) * xh (ix2 ⟨512 + x, by omega⟩ k)
    + ∑ x : Fin 256, ct (ix2 ⟨768 + x, by omega⟩ k) * xh (ix2 ⟨768 + x, by omega⟩ k) = e + colAt ct xh k :=
  sum_quarters e (fun i => ct (ix2 i k) * xh (ix2 i k))

theorem row_quarters (e : EReal) (ct : S1024x1024.Idx → EReal) (k : Fin 1024) : e + ∑ x : Fin 256, ct (ix2 ⟨x, by omega⟩ k) + ∑ x : Fin 256, ct (ix2 ⟨256 + x, by omega⟩ k)
    + ∑ x : Fin 256, ct (ix2 ⟨512 + x, by omega⟩ k) + ∑ x : Fin 256, ct (ix2 ⟨768 + x, by omega⟩ k) = e + sumAt ct k :=
  sum_quarters e (fun i => ct (ix2 i k))

theorem outs_dg_A (c : Dev nD) (t : Fin cfg0.N) (h : t.val % 16 = 0) (y) : (outsAt0 m c t.val t.isLt).2.2.2.1 y
    = 0 + colAt (iblk m c 0 t) (iblk m c 1 t) (y 1) := by
  refine Eq.trans ?_ (col_quarters 0 _ _ _)
  rw [zero_add, outsAt0_A m c t h]
  frame_out
  open_payloads
  pointwise []

theorem outs_dg_B (c : Dev nD) (t : Fin cfg0.N) (h : ¬ t.val % 16 = 0) (y) : (outsAt0 m c t.val t.isLt).2.2.2.1 y
    = (outsAt0 m c (t.val - 1) (Nat.lt_of_le_of_lt (Nat.sub_le _ _) t.isLt)).2.2.2.1 y + colAt (iblk m c 0 t) (iblk m c 1 t) (y 1) := by
  refine Eq.trans ?_ (col_quarters _ _ _ _)
  rw [outsAt0_B m c t h]
  frame_out
  generalize (outsAt0 m c (t.val - 1) _).2.2.2.1 = acc
  open_payloads
  pointwise []

theorem outs_db_A (c : Dev nD) (t : Fin cfg0.N) (h : t.val % 16 = 0) (y) : (outsAt0 m c t.val t.isLt).2.2.2.2 y
    = 0 + sumAt (iblk m c 0 t) (y 1) := by
  refine Eq.trans ?_ (row_quarters 0 _ _)
  rw [zero_add, outsAt0_A m c t h]
  frame_out
  open_payloads
  pointwise []

theorem outs_db_B (c : Dev nD) (t : Fin cfg0.N) (h : ¬ t.val % 16 = 0) (y) : (outsAt0 m c t.val t.isLt).2.2.2.2 y
    = (outsAt0 m c (t.val - 1) (Nat.lt_of_le_of_lt (Nat.sub_le _ _) t.isLt)).2.2.2.2 y + sumAt (iblk m c 0 t) (y 1) := by
  refine Eq.trans ?_ (row_quarters _ _ _)
  rw [outsAt0_B m c t h]
  frame_out
  generalize (outsAt0 m c (t.val - 1) _).2.2.2.2 = acc
  open_payloads
  pointwise []

/-- The results, of the arrays of real numbers. -/
def outDz (X C : S16384x1024.Idx → ℝ) (W : S1024x1024.Idx → ℝ) (G : S1024.Idx → ℝ) (T : S16384x1024.Idx → ℝ) (j : S16384x1024.Idx) : EReal :=
  ((lnb (zrow X C W (j 0)) (urow G T (j 0)) (j 1) : ℝ) : EReal)

def outDa (X C : S16384x1024.Idx → ℝ) (W : S1024x1024.Idx → ℝ) (G : S1024.Idx → ℝ) (T : S16384x1024.Idx → ℝ) (j : S16384x1024.Idx) : EReal :=
  ∑ k : Fin 1024, ((lnb (zrow X C W (j 0)) (urow G T (j 0)) k : ℝ) : EReal) * ((W (ix2 (j 1) k) : ℝ) : EReal)

def outDg (X C : S16384x1024.Idx → ℝ) (W : S1024x1024.Idx → ℝ) (T : S16384x1024.Idx → ℝ) (j : S1x1024.Idx) : EReal :=
  ∑ a : Fin 16384, ((T (ix2 a (j 1)) : ℝ) : EReal) * ((nrm (zrow X C W a) (j 1) : ℝ) : EReal)

def outDb (T : S16384x1024.Idx → ℝ) (j : S1x1024.Idx) : EReal := ∑ a : Fin 16384, ((T (ix2 a (j 1)) : ℝ) : EReal)

include h

theorem point_dz (t : Fin cfg0.N) (y : S1024x1024.Idx) (j : S16384x1024.Idx) (h0 : (j 0 : ℕ) = t.val * 1024 + y 0) (h1 : (j 1 : ℕ) = y 1) :
    dzAt (iblk m c 0 t) (iblk m c 1 t) (iblk m c 2 t) (iblk m c 3 t) y = outDz X C W G T j := by
  rw [dzAt_eq h t y (j 0) h0, outDz, show j 1 = y 1 from Fin.ext h1]

theorem point_da (t : Fin cfg0.N) (y : S1024x1024.Idx) (j : S16384x1024.Idx) (h0 : (j 0 : ℕ) = t.val * 1024 + y 0) (h1 : (j 1 : ℕ) = y 1) :
    daAt (iblk m c 0 t) (iblk m c 1 t) (iblk m c 2 t) (iblk m c 3 t) (iblk m c 4 t) y = outDa X C W G T j := by
  unfold daAt outDa
  rw [show j 1 = y 1 from Fin.ext h1]
  exact Finset.sum_congr rfl fun k _ => congrArg₂ (fun p q : EReal => p * q) (dzAt_eq h t (ix2 (y 0) k) (j 0) h0) (blk_w h t (ix2 (y 1) k))

/-- The results after the run. -/
theorem final_dz : (dats m 0 c).arrAt 5 cfg0.N = outDz X C W G T := by
  refine (dats m 0 c).arrAt_eq_of_covers 5 _ (by decide +kernel) fun t hf y => ?_
  blk_simp
  rw [after0_5, piece_dz]
  exact point_dz h t y _ (by blk_simp [idx t]) (by blk_simp [idx t])

theorem final_dzb : (dats m 0 c).arrAt 6 cfg0.N = outDz X C W G T := by
  refine (dats m 0 c).arrAt_eq_of_covers 6 _ (by decide +kernel) fun t hf y => ?_
  blk_simp
  rw [after0_6, piece_dzb]
  exact point_dz h t y _ (by blk_simp [idx t]) (by blk_simp [idx t])

theorem final_da : (dats m 0 c).arrAt 7 cfg0.N = outDa X C W G T := by
  refine (dats m 0 c).arrAt_eq_of_covers 7 _ (by decide +kernel) fun t hf y => ?_
  blk_simp
  rw [after0_7, piece_da]
  exact point_da h t y _ (by blk_simp [idx t]) (by blk_simp [idx t])

theorem col_term (t : Fin cfg0.N) (i k k' : Fin 1024) (a : Fin 16384) (h0 : (a : ℕ) = t.val * 1024 + i) (hk : (k' : ℕ) = k) :
    (fun p q : EReal => p * q) (iblk m c 0 t (ix2 i k)) (iblk m c 1 t (ix2 i k)) = ((T (ix2 a k') : ℝ) : EReal) * ((nrm (zrow X C W a) k' : ℝ) : EReal) :=
  congrArg₂ (fun p q : EReal => p * q) (blk_ct h t (ix2 i k) a k' h0 hk) (blk_xh h t (ix2 i k) a k' h0 hk)

theorem final_dg : (dats m 0 c).arrAt 8 cfg0.N = outDg X C W T := by
  refine (dats m 0 c).arrAt_eq_of_covers 8 _ (by decide +kernel) fun t hf y => ?_
  blk_simp
  rw [after0_8, Pipeline.eq_sum_fin_of_reset_step_apply_of_flush (fun n h => (outsAt0 m c n h).2.2.2.1) 16 (fun _ => 0) (fun t j => colAt (iblk m c 0 t) (iblk m c 1 t) (j 1))
    (fun t h j => outs_dg_A c t h j) (fun t h j => outs_dg_B c t h j) t ((flush0_8 t).mp hf) _, zero_add]
  unfold outDg
  refine Fin.sum_mul_add_congr fun s k hl => ?_
  have hs : 16 * (t.val / 16) + s.val = s.val := by have := t.isLt; have hN : cfg0.grid.N = 16 := N_0; omega
  exact col_term h _ k _ _ _ (by simp [hs]) (by blk_simp [idx t])

theorem final_db : (dats m 0 c).arrAt 9 cfg0.N = outDb T := by
  refine (dats m 0 c).arrAt_eq_of_covers 9 _ (by decide +kernel) fun t hf y => ?_
  blk_simp
  rw [after0_9, Pipeline.eq_sum_fin_of_reset_step_apply_of_flush (fun n h => (outsAt0 m c n h).2.2.2.2) 16 (fun _ => 0) (fun t j => sumAt (iblk m c 0 t) (j 1))
    (fun t h j => outs_db_A c t h j) (fun t h j => outs_db_B c t h j) t ((flush0_9 t).mp hf) _, zero_add]
  unfold outDb
  refine Fin.sum_mul_add_congr fun s k hl => ?_
  have hs : 16 * (t.val / 16) + s.val = s.val := by have := t.isLt; have hN : cfg0.grid.N = 16 := N_0; omega
  exact blk_ct h _ (ix2 k _) _ _ (by simp [hs]) (by blk_simp [idx t])

end Cert.NormIdeal.Pair

namespace Cert.NormPair

open Cert.LayerNorm

/-- The reference's frame. -/
theorem quiescent_ref : Cert.quiescent_NormRefIdeal (hNormRefIdeal := Cert.NormRefIdeal.Gen.facts) := fun m ρ _ =>
  (θ_run Cert.NormRefIdeal.defs _ _).mono (fun r h => ⟨fun c => (h c).2.2.2.2.2, sem_eq_zero_of_no_sems (by decide) r.2⟩)
    (Cert.NormRefIdeal.Value.run (F := Ideal) m ρ)

/-- The precondition's shapes. -/
instance preFacts : Cert.Pre_norm_finite.Facts := ⟨by decide, by decide, by decide⟩

/-- Under the precondition the arguments are arrays of real numbers. -/
theorem args (m : (ℓ : Loc Cert.NormIdeal.nD Cert.NormIdeal.τ Cert.NormIdeal.sig) → Buf (Elt Ideal) ℓ) (h : Cert.Pre_NormIdeal_norm_finite m) (c) :
    ∃ X C W G T, Cert.NormIdeal.Pair.Args m X C W G T c := by
  obtain ⟨h0, h1, h2, h3, h4⟩ := h c
  obtain ⟨X, hX⟩ := real_of_lt _ _ (fun _ => lit_inf) h0
  obtain ⟨C, hC⟩ := real_of_lt _ _ (fun _ => lit_inf) h1
  obtain ⟨W, hW⟩ := real_of_lt _ _ (fun _ => lit_inf) h2
  obtain ⟨G, hG⟩ := real_of_lt _ _ (fun _ => lit_inf) h3
  obtain ⟨T, hT⟩ := real_of_lt _ _ (fun _ => lit_inf) h4
  exact ⟨X, C, W, G, T, ⟨hX, hC, hW, hG, hT⟩⟩

open Cert.NormIdeal.Pair (outDz outDa outDg outDb) in
/-- The reference's results, of the arrays of real numbers. -/
theorem ref_results (X C : Cert.NormRefIdeal.S16384x1024.Idx → ℝ) (W : Cert.NormRefIdeal.S1024x1024.Idx → ℝ) (G : Cert.NormRefIdeal.S1024.Idx → ℝ) (T : Cert.NormRefIdeal.S16384x1024.Idx → ℝ) :
    Cert.NormRefIdeal.Read.val_main_v68 (F := Ideal) (up X) (up C) (up W) (up G) (up T) = outDz X C W G T
    ∧ Cert.NormRefIdeal.Read.val_main_v70 (F := Ideal) (up X) (up C) (up W) (up G) (up T) = outDz X C W G T
    ∧ Cert.NormRefIdeal.Read.val_main_v71 (F := Ideal) (up X) (up C) (up W) (up G) (up T) = outDa X C W G T
    ∧ Cert.NormRefIdeal.Read.val_main_v72 (F := Ideal) (up X) (up C) (up W) (up T) = outDg X C W T
    ∧ Cert.NormRefIdeal.Read.val_main_v73 (F := Ideal) (up T) = outDb T := by
  have e : Cert.NormRefIdeal.Read.val_main_v68 (F := Ideal) (up X) (up C) (up W) (up G) (up T) = outDz X C W G T := by
    funext j
    rw [eq_ix2 j]
    exact Cert.NormRefIdeal.Pair.ref_dz X C W G T _ _
  refine ⟨e, e, ?_, ?_, ?_⟩
  · funext j
    rw [eq_ix2 j]
    exact Cert.NormRefIdeal.Pair.ref_da X C W G T _ _
  · funext j
    rw [at2 j 0 (j 1) (Nat.lt_one_iff.mp (j 0).isLt) rfl]
    exact Cert.NormRefIdeal.Pair.ref_dgam X C W T _
  · funext j
    rw [at2 j 0 (j 1) (Nat.lt_one_iff.mp (j 0).isLt) rfl]
    exact Cert.NormRefIdeal.Pair.ref_dbet T _

/-- Kernel and reference leave equal results. -/
theorem algebraic : Cert.algebraic_NormIdeal_NormRefIdeal_pre_norm_finite (hNormIdeal := Cert.NormIdeal.Gen.facts) (hNormRefIdeal := Cert.NormRefIdeal.Gen.facts)
    (hPre_norm_finite := preFacts) := by
  intro m g m' g' hpre hag
  choose X C W G T hA using fun c => args m hpre c
  refine ⟨fun c => Cert.NormIdeal.Pair.outDz (X c) (C c) (W c) (G c) (T c), fun c => Cert.NormIdeal.Pair.outDz (X c) (C c) (W c) (G c) (T c),
    fun c => Cert.NormIdeal.Pair.outDa (X c) (C c) (W c) (G c) (T c), fun c => Cert.NormIdeal.Pair.outDg (X c) (C c) (W c) (T c), fun c => Cert.NormIdeal.Pair.outDb (T c),
    (θ_run _ _ _).mono (fun r h c => ⟨(h c).1.trans (Cert.NormIdeal.Pair.final_dz (hA c)), (h c).2.1.trans (Cert.NormIdeal.Pair.final_dzb (hA c)),
      (h c).2.2.1.trans (Cert.NormIdeal.Pair.final_da (hA c)), (h c).2.2.2.1.trans (Cert.NormIdeal.Pair.final_dg (hA c)),
      (h c).2.2.2.2.1.trans (Cert.NormIdeal.Pair.final_db (hA c)), (h c).2.2.2.2.2⟩) (Cert.NormIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.NormRefIdeal.Value.run (F := Ideal) m' g')⟩
  all_goals
    obtain ⟨h0, h1, h2, h3, h4, h5⟩ := hag c
    obtain ⟨r0, r1, r2, r3, r4⟩ := ref_results (X c) (C c) (W c) (G c) (T c)
  · rw [Cert.NormRefIdeal.Read.val_main_v68_eq, h0, h1, h2, h3, h5, (hA c).x, (hA c).cat, (hA c).w, (hA c).gam, (hA c).ct]; exact r0
  · rw [Cert.NormRefIdeal.Read.val_main_v70_eq, h0, h1, h2, h3, h5, (hA c).x, (hA c).cat, (hA c).w, (hA c).gam, (hA c).ct]; exact r1
  · rw [Cert.NormRefIdeal.Read.val_main_v71_eq, h0, h1, h2, h3, h5, (hA c).x, (hA c).cat, (hA c).w, (hA c).gam, (hA c).ct]; exact r2
  · rw [Cert.NormRefIdeal.Read.val_main_v72_eq, h0, h1, h2, h5, (hA c).x, (hA c).cat, (hA c).w, (hA c).ct]; exact r3
  · rw [Cert.NormRefIdeal.Read.val_main_v73_eq, h5, (hA c).ct]; exact r4

end Cert.NormPair

end
-- ==== Proof.FfnRefValue.lean ====
module

public import proofs.«01_k».proof.Defs
public import proofs.«01_k».proof.Proof.LayerNorm
public import proofs.«01_k».proof.Proof.Gen.FfnRefIdeal.Run
public import proofs.«01_k».proof.Proof.Gen.FfnRefIdeal.Read
public import Idealize.ShloMosaic.Lib.Pipeline.ValueKit

@[expose] public section

set_option maxRecDepth 16384

noncomputable section

open Idealize.ShloMosaic

namespace Cert.FfnRefIdeal.Pair

open Cert.FfnRefIdeal Cert.FfnRefIdeal.Read Cert.LayerNorm

variable (X : S16384x1024.Idx → ℝ) (A B : S1024x2816.Idx → ℝ) (D : S2816x1024.Idx → ℝ) (G : S1024.Idx → ℝ) (T : S16384x1024.Idx → ℝ)

/-- A row of the product of the rows with one of the two projections. -/
def prow (V : S1024x2816.Idx → ℝ) (a : Fin 16384) (j : Fin 2816) : ℝ := ∑ k : Fin 1024, X (ix2 a k) * V (ix2 k j)

/-- A row of the gated product. -/
def hrow (a : Fin 16384) (j : Fin 2816) : ℝ := prow X A a j * sgm (prow X A a j) * prow X B a j

/-- A row of the normalisation's argument. -/
def zrow (a : Fin 16384) (k : Fin 1024) : ℝ := alpha * X (ix2 a k) + 1 / 2 * ∑ j : Fin 2816, hrow X A B a j * D (ix2 j k)

/-- A row of the gradient with respect to the normalised rows. -/
def urow (a : Fin 16384) (k : Fin 1024) : ℝ := T (ix2 a k) * G (ix1 k)

/-- The gradient with respect to the normalisation's argument. -/
def zgrad (a : Fin 16384) (k : Fin 1024) : ℝ := lnb (zrow X A B D a) (urow G T a) k

/-- The gradient with respect to the gated product. -/
def hgrad (a : Fin 16384) (j : Fin 2816) : ℝ := ∑ k : Fin 1024, 1 / 2 * zgrad X A B D G T a k * D (ix2 j k)

/-- The gradient with respect to the gate's argument. -/
def ggrad (a : Fin 16384) (j : Fin 2816) : ℝ :=
  hgrad X A B D G T a j * prow X B a j * (sgm (prow X A a j) * (1 + prow X A a j * (1 - sgm (prow X A a j))))

/-- The gradient with respect to the gated factor. -/
def ugrad (a : Fin 16384) (j : Fin 2816) : ℝ := hgrad X A B D G T a j * (prow X A a j * sgm (prow X A a j))

/-- The gradient with respect to the rows. -/
def xgrad (a : Fin 16384) (k : Fin 1024) : ℝ := alpha * zgrad X A B D G T a k + ∑ j : Fin 2816, ggrad X A B D G T a j * A (ix2 k j)
  + ∑ j : Fin 2816, ugrad X A B D G T a j * B (ix2 k j)

theorem ref_g (a : Fin 16384) (j : Fin 2816) : val_main_v4 (F := Ideal) (up X) (up A) (ix2 a j) = ((prow X A a j : ℝ) : EReal) := by
  pointwise [val_main_v4, val_main_v3, val_main_v1, val_main_cst_0]
  simp only [prow, ← EReal.coe_mul, Cert.Base.coe_sum]

theorem ref_u (a : Fin 16384) (j : Fin 2816) : val_main_v7 (F := Ideal) (up X) (up B) (ix2 a j) = ((prow X B a j : ℝ) : EReal) := by
  pointwise [val_main_v7, val_main_v6, val_main_v2, val_main_cst_1]
  simp only [prow, ← EReal.coe_mul, Cert.Base.coe_sum]

theorem ref_s (a : Fin 16384) (j : Fin 2816) : val_main_v5_2 (F := Ideal) (up X) (up A) (ix2 a j) = ((sgm (prow X A a j) : ℝ) : EReal) := by
  pointwise [val_main_v5_2, val_main_call0_v4, val_main_call0_v3, val_main_call0_v2, val_main_call0_v1, val_main_call0_v0, val_main_call0_cst, val_main_call0_cst_0]
  simp only [ref_g, ← EReal.coe_neg, Ideal.exp_coe, sgm_up]

theorem ref_gs (a : Fin 16384) (j : Fin 2816) : val_main_v5_0 (F := Ideal) (up X) (up A) (ix2 a j) = ((prow X A a j * sgm (prow X A a j) : ℝ) : EReal) := by
  pointwise [val_main_v5_0]
  simp only [ref_g, ref_s, ← EReal.coe_mul]

theorem ref_z (a : Fin 16384) (k : Fin 1024) : val_main_v15 (F := Ideal) (up X) (up A) (up B) (up D) (ix2 a k) = ((zrow X A B D a k : ℝ) : EReal) := by
  pointwise [val_main_v15, val_main_v14, val_main_v13, val_main_v12, val_main_v11, val_main_v10, val_main_v9, val_main_v8, val_main_v0, val_main_cst, val_main_cst_2, val_main_cst_3]
  simp only [ref_gs, ref_u, lit_alpha, Cert.Base.lit_half, zrow, hrow, ← EReal.coe_mul, Cert.Base.coe_sum, ← EReal.coe_add]

theorem ref_mu (a : Fin 16384) : val_main_v19 (F := Ideal) (up X) (up A) (up B) (up D) (ix2 a 0) = ((mean (zrow X A B D a) : ℝ) : EReal) := by
  pointwise [val_main_v19, val_main_v18, val_main_v17, val_main_v16, val_main_cst_4, val_main_cst_5]
  simp only [ref_z, mean_up (by decide : 1024 ≠ 0) _ _ lit_n]

theorem ref_zc (a : Fin 16384) (k : Fin 1024) : val_main_v30 (F := Ideal) (up X) (up A) (up B) (up D) (ix2 a k) = ((cen (zrow X A B D a) k : ℝ) : EReal) := by
  pointwise [val_main_v30, val_main_v29]
  simp only [ref_z, ref_mu, ← EReal.coe_sub, cen]

theorem ref_zc' (a : Fin 16384) (k : Fin 1024) : val_main_v21 (F := Ideal) (up X) (up A) (up B) (up D) (ix2 a k) = ((cen (zrow X A B D a) k : ℝ) : EReal) := by
  pointwise [val_main_v21, val_main_v20]
  simp only [ref_z, ref_mu, ← EReal.coe_sub, cen]

theorem ref_ve (a : Fin 16384) : val_main_v32 (F := Ideal) (up X) (up A) (up B) (up D) (ix2 a 0) = ((ve (zrow X A B D a) : ℝ) : EReal) := by
  pointwise [val_main_v32, val_main_v31, val_main_v28, val_main_v27, val_main_v26, val_main_v25, val_main_v22, val_main_cst_7, val_main_cst_8, val_main_cst_9]
  simp only [ref_zc', ← EReal.coe_mul, mean_up (by decide : 1024 ≠ 0) _ _ lit_n, lit_eps, ← EReal.coe_add, ve]

theorem ref_r (a : Fin 16384) : val_main_v33 (F := Ideal) (up X) (up A) (up B) (up D) (ix2 a 0) = ((rstd (zrow X A B D a) : ℝ) : EReal) := by
  pointwise [val_main_v33]
  simp only [ref_ve, rstd_up]

theorem ref_xh (a : Fin 16384) (k : Fin 1024) : val_main_v38 (F := Ideal) (up X) (up A) (up B) (up D) (ix2 a k) = ((nrm (zrow X A B D a) k : ℝ) : EReal) := by
  pointwise [val_main_v38, val_main_v37]
  simp only [ref_zc, ref_r, ← EReal.coe_mul, nrm]

theorem ref_uu (a : Fin 16384) (k : Fin 1024) : val_main_v53 (F := Ideal) (up G) (up T) (ix2 a k) = ((urow G T a k : ℝ) : EReal) := by
  pointwise [val_main_v53, val_main_v52, val_main_v45, val_main_v39]
  simp only [← EReal.coe_mul, urow]

theorem ref_c (a : Fin 16384) : val_main_v65 (F := Ideal) (up X) (up A) (up B) (up D) (up G) (up T) (ix2 a 0)
    = (((∑ j, cen (zrow X A B D a) j * urow G T a j) * (-(1 / 2) * (rstd (zrow X A B D a) / ve (zrow X A B D a))) / ((1024 : ℕ) : ℝ) : ℝ) : EReal) := by
  pointwise [val_main_v65, val_main_v64, val_main_v60, val_main_v57, val_main_v56, val_main_v55, val_main_v36, val_main_v35, val_main_v34, val_main_cst_10, val_main_cst_15, val_main_cst_17]
  simp only [ref_zc, ref_uu, ref_r, ref_ve, ← EReal.coe_mul, Cert.Base.coe_sum, Cert.Base.lit_neg_half, div_real _ _ (ve_pos _).ne', div_nat _ (by decide : 1024 ≠ 0) _ lit_n]

theorem ref_dz (a : Fin 16384) (k : Fin 1024) : val_main_v78 (F := Ideal) (up X) (up A) (up B) (up D) (up G) (up T) (ix2 a k)
    = ((zgrad X A B D G T a k : ℝ) : EReal) := by
  unfold zgrad
  rw [← lnb_reverse (by decide) (zrow X A B D a) (urow G T a) k _ rfl]
  pointwise [val_main_v78, val_main_v77, val_main_v76, val_main_v75, val_main_v74, val_main_v73, val_main_v72, val_main_v71, val_main_v70, val_main_v69, val_main_v68,
    val_main_v67, val_main_v66, val_main_v63, val_main_v62, val_main_v61, val_main_v59, val_main_v58, val_main_v24, val_main_v23, val_main_cst_6,
    val_main_cst_16, val_main_cst_18, val_main_cst_19, val_main_cst_20, val_main_cst_21]
  simp only [Fin.sum_univ_one, ref_c, ref_uu, ref_r, ref_zc', Cert.Base.lit_two, ← EReal.coe_mul, ← EReal.coe_neg, Cert.Base.coe_sum, ← EReal.coe_add, div_nat _ (by decide : 1024 ≠ 0) _ lit_n]

theorem ref_dy (a : Fin 16384) (k : Fin 1024) : val_main_v80 (F := Ideal) (up X) (up A) (up B) (up D) (up G) (up T) (ix2 a k)
    = ((1 / 2 * zgrad X A B D G T a k : ℝ) : EReal) := by
  pointwise [val_main_v80, val_main_v79, val_main_cst_22]
  simp only [ref_dz, Cert.Base.lit_half, ← EReal.coe_mul]

theorem ref_dh (a : Fin 16384) (j : Fin 2816) : val_main_v83 (F := Ideal) (up X) (up A) (up B) (up D) (up G) (up T) (ix2 a j)
    = ((hgrad X A B D G T a j : ℝ) : EReal) := by
  pointwise [val_main_v83]
  simp only [ref_dy, hgrad, ← EReal.coe_mul, Cert.Base.coe_sum]

theorem ref_du (a : Fin 16384) (j : Fin 2816) : val_main_v84 (F := Ideal) (up X) (up A) (up B) (up D) (up G) (up T) (ix2 a j)
    = ((ugrad X A B D G T a j : ℝ) : EReal) := by
  pointwise [val_main_v84]
  simp only [ref_gs, ref_dh, ← EReal.coe_mul]
  rw [ugrad, mul_comm]

/-- The gate's derivative, as reverse accumulation writes it. -/
theorem gate (h u g s : ℝ) : h * u * s + g * (h * u) * (s * (1 - s)) = h * u * (s * (1 + g * (1 - s))) := by ring

theorem ref_dg (a : Fin 16384) (j : Fin 2816) : val_main_v88 (F := Ideal) (up X) (up A) (up B) (up D) (up G) (up T) (ix2 a j)
    = ((ggrad X A B D G T a j : ℝ) : EReal) := by
  unfold ggrad
  rw [← gate]
  pointwise [val_main_v88, val_main_call1_v2, val_main_call1_v1, val_main_call1_v0, val_main_v85, val_main_v5_1, val_main_call0_v7, val_main_call0_v6, val_main_call0_cst_1]
  simp only [ref_g, ref_s, ref_u, ref_dh, one_sub_up, ← EReal.coe_mul, ← EReal.coe_add]

theorem ref_dx (a : Fin 16384) (k : Fin 1024) : val_main_v90 (F := Ideal) (up X) (up A) (up B) (up D) (up G) (up T) (ix2 a k)
    = ((xgrad X A B D G T a k : ℝ) : EReal) := by
  unfold xgrad
  rw [add_right_comm]
  pointwise [val_main_v90, val_main_v89, val_main_v87, val_main_v86, val_main_v82, val_main_v81, val_main_cst_23]
  simp only [ref_dz, ref_dg, ref_du, lit_alpha, ← EReal.coe_mul, Cert.Base.coe_sum, ← EReal.coe_add]

theorem ref_dgam (k : Fin 1024) : val_main_v94 (F := Ideal) (up X) (up A) (up B) (up D) (up T) (ix2 0 k)
    = ∑ a : Fin 16384, up T (ix2 a k) * ((nrm (zrow X A B D a) k : ℝ) : EReal) := by
  pointwise [val_main_v94, val_main_v54, val_main_v51, val_main_v50, val_main_v49, val_main_v45, val_main_cst_13, val_main_cst_14]
  simp only [Fin.sum_univ_one, ref_xh, mul_comm]

theorem ref_dbet (k : Fin 1024) : val_main_v95 (F := Ideal) (up T) (ix2 0 k) = ∑ a : Fin 16384, up T (ix2 a k) := by
  pointwise [val_main_v95, val_main_v48, val_main_v47, val_main_v46, val_main_cst_11, val_main_cst_12]
  simp only [Fin.sum_univ_one]

end Cert.FfnRefIdeal.Pair

end
-- ==== Proof.FfnBlocks.lean ====
module

public import proofs.«01_k».proof.Proof.FfnRefValue
public import proofs.«01_k».proof.Proof.Gen.FfnIdeal.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.Pair

open Cert.FfnIdeal Cert.FfnIdeal.Gen Cert.LayerNorm
open Cert.FfnRefIdeal.Pair (prow hrow zrow urow zgrad hgrad ggrad ugrad xgrad)

variable (m : (ℓ : Loc nD τ sig) → Buf (Elt Ideal) ℓ)
variable (X : S16384x1024.Idx → ℝ) (A B : S1024x2816.Idx → ℝ) (D : S2816x1024.Idx → ℝ) (G : S1024.Idx → ℝ) (T : S16384x1024.Idx → ℝ)

/-- The arguments of one device are these arrays of real numbers. -/
structure Args (c : Dev nD) : Prop where
  x : m ((c : Thread nD τ).loc main_arg0) = up X
  wg : m ((c : Thread nD τ).loc main_arg1) = up A
  wu : m ((c : Thread nD τ).loc main_arg2) = up B
  wd : m ((c : Thread nD τ).loc main_arg3) = up D
  gam : m ((c : Thread nD τ).loc main_arg4) = up G
  ct : m ((c : Thread nD τ).loc main_arg6) = up T

variable {m X A B D G T} {c : Dev nD} (h : Args m X A B D G T c)

/-- The windows' block indices. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![0, 0]
    ∧ win0_14.index t = ![0, 0] :=
  (by decide +kernel : ∀ t : Fin grid0.N, _)

include h

theorem entry_p (V : S1024x2816.Idx → ℝ) (a : Fin 16384) (j : Fin 2816) : ∑ k : Fin 1024, up X (ix2 a k) * up V (ix2 k j) = ((prow X V a j : ℝ) : EReal) := by
  simp only [prow, ← EReal.coe_mul, Cert.Base.coe_sum]

theorem entry_z (a : Fin 16384) (k : Fin 1024) : Ideal.ofBits .f32 0x3FD744FD#32 * up X (ix2 a k)
    + Ideal.ofBits .f32 0x3F000000#32 * ∑ j : Fin 2816, ((prow X A a j : ℝ) : EReal) * ((sgm (prow X A a j) : ℝ) : EReal) * ((prow X B a j : ℝ) : EReal) * up D (ix2 j k)
    = ((zrow X A B D a k : ℝ) : EReal) := by
  simp only [lit_alpha, Cert.Base.lit_half, zrow, hrow, ← EReal.coe_mul, Cert.Base.coe_sum, ← EReal.coe_add]

/-- The normalised rows the region reads. -/
theorem entry_xh (i : S16384x1024.Idx) (a : Fin 16384) (k : Fin 1024) (h0 : (i 0 : ℕ) = a) (h1 : (i 1 : ℕ) = k) : V m c main_v38 i = ((nrm (zrow X A B D a) k : ℝ) : EReal) := by
  unfold V
  after_results_simp
  rw [h.x, h.wg, h.wu, h.wd, at2 i a k h0 h1]
  pointwise []
  simp only [entry_p h, ← EReal.coe_neg, Ideal.exp_coe, sgm_up]
  simp only [entry_z h]
  simp only [mean_up (by decide : 1024 ≠ 0) _ _ lit_n, ← EReal.coe_sub, ← EReal.coe_mul, lit_eps, ← EReal.coe_add]
  exact norm_row _ _

/-- The rows' reciprocal deviations the region reads. -/
theorem entry_r (i : S16384x1.Idx) (a : Fin 16384) (k : Fin 1) (h0 : (i 0 : ℕ) = a) (h1 : (i 1 : ℕ) = k) : V m c main_v36 i = ((rstd (zrow X A B D a) : ℝ) : EReal) := by
  unfold V
  after_results_simp
  rw [h.x, h.wg, h.wu, h.wd, at2 i a k h0 h1]
  pointwise []
  simp only [entry_p h, ← EReal.coe_neg, Ideal.exp_coe, sgm_up]
  simp only [entry_z h]
  simp only [mean_up (by decide : 1024 ≠ 0) _ _ lit_n, ← EReal.coe_sub, ← EReal.coe_mul, lit_eps, ← EReal.coe_add]
  exact rstd_up _

/-- The scale row the region reads. -/
theorem entry_gam (i : S1x1024.Idx) (k : Fin 1024) (h0 : (i 0 : ℕ) = (0 : Fin 1)) (h1 : (i 1 : ℕ) = k) : V m c main_v39 i = ((G (ix1 k) : ℝ) : EReal) := by
  unfold V
  after_results_simp
  rw [h.gam, at2 i 0 k h0 h1]
  pointwise []

/-- The weights the region reads. -/
theorem entry_wd (i : S2816x1024.Idx) (j : Fin 2816) (k : Fin 1024) (h0 : (i 0 : ℕ) = j) (h1 : (i 1 : ℕ) = k) : V m c main_v5 i = ((D (ix2 j k) : ℝ) : EReal) := by
  unfold V
  after_results_simp
  rw [h.wd, at2 i j k h0 h1]
  pointwise []

theorem entry_wg (i : S2816x1024.Idx) (j : Fin 2816) (k : Fin 1024) (h0 : (i 0 : ℕ) = j) (h1 : (i 1 : ℕ) = k) : V m c main_v2 i = ((A (ix2 k j) : ℝ) : EReal) := by
  unfold V
  after_results_simp
  rw [h.wg, at2 i j k h0 h1]
  pointwise []

theorem entry_wu (i : S2816x1024.Idx) (j : Fin 2816) (k : Fin 1024) (h0 : (i 0 : ℕ) = j) (h1 : (i 1 : ℕ) = k) : V m c main_v4 i = ((B (ix2 k j) : ℝ) : EReal) := by
  unfold V
  after_results_simp
  rw [h.wu, at2 i j k h0 h1]
  pointwise []

/-- The two products the region reads. -/
theorem entry_g (i : S16384x2816.Idx) (a : Fin 16384) (j : Fin 2816) (h0 : (i 0 : ℕ) = a) (h1 : (i 1 : ℕ) = j) : V m c main_v40 i = ((prow X A a j : ℝ) : EReal) := by
  unfold V
  after_results_simp
  rw [h.x, h.wg, at2 i a j h0 h1]
  pointwise []
  simp only [entry_p h]

theorem entry_u (i : S16384x2816.Idx) (a : Fin 16384) (j : Fin 2816) (h0 : (i 0 : ℕ) = a) (h1 : (i 1 : ℕ) = j) : V m c main_v41 i = ((prow X B a j : ℝ) : EReal) := by
  unfold V
  after_results_simp
  rw [h.x, h.wu, at2 i a j h0 h1]
  pointwise []
  simp only [entry_p h]

/-- The blocks a grid point reads, at the array's indices. -/
theorem blk_ct (t : Fin cfg0.N) (y : S256x1024.Idx) (a : Fin 16384) (k : Fin 1024) (h0 : (a : ℕ) = t.val * 256 + y 0) (h1 : (k : ℕ) = y 1) :
    iblk m c 0 t y = ((T (ix2 a k) : ℝ) : EReal) := by
  blk_simp [iblk, idx t]
  refine (congrFun h.ct _).trans (congrArg (fun i => ((T i : ℝ) : EReal)) (at2 _ a k ?_ ?_)) <;> (blk_simp [idx t, h0, h1] <;> rfl)

theorem blk_xh (t : Fin cfg0.N) (y : S256x1024.Idx) (a : Fin 16384) (k : Fin 1024) (h0 : (a : ℕ) = t.val * 256 + y 0) (h1 : (k : ℕ) = y 1) :
    iblk m c 1 t y = ((nrm (zrow X A B D a) k : ℝ) : EReal) := by
  blk_simp [iblk, idx t]
  refine entry_xh h _ a k ?_ ?_ <;> (blk_simp [idx t, h0, h1] <;> rfl)

theorem blk_r (t : Fin cfg0.N) (y : S256x1.Idx) (a : Fin 16384) (h0 : (a : ℕ) = t.val * 256 + y 0) :
    iblk m c 2 t y = ((rstd (zrow X A B D a) : ℝ) : EReal) := by
  blk_simp [iblk, idx t]
  refine entry_r h _ a 0 ?_ ?_ <;> (blk_simp [idx t, h0] <;> rfl)

theorem blk_gam (t : Fin cfg0.N) (y : S1x1024.Idx) (k : Fin 1024) (h1 : (k : ℕ) = y 1) :
    iblk m c 3 t y = ((G (ix1 k) : ℝ) : EReal) := by
  blk_simp [iblk, idx t]
  refine entry_gam h _ k ?_ ?_ <;> (blk_simp [idx t, h1] <;> rfl)

theorem blk_wd (t : Fin cfg0.N) (y : S2816x1024.Idx) (j : Fin 2816) (k : Fin 1024) (h0 : (j : ℕ) = y 0) (h1 : (k : ℕ) = y 1) : iblk m c 4 t y = ((D (ix2 j k) : ℝ) : EReal) := by
  blk_simp [iblk, idx t]
  refine entry_wd h _ j k ?_ ?_ <;> (blk_simp [idx t, h0, h1] <;> rfl)

theorem blk_wg (t : Fin cfg0.N) (y : S2816x1024.Idx) (j : Fin 2816) (k : Fin 1024) (h0 : (j : ℕ) = y 0) (h1 : (k : ℕ) = y 1) : iblk m c 5 t y = ((A (ix2 k j) : ℝ) : EReal) := by
  blk_simp [iblk, idx t]
  refine entry_wg h _ j k ?_ ?_ <;> (blk_simp [idx t, h0, h1] <;> rfl)

theorem blk_wu (t : Fin cfg0.N) (y : S2816x1024.Idx) (j : Fin 2816) (k : Fin 1024) (h0 : (j : ℕ) = y 0) (h1 : (k : ℕ) = y 1) : iblk m c 6 t y = ((B (ix2 k j) : ℝ) : EReal) := by
  blk_simp [iblk, idx t]
  refine entry_wu h _ j k ?_ ?_ <;> (blk_simp [idx t, h0, h1] <;> rfl)

theorem blk_g (t : Fin cfg0.N) (y : S256x2816.Idx) (a : Fin 16384) (j : Fin 2816) (h0 : (a : ℕ) = t.val * 256 + y 0) (h1 : (j : ℕ) = y 1) :
    iblk m c 7 t y = ((prow X A a j : ℝ) : EReal) := by
  blk_simp [iblk, idx t]
  refine entry_g h _ a j ?_ ?_ <;> (blk_simp [idx t, h0, h1] <;> rfl)

theorem blk_u (t : Fin cfg0.N) (y : S256x2816.Idx) (a : Fin 16384) (j : Fin 2816) (h0 : (a : ℕ) = t.val * 256 + y 0) (h1 : (j : ℕ) = y 1) :
    iblk m c 8 t y = ((prow X B a j : ℝ) : EReal) := by
  blk_simp [iblk, idx t]
  refine entry_u h _ a j ?_ ?_ <;> (blk_simp [idx t, h0, h1] <;> rfl)

omit h

/-- The gradient with respect to the normalisation's argument from one point's blocks, as extended reals. -/
def dzAt (ct xh : S256x1024.Idx → EReal) (rs : S256x1.Idx → EReal) (gam : S1x1024.Idx → EReal) (p : Fin 256) (k : Fin 1024) : EReal :=
  lnbAt (fun j => ct (ix2 p j) * gam (ix2 0 j)) (fun j => xh (ix2 p j)) (rs (ix2 p 0)) (Ideal.ofBits .f32 0x44800000#32) k

/-- Half of it. -/
def dyAt (ct xh : S256x1024.Idx → EReal) (rs : S256x1.Idx → EReal) (gam : S1x1024.Idx → EReal) (p : Fin 256) (k : Fin 1024) : EReal :=
  Ideal.ofBits .f32 0x3F000000#32 * dzAt ct xh rs gam p k

/-- The gradient with respect to the gated product. -/
def dhAt (ct xh : S256x1024.Idx → EReal) (rs : S256x1.Idx → EReal) (gam : S1x1024.Idx → EReal) (wd : S2816x1024.Idx → EReal) (p : Fin 256) (q : Fin 2816) : EReal :=
  ∑ k : Fin 1024, dyAt ct xh rs gam p k * wd (ix2 q k)

/-- The logistic function as the kernel writes it. -/
def sgAt (v : EReal) : EReal := Ideal.div 1 (1 + Ideal.exp (0 - v))

def dgAt (ct xh : S256x1024.Idx → EReal) (rs : S256x1.Idx → EReal) (gam : S1x1024.Idx → EReal) (wd : S2816x1024.Idx → EReal) (g u : S256x2816.Idx → EReal)
    (p : Fin 256) (q : Fin 2816) : EReal :=
  dhAt ct xh rs gam wd p q * u (ix2 p q) * (sgAt (g (ix2 p q)) * (1 + g (ix2 p q) * (1 - sgAt (g (ix2 p q)))))

def duAt (ct xh : S256x1024.Idx → EReal) (rs : S256x1.Idx → EReal) (gam : S1x1024.Idx → EReal) (wd : S2816x1024.Idx → EReal) (g : S256x2816.Idx → EReal)
    (p : Fin 256) (q : Fin 2816) : EReal :=
  dhAt ct xh rs gam wd p q * (g (ix2 p q) * sgAt (g (ix2 p q)))

theorem piece_dy (c : Dev nD) (t : Fin cfg0.N) (y) : (outsAt0 m c t.val t.isLt).2.1 y = dyAt (iblk m c 0 t) (iblk m c 1 t) (iblk m c 2 t) (iblk m c 3 t) (y 0) (y 1) := by
  by_cases h : t.val % 64 = 0
  · rw [outsAt0_A m c t h]
    frame_out
    open_payloads
    pointwise [dyAt, dzAt, lnbAt]
  · rw [outsAt0_B m c t h]
    frame_out
    open_payloads
    pointwise [dyAt, dzAt, lnbAt]

theorem piece_dg (c : Dev nD) (t : Fin cfg0.N) (y) : (outsAt0 m c t.val t.isLt).2.2.1 y
    = dgAt (iblk m c 0 t) (iblk m c 1 t) (iblk m c 2 t) (iblk m c 3 t) (iblk m c 4 t) (iblk m c 7 t) (iblk m c 8 t) (y 0) (y 1) := by
  by_cases h : t.val % 64 = 0
  · rw [outsAt0_A m c t h]
    frame_out
    canon_tiles x hx
    all_goals (rw [at2'' hx0 (by omega) hx1 (by omega)]; open_payloads; pointwise [dgAt, dhAt, sgAt, dyAt, dzAt, lnbAt])
  · rw [outsAt0_B m c t h]
    frame_out
    canon_tiles x hx
    all_goals (rw [at2'' hx0 (by omega) hx1 (by omega)]; open_payloads; pointwise [dgAt, dhAt, sgAt, dyAt, dzAt, lnbAt])

theorem piece_du (c : Dev nD) (t : Fin cfg0.N) (y) : (outsAt0 m c t.val t.isLt).2.2.2.1 y
    = duAt (iblk m c 0 t) (iblk m c 1 t) (iblk m c 2 t) (iblk m c 3 t) (iblk m c 4 t) (iblk m c 7 t) (y 0) (y 1) := by
  by_cases h : t.val % 64 = 0
  · rw [outsAt0_A m c t h]
    frame_out
    canon_tiles x hx
    all_goals (rw [at2'' hx0 (by omega) hx1 (by omega)]; open_payloads; pointwise [duAt, dhAt, sgAt, dyAt, dzAt, lnbAt])
  · rw [outsAt0_B m c t h]
    frame_out
    canon_tiles x hx
    all_goals (rw [at2'' hx0 (by omega) hx1 (by omega)]; open_payloads; pointwise [duAt, dhAt, sgAt, dyAt, dzAt, lnbAt])

/-- The gradient with respect to the rows, from one point's blocks. -/
def dxAt (ct xh : S256x1024.Idx → EReal) (rs : S256x1.Idx → EReal) (gam : S1x1024.Idx → EReal) (wd wg wu : S2816x1024.Idx → EReal) (g u : S256x2816.Idx → EReal)
    (p : Fin 256) (k : Fin 1024) : EReal :=
  Ideal.ofBits .f32 0x3FD744FD#32 * dzAt ct xh rs gam p k + ∑ j : Fin 2816, dgAt ct xh rs gam wd g u p j * wg (ix2 j k)
    + ∑ j : Fin 2816, duAt ct xh rs gam wd g p j * wu (ix2 j k)

end Cert.FfnIdeal.Pair

end
-- ==== Proof.FfnValue.lean ====
module

public import proofs.«01_k».proof.Proof.FfnBlocks
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.Pair

open Cert.FfnIdeal Cert.FfnIdeal.Gen Cert.LayerNorm
open Cert.FfnRefIdeal.Pair (prow hrow zrow urow zgrad hgrad ggrad ugrad xgrad)

variable {m : (ℓ : Loc nD τ sig) → Buf (Elt Ideal) ℓ}
variable {X : S16384x1024.Idx → ℝ} {A B : S1024x2816.Idx → ℝ} {D : S2816x1024.Idx → ℝ} {G : S1024.Idx → ℝ} {T : S16384x1024.Idx → ℝ} {c : Dev nD}

set_option maxHeartbeats 1000000 in
theorem piece_dx (c : Dev nD) (t : Fin cfg0.N) (y) : (outsAt0 m c t.val t.isLt).1 y
    = dxAt (iblk m c 0 t) (iblk m c 1 t) (iblk m c 2 t) (iblk m c 3 t) (iblk m c 4 t) (iblk m c 5 t) (iblk m c 6 t) (iblk m c 7 t) (iblk m c 8 t) (y 0) (y 1) := by
  by_cases h : t.val % 64 = 0
  · have hg : (outsAt0 m c t.val t.isLt).2.2.1 = _ := funext (piece_dg c t)
    have hu : (outsAt0 m c t.val t.isLt).2.2.2.1 = _ := funext (piece_du c t)
    rw [outsAt0_A m c t h] at hg hu ⊢
    frame_out at hg
    frame_out at hu
    frame_out
    rw [View.readCov_eq_canon', View.readCov_eq_canon', hg, hu]
    clear hg hu
    unfold dxAt
    generalize dgAt (iblk m c 0 t) (iblk m c 1 t) (iblk m c 2 t) (iblk m c 3 t) (iblk m c 4 t) (iblk m c 7 t) (iblk m c 8 t) = gg
    generalize duAt (iblk m c 0 t) (iblk m c 1 t) (iblk m c 2 t) (iblk m c 3 t) (iblk m c 4 t) (iblk m c 7 t) = gu
    open_payloads
    pointwise [dzAt, lnbAt]
  · have hg : (outsAt0 m c t.val t.isLt).2.2.1 = _ := funext (piece_dg c t)
    have hu : (outsAt0 m c t.val t.isLt).2.2.2.1 = _ := funext (piece_du c t)
    rw [outsAt0_B m c t h] at hg hu ⊢
    frame_out at hg
    frame_out at hu
    frame_out
    rw [View.readCov_eq_canon', View.readCov_eq_canon', hg, hu]
    clear hg hu
    unfold dxAt
    generalize dgAt (iblk m c 0 t) (iblk m c 1 t) (iblk m c 2 t) (iblk m c 3 t) (iblk m c 4 t) (iblk m c 7 t) (iblk m c 8 t) = gg
    generalize duAt (iblk m c 0 t) (iblk m c 1 t) (iblk m c 2 t) (iblk m c 3 t) (iblk m c 4 t) (iblk m c 7 t) = gu
    open_payloads
    pointwise [dzAt, lnbAt]

/-! ## The formulas on real blocks -/

theorem sg_real (v : ℝ) : sgAt ((v : ℝ) : EReal) = ((sgm v : ℝ) : EReal) := by
  unfold sgAt
  rw [zero_sub, ← EReal.coe_neg, Ideal.exp_coe, sgm_up]

variable {ct xh : S256x1024.Idx → EReal} {rs : S256x1.Idx → EReal} {gam : S1x1024.Idx → EReal} {wd wg wu : S2816x1024.Idx → EReal} {g u : S256x2816.Idx → EReal}

theorem dz_real {p : Fin 256} {z P Q : Fin 1024 → ℝ} (hp : ∀ k, ct (ix2 p k) = ((P k : ℝ) : EReal)) (hx : ∀ k, xh (ix2 p k) = ((nrm z k : ℝ) : EReal))
    (hr : rs (ix2 p 0) = ((rstd z : ℝ) : EReal)) (hg : ∀ k, gam (ix2 0 k) = ((Q k : ℝ) : EReal)) (k : Fin 1024) :
    dzAt ct xh rs gam p k = ((lnb z (fun j => P j * Q j) k : ℝ) : EReal) :=
  lnbAt_eq (by decide) lit_n _ _ (fun j => by rw [hp, hg, ← EReal.coe_mul]) hx hr _

theorem dy_real {p : Fin 256} {k : Fin 1024} {Z : ℝ} (hz : dzAt ct xh rs gam p k = ((Z : ℝ) : EReal)) : dyAt ct xh rs gam p k = ((1 / 2 * Z : ℝ) : EReal) := by
  unfold dyAt
  rw [hz, Cert.Base.lit_half, ← EReal.coe_mul]

theorem dh_real {p : Fin 256} {q : Fin 2816} {Z E : Fin 1024 → ℝ} (hz : ∀ k, dzAt ct xh rs gam p k = ((Z k : ℝ) : EReal)) (hd : ∀ k, wd (ix2 q k) = ((E k : ℝ) : EReal)) :
    dhAt ct xh rs gam wd p q = ((∑ k, 1 / 2 * Z k * E k : ℝ) : EReal) := by
  unfold dhAt
  simp only [fun k => dy_real (hz k), hd, ← EReal.coe_mul, Cert.Base.coe_sum]

theorem dg_real {p : Fin 256} {q : Fin 2816} {H a b : ℝ} (hh : dhAt ct xh rs gam wd p q = ((H : ℝ) : EReal)) (hg : g (ix2 p q) = ((a : ℝ) : EReal))
    (hu : u (ix2 p q) = ((b : ℝ) : EReal)) : dgAt ct xh rs gam wd g u p q = ((H * b * (sgm a * (1 + a * (1 - sgm a))) : ℝ) : EReal) := by
  unfold dgAt
  simp only [hh, hg, hu, sg_real, one_sub_up, ← EReal.coe_mul, one_add_up]

theorem du_real {p : Fin 256} {q : Fin 2816} {H a : ℝ} (hh : dhAt ct xh rs gam wd p q = ((H : ℝ) : EReal)) (hg : g (ix2 p q) = ((a : ℝ) : EReal)) :
    duAt ct xh rs gam wd g p q = ((H * (a * sgm a) : ℝ) : EReal) := by
  unfold duAt
  simp only [hh, hg, sg_real, ← EReal.coe_mul]

theorem dx_real {p : Fin 256} {k : Fin 1024} {Z : ℝ} {I J E K : Fin 2816 → ℝ} (hz : dzAt ct xh rs gam p k = ((Z : ℝ) : EReal))
    (hg : ∀ j, dgAt ct xh rs gam wd g u p j = ((I j : ℝ) : EReal)) (hu : ∀ j, duAt ct xh rs gam wd g p j = ((J j : ℝ) : EReal))
    (hE : ∀ j, wg (ix2 j k) = ((E j : ℝ) : EReal)) (hK : ∀ j, wu (ix2 j k) = ((K j : ℝ) : EReal)) :
    dxAt ct xh rs gam wd wg wu g u p k = ((alpha * Z + ∑ j, I j * E j + ∑ j, J j * K j : ℝ) : EReal) := by
  unfold dxAt
  simp only [hz, hg, hu, hE, hK, lit_alpha, ← EReal.coe_mul, Cert.Base.coe_sum, ← EReal.coe_add]

/-! ## One point's results -/

section

variable (h : Args m X A B D G T c) (t : Fin cfg0.N) (p : Fin 256) (a : Fin 16384) (h0 : (a : ℕ) = t.val * 256 + p)

include h h0

theorem at_dz (k : Fin 1024) : dzAt (iblk m c 0 t) (iblk m c 1 t) (iblk m c 2 t) (iblk m c 3 t) p k = ((zgrad X A B D G T a k : ℝ) : EReal) :=
  dz_real (fun j => blk_ct h t (ix2 p j) a j h0 rfl) (fun j => blk_xh h t (ix2 p j) a j h0 rfl) (blk_r h t (ix2 p 0) a h0) (fun j => blk_gam h t (ix2 0 j) j rfl) k

theorem at_dh (q : Fin 2816) : dhAt (iblk m c 0 t) (iblk m c 1 t) (iblk m c 2 t) (iblk m c 3 t) (iblk m c 4 t) p q = ((hgrad X A B D G T a q : ℝ) : EReal) :=
  dh_real (at_dz h t p a h0) (fun k => blk_wd h t (ix2 q k) q k rfl rfl)

theorem at_dg (q : Fin 2816) : dgAt (iblk m c 0 t) (iblk m c 1 t) (iblk m c 2 t) (iblk m c 3 t) (iblk m c 4 t) (iblk m c 7 t) (iblk m c 8 t) p q
    = ((ggrad X A B D G T a q : ℝ) : EReal) :=
  dg_real (at_dh h t p a h0 q) (blk_g h t (ix2 p q) a q h0 rfl) (blk_u h t (ix2 p q) a q h0 rfl)

theorem at_du (q : Fin 2816) : duAt (iblk m c 0 t) (iblk m c 1 t) (iblk m c 2 t) (iblk m c 3 t) (iblk m c 4 t) (iblk m c 7 t) p q
    = ((ugrad X A B D G T a q : ℝ) : EReal) :=
  du_real (at_dh h t p a h0 q) (blk_g h t (ix2 p q) a q h0 rfl)

theorem at_dx (k : Fin 1024) : dxAt (iblk m c 0 t) (iblk m c 1 t) (iblk m c 2 t) (iblk m c 3 t) (iblk m c 4 t) (iblk m c 5 t) (iblk m c 6 t) (iblk m c 7 t) (iblk m c 8 t) p k
    = ((xgrad X A B D G T a k : ℝ) : EReal) :=
  dx_real (at_dz h t p a h0 k) (at_dg h t p a h0) (at_du h t p a h0) (fun j => blk_wg h t (ix2 j k) j k rfl rfl) (fun j => blk_wu h t (ix2 j k) j k rfl rfl)

end

/-- One column's sum of products over a point's rows. -/
def colAt (ct xh : S256x1024.Idx → EReal) (k : Fin 1024) : EReal := ∑ i : Fin 256, ct (ix2 i k) * xh (ix2 i k)

/-- One column's sum over a point's rows. -/
def sumAt (ct : S256x1024.Idx → EReal) (k : Fin 1024) : EReal := ∑ i : Fin 256, ct (ix2 i k)

theorem outs_dg_A (c : Dev nD) (t : Fin cfg0.N) (h : t.val % 64 = 0) (y) : (outsAt0 m c t.val t.isLt).2.2.2.2.1 y
    = 0 + colAt (iblk m c 0 t) (iblk m c 1 t) (y 1) := by
  rw [zero_add, outsAt0_A m c t h]
  frame_out
  open_payloads
  pointwise [colAt]

theorem outs_dg_B (c : Dev nD) (t : Fin cfg0.N) (h : ¬ t.val % 64 = 0) (y) : (outsAt0 m c t.val t.isLt).2.2.2.2.1 y
    = (outsAt0 m c (t.val - 1) (Nat.lt_of_le_of_lt (Nat.sub_le _ _) t.isLt)).2.2.2.2.1 y + colAt (iblk m c 0 t) (iblk m c 1 t) (y 1) := by
  rw [outsAt0_B m c t h]
  frame_out
  generalize (outsAt0 m c (t.val - 1) _).2.2.2.2.1 = acc
  open_payloads
  pointwise [colAt]

theorem outs_db_A (c : Dev nD) (t : Fin cfg0.N) (h : t.val % 64 = 0) (y) : (outsAt0 m c t.val t.isLt).2.2.2.2.2 y
    = 0 + sumAt (iblk m c 0 t) (y 1) := by
  rw [zero_add, outsAt0_A m c t h]
  frame_out
  open_payloads
  pointwise [sumAt]

theorem outs_db_B (c : Dev nD) (t : Fin cfg0.N) (h : ¬ t.val % 64 = 0) (y) : (outsAt0 m c t.val t.isLt).2.2.2.2.2 y
    = (outsAt0 m c (t.val - 1) (Nat.lt_of_le_of_lt (Nat.sub_le _ _) t.isLt)).2.2.2.2.2 y + sumAt (iblk m c 0 t) (y 1) := by
  rw [outsAt0_B m c t h]
  frame_out
  generalize (outsAt0 m c (t.val - 1) _).2.2.2.2.2 = acc
  open_payloads
  pointwise [sumAt]

/-- The results, of the arrays of real numbers. -/
def outRow {q : ℕ} (f : Fin 16384 → Fin q → ℝ) (j : (⟨2, ![16384, q]⟩ : Shape).Idx) : EReal := ((f (j 0) (j 1) : ℝ) : EReal)

def outDg (X : S16384x1024.Idx → ℝ) (A B : S1024x2816.Idx → ℝ) (D : S2816x1024.Idx → ℝ) (T : S16384x1024.Idx → ℝ) (j : S1x1024.Idx) : EReal :=
  ∑ a : Fin 16384, ((T (ix2 a (j 1)) : ℝ) : EReal) * ((nrm (zrow X A B D a) (j 1) : ℝ) : EReal)

def outDb (T : S16384x1024.Idx → ℝ) (j : S1x1024.Idx) : EReal := ∑ a : Fin 16384, ((T (ix2 a (j 1)) : ℝ) : EReal)

theorem row_eq {q : ℕ} {f : Fin 16384 → Fin q → ℝ} {k : Fin q} {v : EReal} (j : (⟨2, ![16384, q]⟩ : Shape).Idx) (h1 : (j 1 : ℕ) = k) (hv : v = ((f (j 0) k : ℝ) : EReal)) :
    v = outRow f j := by
  rw [hv, outRow, show j 1 = k from Fin.ext h1]

variable (h : Args m X A B D G T c)

include h

/-- The results after the run. -/
theorem final_dx : (dats m 0 c).arrAt 9 cfg0.N = outRow (xgrad X A B D G T) := by
  refine (dats m 0 c).arrAt_eq_of_covers 9 _ (by decide +kernel) fun t hf y => ?_
  blk_simp
  rw [after0_9, piece_dx]
  exact row_eq _ (by blk_simp [idx t]) (at_dx h t (y 0) _ (by blk_simp [idx t]) (y 1))

theorem final_dy : (dats m 0 c).arrAt 10 cfg0.N = outRow (fun a k => 1 / 2 * zgrad X A B D G T a k) := by
  refine (dats m 0 c).arrAt_eq_of_covers 10 _ (by decide +kernel) fun t hf y => ?_
  blk_simp
  rw [after0_10, piece_dy]
  exact row_eq _ (by blk_simp [idx t]) (dy_real (at_dz h t (y 0) _ (by blk_simp [idx t]) (y 1)))

theorem final_dgate : (dats m 0 c).arrAt 11 cfg0.N = outRow (ggrad X A B D G T) := by
  refine (dats m 0 c).arrAt_eq_of_covers 11 _ (by decide +kernel) fun t hf y => ?_
  blk_simp
  rw [after0_11, piece_dg]
  exact row_eq _ (by blk_simp [idx t]) (at_dg h t (y 0) _ (by blk_simp [idx t]) (y 1))

theorem final_du : (dats m 0 c).arrAt 12 cfg0.N = outRow (ugrad X A B D G T) := by
  refine (dats m 0 c).arrAt_eq_of_covers 12 _ (by decide +kernel) fun t hf y => ?_
  blk_simp
  rw [after0_12, piece_du]
  exact row_eq _ (by blk_simp [idx t]) (at_du h t (y 0) _ (by blk_simp [idx t]) (y 1))

theorem col_term (t : Fin cfg0.N) (i : Fin 256) (k k' : Fin 1024) (a : Fin 16384) (h0 : (a : ℕ) = t.val * 256 + i) (hk : (k' : ℕ) = k) :
    (fun p q : EReal => p * q) (iblk m c 0 t (ix2 i k)) (iblk m c 1 t (ix2 i k)) = ((T (ix2 a k') : ℝ) : EReal) * ((nrm (zrow X A B D a) k' : ℝ) : EReal) :=
  congrArg₂ (fun p q : EReal => p * q) (blk_ct h t (ix2 i k) a k' h0 hk) (blk_xh h t (ix2 i k) a k' h0 hk)

theorem final_dgam : (dats m 0 c).arrAt 13 cfg0.N = outDg X A B D T := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 64 (fun _ => 0) (fun t j => colAt (iblk m c 0 t) (iblk m c 1 t) (j 1))
    (fun t h j => outs_dg_A c t h j) (fun t h j => outs_dg_B c t h j) t ((flush0_13 t).mp hf) _, zero_add]
  unfold outDg
  refine Fin.sum_mul_add_congr fun s k hl => ?_
  have hs : 64 * (t.val / 64) + s.val = s.val := by have := t.isLt; have hN : cfg0.grid.N = 64 := N_0; omega
  exact col_term h _ k _ _ _ (by simp [hs]) (by blk_simp [idx t])

theorem final_dbet : (dats m 0 c).arrAt 14 cfg0.N = outDb T := by
  refine (dats m 0 c).arrAt_eq_of_covers 14 _ (by decide +kernel) fun t hf y => ?_
  blk_simp
  rw [after0_14, Pipeline.eq_sum_fin_of_reset_step_apply_of_flush (fun n h => (outsAt0 m c n h).2.2.2.2.2) 64 (fun _ => 0) (fun t j => sumAt (iblk m c 0 t) (j 1))
    (fun t h j => outs_db_A c t h j) (fun t h j => outs_db_B c t h j) t ((flush0_14 t).mp hf) _, zero_add]
  unfold outDb
  refine Fin.sum_mul_add_congr fun s k hl => ?_
  have hs : 64 * (t.val / 64) + s.val = s.val := by have := t.isLt; have hN : cfg0.grid.N = 64 := N_0; omega
  exact blk_ct h _ (ix2 k _) _ _ (by simp [hs]) (by blk_simp [idx t])

end Cert.FfnIdeal.Pair

namespace Cert.FfnPair

open Cert.LayerNorm

/-- The reference's frame. -/
theorem quiescent_ref : Cert.quiescent_FfnRefIdeal (hFfnRefIdeal := Cert.FfnRefIdeal.Gen.facts) := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

/-- The precondition's shapes. -/
instance preFacts : Cert.Pre_ffn_finite.Facts := ⟨by decide, by decide, by decide, by decide⟩

/-- Under the precondition the arguments are arrays of real numbers. -/
theorem args (m : (ℓ : Loc Cert.FfnIdeal.nD Cert.FfnIdeal.τ Cert.FfnIdeal.sig) → Buf (Elt Ideal) ℓ) (h : Cert.Pre_FfnIdeal_ffn_finite m) (c) :
    ∃ X A B D G T, Cert.FfnIdeal.Pair.Args m X A B D G T c := by
  obtain ⟨h0, h1, h2, h3, h4, h5⟩ := h c
  obtain ⟨X, hX⟩ := real_of_lt _ _ (fun _ => lit_inf) h0
  obtain ⟨A, hA⟩ := real_of_lt _ _ (fun _ => lit_inf) h1
  obtain ⟨B, hB⟩ := real_of_lt _ _ (fun _ => lit_inf) h2
  obtain ⟨D, hD⟩ := real_of_lt _ _ (fun _ => lit_inf) h3
  obtain ⟨G, hG⟩ := real_of_lt _ _ (fun _ => lit_inf) h4
  obtain ⟨T, hT⟩ := real_of_lt _ _ (fun _ => lit_inf) h5
  exact ⟨X, A, B, D, G, T, ⟨hX, hA, hB, hD, hG, hT⟩⟩

open Cert.FfnIdeal.Pair (outRow outDg outDb) in
open Cert.FfnRefIdeal.Pair (zgrad ggrad ugrad xgrad ref_dx ref_dy ref_dg ref_du ref_dgam ref_dbet) in
open Cert.FfnRefIdeal.Read in
/-- The reference's results, of the arrays of real numbers. -/
theorem ref_results (X : Cert.FfnRefIdeal.S16384x1024.Idx → ℝ) (A B : Cert.FfnRefIdeal.S1024x2816.Idx → ℝ) (D : Cert.FfnRefIdeal.S2816x1024.Idx → ℝ)
    (G : Cert.FfnRefIdeal.S1024.Idx → ℝ) (T : Cert.FfnRefIdeal.S16384x1024.Idx → ℝ) :
    val_main_v90 (F := Ideal) (up X) (up A) (up B) (up D) (up G) (up T) = outRow (xgrad X A B D G T)
    ∧ val_main_v91 (F := Ideal) (up X) (up A) (up B) (up D) (up G) (up T) = outRow (fun a k => 1 / 2 * zgrad X A B D G T a k)
    ∧ val_main_v92 (F := Ideal) (up X) (up A) (up B) (up D) (up G) (up T) = outRow (ggrad X A B D G T)
    ∧ val_main_v93 (F := Ideal) (up X) (up A) (up B) (up D) (up G) (up T) = outRow (ugrad X A B D G T)
    ∧ val_main_v94 (F := Ideal) (up X) (up A) (up B) (up D) (up T) = outDg X A B D T
    ∧ val_main_v95 (F := Ideal) (up T) = outDb T := by
  refine ⟨?_, ?_, ?_, ?_, ?_, ?_⟩ <;> funext j
  · rw [eq_ix2 j]
    exact ref_dx X A B D G T _ _
  · rw [eq_ix2 j]
    exact ref_dy X A B D G T _ _
  · rw [eq_ix2 j]
    exact ref_dg X A B D G T _ _
  · rw [eq_ix2 j]
    exact ref_du X A B D G T _ _
  · rw [at2 j 0 (j 1) (Nat.lt_one_iff.mp (j 0).isLt) rfl]
    exact ref_dgam X A B D T _
  · rw [at2 j 0 (j 1) (Nat.lt_one_iff.mp (j 0).isLt) rfl]
    exact ref_dbet T _

open Cert.FfnIdeal.Pair (outRow outDg outDb final_dx final_dy final_dgate final_du final_dgam final_dbet) in
open Cert.FfnRefIdeal.Pair (zgrad ggrad ugrad xgrad) in
/-- Kernel and reference leave equal results. -/
theorem algebraic : Cert.algebraic_FfnIdeal_FfnRefIdeal_pre_ffn_finite (hFfnIdeal := Cert.FfnIdeal.Gen.facts) (hFfnRefIdeal := Cert.FfnRefIdeal.Gen.facts)
    (hPre_ffn_finite := preFacts) := by
  intro m g m' g' hpre hag
  choose X A B D G T hA using fun c => args m hpre c
  refine ⟨fun c => outRow (xgrad (X c) (A c) (B c) (D c) (G c) (T c)), fun c => outRow (fun a k => 1 / 2 * zgrad (X c) (A c) (B c) (D c) (G c) (T c) a k),
    fun c => outRow (ggrad (X c) (A c) (B c) (D c) (G c) (T c)), fun c => outRow (ugrad (X c) (A c) (B c) (D c) (G c) (T c)),
    fun c => outDg (X c) (A c) (B c) (D c) (T c), fun c => outDb (T c),
    (θ_run _ _ _).mono (fun r h c => ⟨(h c).1.trans (final_dx (hA c)), (h c).2.1.trans (final_dy (hA c)), (h c).2.2.1.trans (final_dgate (hA c)),
      (h c).2.2.2.1.trans (final_du (hA c)), (h c).2.2.2.2.1.trans (final_dgam (hA c)), (h c).2.2.2.2.2.1.trans (final_dbet (hA c)), (h c).2.2.2.2.2.2⟩)
      (Cert.FfnIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_,
      (h c).2.2.2.2.2.2⟩) (Cert.FfnRefIdeal.Value.run (F := Ideal) m' g')⟩
  all_goals
    obtain ⟨h0, h1, h2, h3, h4, h5, h6⟩ := hag c
    have e0 : StableHlo.launchContents m' c (Proc.tc.devRef Cert.FfnRefIdeal.main_arg0) = up (X c) := h0.trans (hA c).x
    have e1 : StableHlo.launchContents m' c (Proc.tc.devRef Cert.FfnRefIdeal.main_arg1) = up (A c) := h1.trans (hA c).wg
    have e2 : StableHlo.launchContents m' c (Proc.tc.devRef Cert.FfnRefIdeal.main_arg2) = up (B c) := h2.trans (hA c).wu
    have e3 : StableHlo.launchContents m' c (Proc.tc.devRef Cert.FfnRefIdeal.main_arg3) = up (D c) := h3.trans (hA c).wd
    have e4 : StableHlo.launchContents m' c (Proc.tc.devRef Cert.FfnRefIdeal.main_arg4) = up (G c) := h4.trans (hA c).gam
    have e6 : StableHlo.launchContents m' c (Proc.tc.devRef Cert.FfnRefIdeal.main_arg6) = up (T c) := h6.trans (hA c).ct
    obtain ⟨r0, r1, r2, r3, r4, r5⟩ := ref_results (X c) (A c) (B c) (D c) (G c) (T c)
  · rw [Cert.FfnRefIdeal.Read.val_main_v90_eq, e0, e1, e2, e3, e4, e6]; exact r0
  · rw [Cert.FfnRefIdeal.Read.val_main_v91_eq, e0, e1, e2, e3, e4, e6]; exact r1
  · rw [Cert.FfnRefIdeal.Read.val_main_v92_eq, e0, e1, e2, e3, e4, e6]; exact r2
  · rw [Cert.FfnRefIdeal.Read.val_main_v93_eq, e0, e1, e2, e3, e4, e6]; exact r3
  · rw [Cert.FfnRefIdeal.Read.val_main_v94_eq, e0, e1, e2, e3, e6]; exact r4
  · rw [Cert.FfnRefIdeal.Read.val_main_v95_eq, e6]; exact r5

end Cert.FfnPair

end
-- ==== Proof.Forward.lean ====
module

public import proofs.«01_k».proof.Proof.LayerNorm

@[expose] public section

noncomputable section

namespace Cert.Forward

open Idealize.ShloMosaic

variable {p n : ℕ}

/-- One entry of scaled and shifted rows. -/
def aff (x : (⟨2, ![p, n]⟩ : Shape).Idx → EReal) (g b : (⟨2, ![1, n]⟩ : Shape).Idx → EReal) (i : Fin p) (k : Fin n) : EReal :=
  x (ix2 i k) * g (ix2 0 k) + b (ix2 0 k)

/-- One entry of the product of such rows with a matrix's rows. -/
def affMul {q : ℕ} (x : (⟨2, ![p, n]⟩ : Shape).Idx → EReal) (g b : (⟨2, ![1, n]⟩ : Shape).Idx → EReal) (w : (⟨2, ![q, n]⟩ : Shape).Idx → EReal)
    (i : Fin p) (k : Fin q) : EReal :=
  ∑ j : Fin n, aff x g b i j * w (ix2 k j)

/-- One entry of a residual plus a product with a matrix's columns, each scaled. -/
def resRow {l q : ℕ} (u v : EReal) (a : (⟨2, ![l, p]⟩ : Shape).Idx → EReal) (w : (⟨2, ![p, q]⟩ : Shape).Idx → EReal) (r : Fin q → EReal) (i : Fin l) (k : Fin q) : EReal :=
  u * r k + v * ∑ j : Fin p, a (ix2 i j) * w (ix2 j k)

/-- A value times its logistic, times another value. -/
def gate (g u : EReal) : EReal := g * Ideal.div 1 (1 + Ideal.exp (-g)) * u

/-- A row's mean; w is its length. -/
def meanOf (z : Fin n → EReal) (w : EReal) : EReal := Ideal.div (∑ k, z k) w

/-- One over a row's deviation, e being added to the variance. -/
def rstdOf (z : Fin n → EReal) (w e : EReal) : EReal :=
  Ideal.rsqrt (Ideal.div (∑ k, (z k - meanOf z w) * (z k - meanOf z w)) w + e)

/-- The normalised row. -/
def nrmOf (z : Fin n → EReal) (w e : EReal) (k : Fin n) : EReal := (z k - meanOf z w) * rstdOf z w e

theorem aff_congr {p' : ℕ} {x : (⟨2, ![p, n]⟩ : Shape).Idx → EReal} {g b : (⟨2, ![1, n]⟩ : Shape).Idx → EReal} {x' : (⟨2, ![p', n]⟩ : Shape).Idx → EReal}
    {g' b' : (⟨1, ![n]⟩ : Shape).Idx → EReal} {i : Fin p} {i' : Fin p'} (hx : ∀ k, x (ix2 i k) = x' (ix2 i' k)) (hg : ∀ k, g (ix2 0 k) = g' (ix1 k))
    (hb : ∀ k, b (ix2 0 k) = b' (ix1 k)) (k : Fin n) : aff x g b i k = x' (ix2 i' k) * g' (ix1 k) + b' (ix1 k) := by
  unfold aff
  rw [hx, hg, hb]

theorem affMul_congr {p' q : ℕ} {x : (⟨2, ![p, n]⟩ : Shape).Idx → EReal} {g b : (⟨2, ![1, n]⟩ : Shape).Idx → EReal} {x' : (⟨2, ![p', n]⟩ : Shape).Idx → EReal}
    {g' b' : (⟨1, ![n]⟩ : Shape).Idx → EReal} {w : (⟨2, ![q, n]⟩ : Shape).Idx → EReal} {w' : (⟨2, ![n, q]⟩ : Shape).Idx → EReal} {i : Fin p} {i' : Fin p'}
    (hx : ∀ k, x (ix2 i k) = x' (ix2 i' k)) (hg : ∀ k, g (ix2 0 k) = g' (ix1 k)) (hb : ∀ k, b (ix2 0 k) = b' (ix1 k)) (hw : ∀ k j, w (ix2 k j) = w' (ix2 j k))
    (k : Fin q) : affMul x g b w i k = ∑ j : Fin n, (x' (ix2 i' j) * g' (ix1 j) + b' (ix1 j)) * w' (ix2 j k) :=
  Finset.sum_congr rfl fun j _ => by rw [aff_congr hx hg hb, hw]

theorem resRow_congr {l l' q : ℕ} {u v : EReal} {a : (⟨2, ![l, p]⟩ : Shape).Idx → EReal} {a' : (⟨2, ![l', p]⟩ : Shape).Idx → EReal}
    {w w' : (⟨2, ![p, q]⟩ : Shape).Idx → EReal} {r r' : Fin q → EReal} {i : Fin l} {i' : Fin l'} (ha : ∀ j, a (ix2 i j) = a' (ix2 i' j))
    (hw : ∀ j k, w (ix2 j k) = w' (ix2 j k)) (hr : ∀ k, r k = r' k) : resRow u v a w r i = resRow u v a' w' r' i' := by
  funext k
  unfold resRow
  rw [hr]
  exact congrArg (fun s => u * r' k + v * s) (Finset.sum_congr rfl fun j _ => by rw [ha, hw])

end Cert.Forward

end
-- ==== Proof.UpValue.lean ====
module

public import proofs.«01_k».proof.Defs
public import proofs.«01_k».proof.Proof.Forward
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpIdeal.Pair

open Cert.UpIdeal Cert.UpIdeal.Gen Cert.LayerNorm Cert.Forward

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

/-- The normalised rows the region reads are the reference's. -/
theorem entry_x : V m c main_v15 = Cert.UpRefIdeal.Read.val_main_v17 (F := Ideal) (m ((c : Thread nD τ).loc main_arg0)) := by
  unfold V
  after_results_simp
  rfl

theorem entry_gam (i : S1x1024.Idx) (k : Fin 1024) (h0 : (i 0 : ℕ) = (0 : Fin 1)) (h1 : (i 1 : ℕ) = k) :
    V m c main_v16 i = m ((c : Thread nD τ).loc main_arg1) (ix1 k) := by
  unfold V
  after_results_simp
  rw [at2 i 0 k h0 h1]
  pointwise []

theorem entry_bet (i : S1x1024.Idx) (k : Fin 1024) (h0 : (i 0 : ℕ) = (0 : Fin 1)) (h1 : (i 1 : ℕ) = k) :
    V m c main_v17 i = m ((c : Thread nD τ).loc main_arg2) (ix1 k) := by
  unfold V
  after_results_simp
  rw [at2 i 0 k h0 h1]
  pointwise []

theorem entry_wg (i : S2816x1024.Idx) (k : Fin 2816) (j : Fin 1024) (h0 : (i 0 : ℕ) = k) (h1 : (i 1 : ℕ) = j) :
    V m c main_v19 i = m ((c : Thread nD τ).loc main_arg3) (ix2 j k) := by
  unfold V
  after_results_simp
  rw [at2 i k j h0 h1]
  pointwise []

theorem entry_wu (i : S2816x1024.Idx) (k : Fin 2816) (j : Fin 1024) (h0 : (i 0 : ℕ) = k) (h1 : (i 1 : ℕ) = j) :
    V m c main_v21 i = m ((c : Thread nD τ).loc main_arg4) (ix2 j k) := by
  unfold V
  after_results_simp
  rw [at2 i k j h0 h1]
  pointwise []

/-- The blocks a grid point reads, at the arrays' indices. -/
theorem blk_x (t : Fin cfg0.N) (y : S512x1024.Idx) (a : Fin 16384) (k : Fin 1024) (h0 : (a : ℕ) = t.val * 512 + y 0) (h1 : (k : ℕ) = y 1) :
    iblk m c 0 t y = Cert.UpRefIdeal.Read.val_main_v17 (F := Ideal) (m ((c : Thread nD τ).loc main_arg0)) (ix2 a k) := by
  blk_simp [iblk, idx t]
  refine (congrFun (entry_x m c) _).trans (congrArg _ (at2 _ a k ?_ ?_)) <;> (blk_simp [idx t, h0, h1] <;> rfl)

theorem blk_gam (t : Fin cfg0.N) (k : Fin 1024) : iblk m c 1 t (ix2 (0 : Fin 1) k : S1x1024.Idx) = m ((c : Thread nD τ).loc main_arg1) (ix1 k) := by
  blk_simp [iblk, idx t]
  refine entry_gam m c _ k ?_ ?_ <;> (blk_simp [idx t] <;> rfl)

theorem blk_bet (t : Fin cfg0.N) (k : Fin 1024) : iblk m c 2 t (ix2 (0 : Fin 1) k : S1x1024.Idx) = m ((c : Thread nD τ).loc main_arg2) (ix1 k) := by
  blk_simp [iblk, idx t]
  refine entry_bet m c _ k ?_ ?_ <;> (blk_simp [idx t] <;> rfl)

theorem blk_wg (t : Fin cfg0.N) (k : Fin 2816) (j : Fin 1024) : iblk m c 3 t (ix2 k j : S2816x1024.Idx) = m ((c : Thread nD τ).loc main_arg3) (ix2 j k) := by
  blk_simp [iblk, idx t]
  refine entry_wg m c _ k j ?_ ?_ <;> (blk_simp [idx t] <;> rfl)

theorem blk_wu (t : Fin cfg0.N) (k : Fin 2816) (j : Fin 1024) : iblk m c 4 t (ix2 k j : S2816x1024.Idx) = m ((c : Thread nD τ).loc main_arg4) (ix2 j k) := by
  blk_simp [iblk, idx t]
  refine entry_wu m c _ k j ?_ ?_ <;> (blk_simp [idx t] <;> rfl)

/-- What a point stores, of its blocks; the wide results in eleven column pieces. -/
theorem piece_x (x : S512x1024.Idx → EReal) (g b : S1x1024.Idx → EReal) (v w : S2816x1024.Idx → EReal) (y : S512x1024.Idx) :
    out0_5 (F := Ideal) x g b v w y = aff x g b (y 0) (y 1) := by
  unfold out0_5
  canon_tiles x hx
  all_goals ((first | rw [at2' hx0 (by omega) hx1] | rw [at2'' hx0 (by omega) hx1 (by omega)]); open_payloads; pointwise [aff])

theorem piece_g (x : S512x1024.Idx → EReal) (g b : S1x1024.Idx → EReal) (v w : S2816x1024.Idx → EReal) (y : S512x2816.Idx) :
    out0_6 (F := Ideal) x g b v w y = affMul x g b v (y 0) (y 1) := by
  unfold out0_6
  canon_tiles x hx
  all_goals ((first | rw [at2' hx0 (by omega) hx1] | rw [at2'' hx0 (by omega) hx1 (by omega)]); open_payloads; pointwise [k0_pay60, affMul, aff])

theorem piece_u (x : S512x1024.Idx → EReal) (g b : S1x1024.Idx → EReal) (v w : S2816x1024.Idx → EReal) (y : S512x2816.Idx) :
    out0_7 (F := Ideal) x g b v w y = affMul x g b w (y 0) (y 1) := by
  unfold out0_7
  canon_tiles x hx
  all_goals ((first | rw [at2' hx0 (by omega) hx1] | rw [at2'' hx0 (by omega) hx1 (by omega)]); open_payloads; pointwise [k0_pay60, affMul, aff])

theorem piece_h (x : S512x1024.Idx → EReal) (g b : S1x1024.Idx → EReal) (v w : S2816x1024.Idx → EReal) (y : S512x2816.Idx) :
    out0_8 (F := Ideal) x g b v w y = gate (affMul x g b v (y 0) (y 1)) (affMul x g b w (y 0) (y 1)) := by
  unfold out0_8
  canon_tiles x hx
  all_goals ((first | rw [at2' hx0 (by omega) hx1] | rw [at2'' hx0 (by omega) hx1 (by omega)]); open_payloads; pointwise [k0_pay60, gate, affMul, aff, zero_sub])

/-- The reference's rows and their product. -/
theorem ref_x (x0 x1 x2) (a : Fin 16384) (k : Fin 1024) : Cert.UpRefIdeal.Read.val_main_v23 (F := Ideal) x0 x1 x2 (ix2 a k)
    = Cert.UpRefIdeal.Read.val_main_v17 (F := Ideal) x0 (ix2 a k) * x1 (ix1 k) + x2 (ix1 k) := by
  pointwise [Cert.UpRefIdeal.Read.val_main_v23, Cert.UpRefIdeal.Read.val_main_v22, Cert.UpRefIdeal.Read.val_main_v21, Cert.UpRefIdeal.Read.val_main_v20,
    Cert.UpRefIdeal.Read.val_main_v19, Cert.UpRefIdeal.Read.val_main_v18]

theorem ref_g (x0 x1 x2 x3) (a : Fin 16384) (k : Fin 2816) : Cert.UpRefIdeal.Read.val_main_v24 (F := Ideal) x0 x1 x2 x3 (ix2 a k)
    = (∑ j : Fin 1024, (Cert.UpRefIdeal.Read.val_main_v17 (F := Ideal) x0 (ix2 a j) * x1 (ix1 j) + x2 (ix1 j)) * x3 (ix2 j k)) := by
  pointwise [Cert.UpRefIdeal.Read.val_main_v24]
  simp only [ref_x]

theorem ref_u (x0 x1 x2 x4) (a : Fin 16384) (k : Fin 2816) : Cert.UpRefIdeal.Read.val_main_v25 (F := Ideal) x0 x1 x2 x4 (ix2 a k)
    = (∑ j : Fin 1024, (Cert.UpRefIdeal.Read.val_main_v17 (F := Ideal) x0 (ix2 a j) * x1 (ix1 j) + x2 (ix1 j)) * x4 (ix2 j k)) := by
  pointwise [Cert.UpRefIdeal.Read.val_main_v25]
  simp only [ref_x]

theorem ref_h (x0 x1 x2 x3 x4) (a : Fin 16384) (k : Fin 2816) : Cert.UpRefIdeal.Read.val_main_v31 (F := Ideal) x0 x1 x2 x3 x4 (ix2 a k)
    = gate (Cert.UpRefIdeal.Read.val_main_v24 (F := Ideal) x0 x1 x2 x3 (ix2 a k)) (Cert.UpRefIdeal.Read.val_main_v25 (F := Ideal) x0 x1 x2 x4 (ix2 a k)) := by
  pointwise [Cert.UpRefIdeal.Read.val_main_v31, Cert.UpRefIdeal.Read.val_main_v30, Cert.UpRefIdeal.Read.val_main_v29, Cert.UpRefIdeal.Read.val_main_call0_v5, Cert.UpRefIdeal.Read.val_main_call0_v4, Cert.UpRefIdeal.Read.val_main_call0_v3, Cert.UpRefIdeal.Read.val_main_call0_v2,
    Cert.UpRefIdeal.Read.val_main_call0_v1, Cert.UpRefIdeal.Read.val_main_call0_v0, Cert.UpRefIdeal.Read.val_main_call0_cst, Cert.UpRefIdeal.Read.val_main_call0_cst_0, gate]

/-- The results after the run are the reference's. -/
theorem final_x : (dats m 0 c).arrAt 5 cfg0.N = Cert.UpRefIdeal.Read.val_main_v26 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, piece_x, eq_ix2 (((cfg0.win 5).blk t).view.emb y)]
  refine Eq.trans ?_ (ref_x _ _ _ _ _).symm
  have hk : ((cfg0.win 5).blk t).view.emb y 1 = y 1 := Fin.ext (by blk_simp [idx t])
  rw [hk]
  exact aff_congr (fun k => blk_x m c t _ _ k (by blk_simp [idx t]) rfl) (blk_gam m c t) (blk_bet m c t) _

theorem final_g : (dats m 0 c).arrAt 6 cfg0.N = Cert.UpRefIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, piece_g, eq_ix2 (((cfg0.win 6).blk t).view.emb y)]
  refine Eq.trans ?_ (ref_g _ _ _ _ _ _).symm
  have hk : ((cfg0.win 6).blk t).view.emb y 1 = y 1 := Fin.ext (by blk_simp [idx t])
  rw [hk]
  exact affMul_congr (fun k => blk_x m c t _ _ k (by blk_simp [idx t]) rfl) (blk_gam m c t) (blk_bet m c t) (blk_wg m c t) _

theorem final_u : (dats m 0 c).arrAt 7 cfg0.N = Cert.UpRefIdeal.Read.val_main_v28 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7, piece_u, eq_ix2 (((cfg0.win 7).blk t).view.emb y)]
  refine Eq.trans ?_ (ref_u _ _ _ _ _ _).symm
  have hk : ((cfg0.win 7).blk t).view.emb y 1 = y 1 := Fin.ext (by blk_simp [idx t])
  rw [hk]
  exact affMul_congr (fun k => blk_x m c t _ _ k (by blk_simp [idx t]) rfl) (blk_gam m c t) (blk_bet m c t) (blk_wu m c t) _

theorem final_h : (dats m 0 c).arrAt 8 cfg0.N = Cert.UpRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, piece_h, eq_ix2 (((cfg0.win 8).blk t).view.emb y)]
  refine Eq.trans ?_ (ref_h _ _ _ _ _ _ _).symm
  have hk : ((cfg0.win 8).blk t).view.emb y 1 = y 1 := Fin.ext (by blk_simp [idx t])
  rw [hk]
  exact congrArg₂ gate ((affMul_congr (fun k => blk_x m c t _ _ k (by blk_simp [idx t]) rfl) (blk_gam m c t) (blk_bet m c t) (blk_wg m c t) _).trans (ref_g _ _ _ _ _ _).symm)
    ((affMul_congr (fun k => blk_x m c t _ _ k (by blk_simp [idx t]) rfl) (blk_gam m c t) (blk_bet m c t) (blk_wu m c t) _).trans (ref_u _ _ _ _ _ _).symm)

end Cert.UpIdeal.Pair

namespace Cert.UpPair

/-- The reference's frame. -/
theorem quiescent_ref : Cert.quiescent_UpRefIdeal (hUpRefIdeal := Cert.UpRefIdeal.Gen.facts) := fun m ρ _ =>
  (θ_run Cert.UpRefIdeal.defs _ _).mono (fun r h => ⟨fun c => (h c).2.2.2.2, sem_eq_zero_of_no_sems (by decide) r.2⟩)
    (Cert.UpRefIdeal.Value.run (F := Ideal) m ρ)

/-- Kernel and reference leave equal results. -/
theorem algebraic : Cert.algebraic_UpIdeal_UpRefIdeal (hUpIdeal := Cert.UpIdeal.Gen.facts) (hUpRefIdeal := Cert.UpRefIdeal.Gen.facts) := by
  intro m g m' g' _ hag
  refine ⟨_, _, _, _,
    (θ_run _ _ _).mono (fun r h c => ⟨(h c).1.trans (Cert.UpIdeal.Pair.final_x m c), (h c).2.1.trans (Cert.UpIdeal.Pair.final_g m c),
      (h c).2.2.1.trans (Cert.UpIdeal.Pair.final_u m c), (h c).2.2.2.1.trans (Cert.UpIdeal.Pair.final_h m c), (h c).2.2.2.2⟩)
      (Cert.UpIdeal.Value.run_blocks m g),
    (θ_run _ _ _).mono (fun r h c => ⟨(h c).1.trans ?_, (h c).2.1.trans ?_, (h c).2.2.1.trans ?_, (h c).2.2.2.1.trans ?_, (h c).2.2.2.2⟩)
      (Cert.UpRefIdeal.Value.run (F := Ideal) m' g')⟩
  all_goals obtain ⟨h0, h1, h2, h3, h4⟩ := hag c
  · rw [Cert.UpRefIdeal.Read.val_main_v26_eq, h0, h1, h2]
  · rw [Cert.UpRefIdeal.Read.val_main_v27_eq, h0, h1, h2, h3]
  · rw [Cert.UpRefIdeal.Read.val_main_v28_eq, h0, h1, h2, h4]
  · rw [Cert.UpRefIdeal.Read.val_main_v31_eq, h0, h1, h2, h3, h4]

end Cert.UpPair

end
-- ==== Proof.DownValue.lean ====
module

public import proofs.«01_k».proof.Defs
public import proofs.«01_k».proof.Proof.Forward
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownIdeal.Pair

open Cert.DownIdeal Cert.DownIdeal.Gen Cert.LayerNorm Cert.Forward

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

/-- The arrays the region reads: the normalised rows and the product's left factor are the reference's, the others the arguments. -/
theorem entry_x : V m c main_v15 = Cert.DownRefIdeal.Read.val_main_v17 (F := Ideal) (m ((c : Thread nD τ).loc main_arg0)) := by
  unfold V
  after_results_simp
  rfl

theorem entry_a (a : Fin 16384) (j : Fin 2816) : V m c main_v37 (ix2 a j) = Cert.DownRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 a j) := by
  have hx := entry_x m c
  revert hx
  unfold V
  after_results_simp
  intro hx
  rw [hx]
  pointwise [Cert.DownRefIdeal.Read.val_main_v29, Cert.DownRefIdeal.Read.val_main_v28, Cert.DownRefIdeal.Read.val_main_v27, Cert.DownRefIdeal.Read.val_main_call0_v5, Cert.DownRefIdeal.Read.val_main_call0_v4, Cert.DownRefIdeal.Read.val_main_call0_v3, Cert.DownRefIdeal.Read.val_main_call0_v2, Cert.DownRefIdeal.Read.val_main_call0_v1, Cert.DownRefIdeal.Read.val_main_call0_v0, Cert.DownRefIdeal.Read.val_main_call0_cst, Cert.DownRefIdeal.Read.val_main_call0_cst_0, Cert.DownRefIdeal.Read.val_main_v26, Cert.DownRefIdeal.Read.val_main_v23, Cert.DownRefIdeal.Read.val_main_v22, Cert.DownRefIdeal.Read.val_main_v21, Cert.DownRefIdeal.Read.val_main_v20, Cert.DownRefIdeal.Read.val_main_v19, Cert.DownRefIdeal.Read.val_main_v18]

theorem entry_w (i : S2816x1024.Idx) (j : Fin 2816) (k : Fin 1024) (h0 : (i 0 : ℕ) = j) (h1 : (i 1 : ℕ) = k) :
    V m c main_v38 i = (m ((c : Thread nD τ).loc main_arg5)) (ix2 j k) := by
  unfold V
  after_results_simp
  rw [at2 i j k h0 h1]
  pointwise []

theorem entry_gam (i : S1x1024.Idx) (k : Fin 1024) (h0 : (i 0 : ℕ) = (0 : Fin 1)) (h1 : (i 1 : ℕ) = k) :
    V m c main_v39 i = m ((c : Thread nD τ).loc main_arg1) (ix1 k) := by
  unfold V
  after_results_simp
  rw [at2 i 0 k h0 h1]
  pointwise []

theorem entry_bet (i : S1x1024.Idx) (k : Fin 1024) (h0 : (i 0 : ℕ) = (0 : Fin 1)) (h1 : (i 1 : ℕ) = k) :
    V m c main_v40 i = m ((c : Thread nD τ).loc main_arg2) (ix1 k) := by
  unfold V
  after_results_simp
  rw [at2 i 0 k h0 h1]
  pointwise []

/-- The blocks a grid point reads, at the arrays' indices. -/
theorem blk_a (t : Fin cfg0.N) (y : S1024x2816.Idx) (a : Fin 16384) (j : Fin 2816) (h0 : (a : ℕ) = t.val * 1024 + y 0) (h1 : (j : ℕ) = y 1) :
    iblk m c 0 t y = Cert.DownRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 a j) := by
  blk_simp [iblk, idx t]
  refine Eq.trans (congrArg _ (at2 _ a j ?_ ?_)) (entry_a m c a j) <;> (blk_simp [idx t, h0, h1] <;> rfl)

theorem blk_w (t : Fin cfg0.N) (j : Fin 2816) (k : Fin 1024) : iblk m c 1 t (ix2 j k : S2816x1024.Idx) = (m ((c : Thread nD τ).loc main_arg5)) (ix2 j k) := by
  blk_simp [iblk, idx t]
  refine entry_w m c _ j k ?_ ?_ <;> (blk_simp [idx t] <;> rfl)

theorem blk_x (t : Fin cfg0.N) (y : S1024x1024.Idx) (a : Fin 16384) (k : Fin 1024) (h0 : (a : ℕ) = t.val * 1024 + y 0) (h1 : (k : ℕ) = y 1) :
    iblk m c 2 t y = Cert.DownRefIdeal.Read.val_main_v17 (F := Ideal) (m ((c : Thread nD τ).loc main_arg0)) (ix2 a k) := by
  blk_simp [iblk, idx t]
  refine (congrFun (entry_x m c) _).trans (congrArg _ (at2 _ a k ?_ ?_)) <;> (blk_simp [idx t, h0, h1] <;> rfl)

theorem blk_gam (t : Fin cfg0.N) (k : Fin 1024) : iblk m c 3 t (ix2 (0 : Fin 1) k : S1x1024.Idx) = (m ((c : Thread nD τ).loc main_arg1)) (ix1 k) := by
  blk_simp [iblk, idx t]
  refine entry_gam m c _ k ?_ ?_ <;> (blk_simp [idx t] <;> rfl)

theorem blk_bet (t : Fin cfg0.N) (k : Fin 1024) : iblk m c 4 t (ix2 (0 : Fin 1) k : S1x1024.Idx) = (m ((c : Thread nD τ).loc main_arg2)) (ix1 k) := by
  blk_simp [iblk, idx t]
  refine entry_bet m c _ k ?_ ?_ <;> (blk_simp [idx t] <;> rfl)

/-- The row normalised, of a point's blocks. -/
def zOf (a : S1024x2816.Idx → EReal) (w : S2816x1024.Idx → EReal) (x : S1024x1024.Idx → EReal) (g b : S1x1024.Idx → EReal) (i : Fin 1024) : Fin 1024 → EReal :=
  resRow (Ideal.ofBits .f32 0x3FD744FD#32) (Ideal.ofBits .f32 0x3F000000#32) a w (aff x g b i) i

/-- A row's length and the number added to the variance. -/
def len : EReal := Ideal.ofBits .f32 0x44800000#32

def eps : EReal := Ideal.ofBits .f32 0x3727C5AC#32

/-- What a point stores, of its blocks: four pieces of 256 rows. -/
theorem piece_r (a : S1024x2816.Idx → EReal) (w : S2816x1024.Idx → EReal) (x : S1024x1024.Idx → EReal) (g b : S1x1024.Idx → EReal) (y : S1024x1.Idx) :
    out0_6 (F := Ideal) a w x g b y = rstdOf (zOf a w x g b (y 0)) len eps := by
  unfold out0_6
  canon_tiles x hx
  all_goals (rw [at2' hx0 (by omega) hx1]; open_payloads; pointwise [rstdOf, meanOf, zOf, resRow, aff, len, eps])

theorem piece_n (a : S1024x2816.Idx → EReal) (w : S2816x1024.Idx → EReal) (x : S1024x1024.Idx → EReal) (g b : S1x1024.Idx → EReal) (y : S1024x1024.Idx) :
    out0_5 (F := Ideal) a w x g b y = nrmOf (zOf a w x g b (y 0)) len eps (y 1) := by
  unfold out0_5
  canon_tiles x hx
  all_goals (rw [at2' hx0 (by omega) hx1]; open_payloads; pointwise [nrmOf, rstdOf, meanOf, zOf, resRow, aff, len, eps])

/-- The reference's row before the normalisation, its mean, deviation and normalised row. -/
def zRef (x0 : S16384x1024.Idx → EReal) (x1 x2 : S1024.Idx → EReal) (x3 x4 : S1024x2816.Idx → EReal) (x5 : S2816x1024.Idx → EReal) (i : Fin 16384) : Fin 1024 → EReal := fun k => Cert.DownRefIdeal.Read.val_main_v33 (F := Ideal) x0 x1 x2 x3 x4 x5 (ix2 i k)

theorem ref_z (x0 : S16384x1024.Idx → EReal) (x1 x2 : S1024.Idx → EReal) (x3 x4 : S1024x2816.Idx → EReal) (x5 : S2816x1024.Idx → EReal) (i : Fin 16384) : zRef x0 x1 x2 x3 x4 x5 i = resRow (Ideal.ofBits .f32 0x3FD744FD#32) (Ideal.ofBits .f32 0x3F000000#32) (Cert.DownRefIdeal.Read.val_main_v29 (F := Ideal) x0 x1 x2 x3 x4) x5
    (fun k => Cert.DownRefIdeal.Read.val_main_v17 (F := Ideal) x0 (ix2 i k) * x1 (ix1 k) + x2 (ix1 k)) i := by
  funext k
  unfold zRef resRow
  pointwise [Cert.DownRefIdeal.Read.val_main_v33, Cert.DownRefIdeal.Read.val_main_v32, Cert.DownRefIdeal.Read.val_main_v31, Cert.DownRefIdeal.Read.val_main_v30, Cert.DownRefIdeal.Read.val_main_v25, Cert.DownRefIdeal.Read.val_main_v24, Cert.DownRefIdeal.Read.val_main_cst_4, Cert.DownRefIdeal.Read.val_main_cst_5, Cert.DownRefIdeal.Read.val_main_v23, Cert.DownRefIdeal.Read.val_main_v22, Cert.DownRefIdeal.Read.val_main_v21, Cert.DownRefIdeal.Read.val_main_v20, Cert.DownRefIdeal.Read.val_main_v19, Cert.DownRefIdeal.Read.val_main_v18]

theorem ref_mean (x0 : S16384x1024.Idx → EReal) (x1 x2 : S1024.Idx → EReal) (x3 x4 : S1024x2816.Idx → EReal) (x5 : S2816x1024.Idx → EReal) (i : Fin 16384) : Cert.DownRefIdeal.Read.val_main_v37 (F := Ideal) x0 x1 x2 x3 x4 x5 (ix2 i 0) = meanOf (zRef x0 x1 x2 x3 x4 x5 i) len := by
  unfold zRef meanOf len
  pointwise [Cert.DownRefIdeal.Read.val_main_v37, Cert.DownRefIdeal.Read.val_main_v36, Cert.DownRefIdeal.Read.val_main_v35, Cert.DownRefIdeal.Read.val_main_v34, Cert.DownRefIdeal.Read.val_main_cst_6, Cert.DownRefIdeal.Read.val_main_cst_7]

theorem ref_r (x0 : S16384x1024.Idx → EReal) (x1 x2 : S1024.Idx → EReal) (x3 x4 : S1024x2816.Idx → EReal) (x5 : S2816x1024.Idx → EReal) (i : Fin 16384) : Cert.DownRefIdeal.Read.val_main_v47 (F := Ideal) x0 x1 x2 x3 x4 x5 (ix2 i 0) = rstdOf (zRef x0 x1 x2 x3 x4 x5 i) len eps := by
  unfold rstdOf
  rw [← ref_mean]
  unfold zRef len eps
  pointwise [Cert.DownRefIdeal.Read.val_main_v47, Cert.DownRefIdeal.Read.val_main_v46, Cert.DownRefIdeal.Read.val_main_v45, Cert.DownRefIdeal.Read.val_main_v44, Cert.DownRefIdeal.Read.val_main_v43, Cert.DownRefIdeal.Read.val_main_v42, Cert.DownRefIdeal.Read.val_main_v41, Cert.DownRefIdeal.Read.val_main_v40, Cert.DownRefIdeal.Read.val_main_v39, Cert.DownRefIdeal.Read.val_main_v38, Cert.DownRefIdeal.Read.val_main_cst_8, Cert.DownRefIdeal.Read.val_main_cst_9, Cert.DownRefIdeal.Read.val_main_cst_10]

theorem ref_n (x0 : S16384x1024.Idx → EReal) (x1 x2 : S1024.Idx → EReal) (x3 x4 : S1024x2816.Idx → EReal) (x5 : S2816x1024.Idx → EReal) (i : Fin 16384) (k : Fin 1024) : Cert.DownRefIdeal.Read.val_main_v51 (F := Ideal) x0 x1 x2 x3 x4 x5 (ix2 i k) = nrmOf (zRef x0 x1 x2 x3 x4 x5 i) len eps k := by
  unfold nrmOf
  rw [← ref_mean, ← ref_r]
  unfold zRef
  pointwise [Cert.DownRefIdeal.Read.val_main_v51, Cert.DownRefIdeal.Read.val_main_v50, Cert.DownRefIdeal.Read.val_main_v49, Cert.DownRefIdeal.Read.val_main_v48]

/-- A point's rows before the normalisation are the reference's. -/
theorem row_z (t : Fin cfg0.N) (i : Fin 1024) (a : Fin 16384) (h : (a : ℕ) = t.val * 1024 + i) :
    zOf (iblk m c 0 t) (iblk m c 1 t) (iblk m c 2 t) (iblk m c 3 t) (iblk m c 4 t) i = zRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a := by
  refine Eq.trans ?_ (ref_z _ _ _ _ _ _ _).symm
  exact resRow_congr (fun j => blk_a m c t _ _ j h rfl) (blk_w m c t) (aff_congr (fun k => blk_x m c t _ _ k h rfl) (blk_gam m c t) (blk_bet m c t))

/-- The results after the run are the reference's. -/
theorem final_n : (dats m 0 c).arrAt 5 cfg0.N = Cert.DownRefIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5, piece_n, eq_ix2 (((cfg0.win 5).blk t).view.emb y)]
  refine Eq.trans ?_ (ref_n _ _ _ _ _ _ _ _).symm
  have hk : ((cfg0.win 5).blk t).view.emb y 1 = y 1 := Fin.ext (by blk_simp [idx t])
  rw [hk]
  exact congrArg (fun z => nrmOf z len eps (y 1)) (row_z m c t _ _ (by blk_simp [idx t]))

theorem final_r : (dats m 0 c).arrAt 6 cfg0.N = Cert.DownRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, piece_r, at2 (((cfg0.win 6).blk t).view.emb y) (((cfg0.win 6).blk t).view.emb y 0) 0 rfl (by exact (show (((cfg0.win 6).blk t).view.emb y 1 : ℕ) = 0 from Nat.lt_one_iff.mp (((cfg0.win 6).blk t).view.emb y 1).isLt))]
  refine Eq.trans ?_ (ref_r _ _ _ _ _ _ _).symm
  exact congrArg (fun z => rstdOf z len eps) (row_z m c t _ _ (by blk_simp [idx t]))

end Cert.DownIdeal.Pair

namespace Cert.DownPair

/-- The reference's frame. -/
theorem quiescent_ref : Cert.quiescent_DownRefIdeal (hDownRefIdeal := Cert.DownRefIdeal.Gen.facts) := fun m ρ _ =>
  (θ_run Cert.DownRefIdeal.defs _ _).mono (fun r h => ⟨fun c => (h c).2.2, sem_eq_zero_of_no_sems (by decide) r.2⟩)
    (Cert.DownRefIdeal.Value.run (F := Ideal) m ρ)

/-- Kernel and reference leave equal results. -/
theorem algebraic : Cert.algebraic_DownIdeal_DownRefIdeal (hDownIdeal := Cert.DownIdeal.Gen.facts) (hDownRefIdeal := Cert.DownRefIdeal.Gen.facts) := by
  intro m g m' g' _ hag
  refine ⟨_, _,
    (θ_run _ _ _).mono (fun r h c => ⟨(h c).1.trans (Cert.DownIdeal.Pair.final_n m c), (h c).2.1.trans (Cert.DownIdeal.Pair.final_r m c), (h c).2.2⟩)
      (Cert.DownIdeal.Value.run_blocks m g),
    (θ_run _ _ _).mono (fun r h c => ⟨(h c).1.trans ?_, (h c).2.1.trans ?_, (h c).2.2⟩) (Cert.DownRefIdeal.Value.run (F := Ideal) m' g')⟩
  all_goals obtain ⟨h0, h1, h2, h3, h4, h5⟩ := hag c
  · rw [Cert.DownRefIdeal.Read.val_main_v51_eq, h0, h1, h2, h3, h4, h5]
  · rw [Cert.DownRefIdeal.Read.val_main_v47_eq, h0, h1, h2, h3, h4, h5]

end Cert.DownPair

end
-- ==== Proof.OutValue.lean ====
module

public import proofs.«01_k».proof.Defs
public import proofs.«01_k».proof.Proof.Forward
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutIdeal.Pair

open Cert.OutIdeal Cert.OutIdeal.Gen Cert.LayerNorm Cert.Forward

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

/-- The arrays the region reads: the normalised rows and the product's left factor are the reference's, the others the arguments. -/
theorem entry_x : V m c main_v15 = Cert.OutRefIdeal.Read.val_main_v17 (F := Ideal) (m ((c : Thread nD τ).loc main_arg0)) := by
  unfold V
  after_results_simp
  rfl

theorem entry_a (a : Fin 16384) (j : Fin 1024) : V m c main_v16 (ix2 a j) = (m ((c : Thread nD τ).loc main_arg3)) (ix2 a j) := by
  unfold V
  after_results_simp
  pointwise []

theorem entry_w (i : S1024x1024.Idx) (j : Fin 1024) (k : Fin 1024) (h0 : (i 0 : ℕ) = j) (h1 : (i 1 : ℕ) = k) :
    V m c main_v17 i = (m ((c : Thread nD τ).loc main_arg4)) (ix2 j k) := by
  unfold V
  after_results_simp
  rw [at2 i j k h0 h1]
  pointwise []

theorem entry_gam (i : S1x1024.Idx) (k : Fin 1024) (h0 : (i 0 : ℕ) = (0 : Fin 1)) (h1 : (i 1 : ℕ) = k) :
    V m c main_v18 i = m ((c : Thread nD τ).loc main_arg1) (ix1 k) := by
  unfold V
  after_results_simp
  rw [at2 i 0 k h0 h1]
  pointwise []

theorem entry_bet (i : S1x1024.Idx) (k : Fin 1024) (h0 : (i 0 : ℕ) = (0 : Fin 1)) (h1 : (i 1 : ℕ) = k) :
    V m c main_v19 i = m ((c : Thread nD τ).loc main_arg2) (ix1 k) := by
  unfold V
  after_results_simp
  rw [at2 i 0 k h0 h1]
  pointwise []

/-- The blocks a grid point reads, at the arrays' indices. -/
theorem blk_a (t : Fin cfg0.N) (y : S1024x1024.Idx) (a : Fin 16384) (j : Fin 1024) (h0 : (a : ℕ) = t.val * 1024 + y 0) (h1 : (j : ℕ) = y 1) :
    iblk m c 0 t y = (m ((c : Thread nD τ).loc main_arg3)) (ix2 a j) := by
  blk_simp [iblk, idx t]
  refine Eq.trans (congrArg _ (at2 _ a j ?_ ?_)) (entry_a m c a j) <;> (blk_simp [idx t, h0, h1] <;> rfl)

theorem blk_w (t : Fin cfg0.N) (j : Fin 1024) (k : Fin 1024) : iblk m c 1 t (ix2 j k : S1024x1024.Idx) = (m ((c : Thread nD τ).loc main_arg4)) (ix2 j k) := by
  blk_simp [iblk, idx t]
  refine entry_w m c _ j k ?_ ?_ <;> (blk_simp [idx t] <;> rfl)

theorem blk_x (t : Fin cfg0.N) (y : S1024x1024.Idx) (a : Fin 16384) (k : Fin 1024) (h0 : (a : ℕ) = t.val * 1024 + y 0) (h1 : (k : ℕ) = y 1) :
    iblk m c 2 t y = Cert.OutRefIdeal.Read.val_main_v17 (F := Ideal) (m ((c : Thread nD τ).loc main_arg0)) (ix2 a k) := by
  blk_simp [iblk, idx t]
  refine (congrFun (entry_x m c) _).trans (congrArg _ (at2 _ a k ?_ ?_)) <;> (blk_simp [idx t, h0, h1] <;> rfl)

theorem blk_gam (t : Fin cfg0.N) (k : Fin 1024) : iblk m c 3 t (ix2 (0 : Fin 1) k : S1x1024.Idx) = (m ((c : Thread nD τ).loc main_arg1)) (ix1 k) := by
  blk_simp [iblk, idx t]
  refine entry_gam m c _ k ?_ ?_ <;> (blk_simp [idx t] <;> rfl)

theorem blk_bet (t : Fin cfg0.N) (k : Fin 1024) : iblk m c 4 t (ix2 (0 : Fin 1) k : S1x1024.Idx) = (m ((c : Thread nD τ).loc main_arg2)) (ix1 k) := by
  blk_simp [iblk, idx t]
  refine entry_bet m c _ k ?_ ?_ <;> (blk_simp [idx t] <;> rfl)

/-- The row normalised, of a point's blocks. -/
def zOf (a : S1024x1024.Idx → EReal) (w : S1024x1024.Idx → EReal) (x : S1024x1024.Idx → EReal) (g b : S1x1024.Idx → EReal) (i : Fin 1024) : Fin 1024 → EReal :=
  resRow (Ideal.ofBits .f32 0x3FD744FD#32) (Ideal.ofBits .f32 0x3F800000#32) a w (aff x g b i) i

/-- A row's length and the number added to the variance. -/
def len : EReal := Ideal.ofBits .f32 0x44800000#32

def eps : EReal := Ideal.ofBits .f32 0x3727C5AC#32

/-- What a point stores, of its blocks: four pieces of 256 rows. -/
theorem piece_r (a : S1024x1024.Idx → EReal) (w : S1024x1024.Idx → EReal) (x : S1024x1024.Idx → EReal) (g b : S1x1024.Idx → EReal) (y : S1024x1.Idx) :
    out0_6 (F := Ideal) a w x g b y = rstdOf (zOf a w x g b (y 0)) len eps := by
  unfold out0_6
  canon_tiles x hx
  all_goals (rw [at2' hx0 (by omega) hx1]; open_payloads; pointwise [rstdOf, meanOf, zOf, resRow, aff, len, eps])

theorem piece_n (a : S1024x1024.Idx → EReal) (w : S1024x1024.Idx → EReal) (x : S1024x1024.Idx → EReal) (g b : S1x1024.Idx → EReal) (y : S1024x1024.Idx) :
    out0_5 (F := Ideal) a w x g b y = nrmOf (zOf a w x g b (y 0)) len eps (y 1) := by
  unfold out0_5
  canon_tiles x hx
  all_goals (rw [at2' hx0 (by omega) hx1]; open_payloads; pointwise [nrmOf, rstdOf, meanOf, zOf, resRow, aff, len, eps])

/-- The reference's row before the normalisation, its mean, deviation and normalised row. -/
def zRef (x0 : S16384x1024.Idx → EReal) (x1 x2 : S1024.Idx → EReal) (x3 : S16384x1024.Idx → EReal) (x4 : S1024x1024.Idx → EReal) (i : Fin 16384) : Fin 1024 → EReal := fun k => Cert.OutRefIdeal.Read.val_main_v27 (F := Ideal) x0 x1 x2 x3 x4 (ix2 i k)

theorem ref_z (x0 : S16384x1024.Idx → EReal) (x1 x2 : S1024.Idx → EReal) (x3 : S16384x1024.Idx → EReal) (x4 : S1024x1024.Idx → EReal) (i : Fin 16384) : zRef x0 x1 x2 x3 x4 i = resRow (Ideal.ofBits .f32 0x3FD744FD#32) (Ideal.ofBits .f32 0x3F800000#32) x3 x4
    (fun k => Cert.OutRefIdeal.Read.val_main_v17 (F := Ideal) x0 (ix2 i k) * x1 (ix1 k) + x2 (ix1 k)) i := by
  funext k
  unfold zRef resRow
  pointwise [Cert.OutRefIdeal.Read.val_main_v27, Cert.OutRefIdeal.Read.val_main_v26, Cert.OutRefIdeal.Read.val_main_v25, Cert.OutRefIdeal.Read.val_main_v24, Cert.OutRefIdeal.Read.val_main_cst_4, Cert.OutRefIdeal.Read.val_main_v23, Cert.OutRefIdeal.Read.val_main_v22, Cert.OutRefIdeal.Read.val_main_v21, Cert.OutRefIdeal.Read.val_main_v20, Cert.OutRefIdeal.Read.val_main_v19, Cert.OutRefIdeal.Read.val_main_v18]

theorem ref_mean (x0 : S16384x1024.Idx → EReal) (x1 x2 : S1024.Idx → EReal) (x3 : S16384x1024.Idx → EReal) (x4 : S1024x1024.Idx → EReal) (i : Fin 16384) : Cert.OutRefIdeal.Read.val_main_v31 (F := Ideal) x0 x1 x2 x3 x4 (ix2 i 0) = meanOf (zRef x0 x1 x2 x3 x4 i) len := by
  unfold zRef meanOf len
  pointwise [Cert.OutRefIdeal.Read.val_main_v31, Cert.OutRefIdeal.Read.val_main_v30, Cert.OutRefIdeal.Read.val_main_v29, Cert.OutRefIdeal.Read.val_main_v28, Cert.OutRefIdeal.Read.val_main_cst_5, Cert.OutRefIdeal.Read.val_main_cst_6]

theorem ref_r (x0 : S16384x1024.Idx → EReal) (x1 x2 : S1024.Idx → EReal) (x3 : S16384x1024.Idx → EReal) (x4 : S1024x1024.Idx → EReal) (i : Fin 16384) : Cert.OutRefIdeal.Read.val_main_v41 (F := Ideal) x0 x1 x2 x3 x4 (ix2 i 0) = rstdOf (zRef x0 x1 x2 x3 x4 i) len eps := by
  unfold rstdOf
  rw [← ref_mean]
  unfold zRef len eps
  pointwise [Cert.OutRefIdeal.Read.val_main_v41, Cert.OutRefIdeal.Read.val_main_v40, Cert.OutRefIdeal.Read.val_main_v39, Cert.OutRefIdeal.Read.val_main_v38, Cert.OutRefIdeal.Read.val_main_v37, Cert.OutRefIdeal.Read.val_main_v36, Cert.OutRefIdeal.Read.val_main_v35, Cert.OutRefIdeal.Read.val_main_v34, Cert.OutRefIdeal.Read.val_main_v33, Cert.OutRefIdeal.Read.val_main_v32, Cert.OutRefIdeal.Read.val_main_cst_7, Cert.OutRefIdeal.Read.val_main_cst_8, Cert.OutRefIdeal.Read.val_main_cst_9]

theorem ref_n (x0 : S16384x1024.Idx → EReal) (x1 x2 : S1024.Idx → EReal) (x3 : S16384x1024.Idx → EReal) (x4 : S1024x1024.Idx → EReal) (i : Fin 16384) (k : Fin 1024) : Cert.OutRefIdeal.Read.val_main_v45 (F := Ideal) x0 x1 x2 x3 x4 (ix2 i k) = nrmOf (zRef x0 x1 x2 x3 x4 i) len eps k := by
  unfold nrmOf
  rw [← ref_mean, ← ref_r]
  unfold zRef
  pointwise [Cert.OutRefIdeal.Read.val_main_v45, Cert.OutRefIdeal.Read.val_main_v44, Cert.OutRefIdeal.Read.val_main_v43, Cert.OutRefIdeal.Read.val_main_v42]

/-- A point's rows before the normalisation are the reference's. -/
theorem row_z (t : Fin cfg0.N) (i : Fin 1024) (a : Fin 16384) (h : (a : ℕ) = t.val * 1024 + i) :
    zOf (iblk m c 0 t) (iblk m c 1 t) (iblk m c 2 t) (iblk m c 3 t) (iblk m c 4 t) i = zRef (m ((c : Thread nD τ).loc main_arg0)) (m ((c : Thread nD τ).loc main_arg1)) (m ((c : Thread nD τ).loc main_arg2)) (m ((c : Thread nD τ).loc main_arg3)) (m ((c : Thread nD τ).loc main_arg4)) a := by
  refine Eq.trans ?_ (ref_z _ _ _ _ _ _).symm
  exact resRow_congr (fun j => blk_a m c t _ _ j h rfl) (blk_w m c t) (aff_congr (fun k => blk_x m c t _ _ k h rfl) (blk_gam m c t) (blk_bet m c t))

/-- The results after the run are the reference's. -/
theorem final_n : (dats m 0 c).arrAt 5 cfg0.N = Cert.OutRefIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, piece_n, eq_ix2 (((cfg0.win 5).blk t).view.emb y)]
  refine Eq.trans ?_ (ref_n _ _ _ _ _ _ _).symm
  have hk : ((cfg0.win 5).blk t).view.emb y 1 = y 1 := Fin.ext (by blk_simp [idx t])
  rw [hk]
  exact congrArg (fun z => nrmOf z len eps (y 1)) (row_z m c t _ _ (by blk_simp [idx t]))

theorem final_r : (dats m 0 c).arrAt 6 cfg0.N = Cert.OutRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, piece_r, at2 (((cfg0.win 6).blk t).view.emb y) (((cfg0.win 6).blk t).view.emb y 0) 0 rfl (by exact (show (((cfg0.win 6).blk t).view.emb y 1 : ℕ) = 0 from Nat.lt_one_iff.mp (((cfg0.win 6).blk t).view.emb y 1).isLt))]
  refine Eq.trans ?_ (ref_r _ _ _ _ _ _).symm
  exact congrArg (fun z => rstdOf z len eps) (row_z m c t _ _ (by blk_simp [idx t]))

end Cert.OutIdeal.Pair

namespace Cert.OutPair

/-- The reference's frame. -/
theorem quiescent_ref : Cert.quiescent_OutRefIdeal (hOutRefIdeal := Cert.OutRefIdeal.Gen.facts) := fun m ρ _ =>
  (θ_run Cert.OutRefIdeal.defs _ _).mono (fun r h => ⟨fun c => (h c).2.2, sem_eq_zero_of_no_sems (by decide) r.2⟩)
    (Cert.OutRefIdeal.Value.run (F := Ideal) m ρ)

/-- Kernel and reference leave equal results. -/
theorem algebraic : Cert.algebraic_OutIdeal_OutRefIdeal (hOutIdeal := Cert.OutIdeal.Gen.facts) (hOutRefIdeal := Cert.OutRefIdeal.Gen.facts) := by
  intro m g m' g' _ hag
  refine ⟨_, _,
    (θ_run _ _ _).mono (fun r h c => ⟨(h c).1.trans (Cert.OutIdeal.Pair.final_n m c), (h c).2.1.trans (Cert.OutIdeal.Pair.final_r m c), (h c).2.2⟩)
      (Cert.OutIdeal.Value.run_blocks m g),
    (θ_run _ _ _).mono (fun r h c => ⟨(h c).1.trans ?_, (h c).2.1.trans ?_, (h c).2.2⟩) (Cert.OutRefIdeal.Value.run (F := Ideal) m' g')⟩
  all_goals obtain ⟨h0, h1, h2, h3, h4⟩ := hag c
  · rw [Cert.OutRefIdeal.Read.val_main_v45_eq, h0, h1, h2, h3, h4]
  · rw [Cert.OutRefIdeal.Read.val_main_v41_eq, h0, h1, h2, h3, h4]

end Cert.OutPair

end
-- ==== Proof.InValue.lean ====
module

public import proofs.«01_k».proof.Defs
public import proofs.«01_k».proof.Proof.Forward
public import proofs.«01_k».proof.Proof.Gen.InIdeal.Value
public import proofs.«01_k».proof.Proof.Gen.InRefIdeal.Run
public import proofs.«01_k».proof.Proof.Gen.InRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InIdeal.Pair

open Cert.InIdeal Cert.InIdeal.Gen Cert.LayerNorm Cert.Forward

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- The normalised rows the region reads are the reference's. -/
theorem entry_x : V m c main_v15 = Cert.InRefIdeal.Read.val_main_v17 (F := Ideal) (m ((c : Thread nD τ).loc main_arg0)) := by
  unfold V
  after_results_simp
  rfl

theorem entry_gam (i : S1x1024.Idx) (k : Fin 1024) (h0 : (i 0 : ℕ) = (0 : Fin 1)) (h1 : (i 1 : ℕ) = k) :
    V m c main_v16 i = m ((c : Thread nD τ).loc main_arg1) (ix1 k) := by
  unfold V
  after_results_simp
  rw [at2 i 0 k h0 h1]
  pointwise []

theorem entry_bet (i : S1x1024.Idx) (k : Fin 1024) (h0 : (i 0 : ℕ) = (0 : Fin 1)) (h1 : (i 1 : ℕ) = k) :
    V m c main_v17 i = m ((c : Thread nD τ).loc main_arg2) (ix1 k) := by
  unfold V
  after_results_simp
  rw [at2 i 0 k h0 h1]
  pointwise []

theorem entry_w (i : S2176x1024.Idx) (k : Fin 2176) (j : Fin 1024) (h0 : (i 0 : ℕ) = k) (h1 : (i 1 : ℕ) = j) :
    V m c main_v19 i = m ((c : Thread nD τ).loc main_arg3) (ix2 j k) := by
  unfold V
  after_results_simp
  rw [at2 i k j h0 h1]
  pointwise []

/-- The blocks a grid point reads, at the arrays' indices. -/
theorem blk_x (t : Fin cfg0.N) (y : S1024x1024.Idx) (a : Fin 16384) (k : Fin 1024) (h0 : (a : ℕ) = t.val * 1024 + y 0) (h1 : (k : ℕ) = y 1) :
    iblk m c 0 t y = Cert.InRefIdeal.Read.val_main_v17 (F := Ideal) (m ((c : Thread nD τ).loc main_arg0)) (ix2 a k) := by
  blk_simp [iblk, idx t]
  refine (congrFun (entry_x m c) _).trans (congrArg _ (at2 _ a k ?_ ?_)) <;> (blk_simp [idx t, h0, h1] <;> rfl)

theorem blk_gam (t : Fin cfg0.N) (k : Fin 1024) : iblk m c 1 t (ix2 (0 : Fin 1) k : S1x1024.Idx) = m ((c : Thread nD τ).loc main_arg1) (ix1 k) := by
  blk_simp [iblk, idx t]
  refine entry_gam m c _ k ?_ ?_ <;> (blk_simp [idx t] <;> rfl)

theorem blk_bet (t : Fin cfg0.N) (k : Fin 1024) : iblk m c 2 t (ix2 (0 : Fin 1) k : S1x1024.Idx) = m ((c : Thread nD τ).loc main_arg2) (ix1 k) := by
  blk_simp [iblk, idx t]
  refine entry_bet m c _ k ?_ ?_ <;> (blk_simp [idx t] <;> rfl)

theorem blk_w (t : Fin cfg0.N) (k : Fin 2176) (j : Fin 1024) : iblk m c 3 t (ix2 k j : S2176x1024.Idx) = m ((c : Thread nD τ).loc main_arg3) (ix2 j k) := by
  blk_simp [iblk, idx t]
  refine entry_w m c _ k j ?_ ?_ <;> (blk_simp [idx t] <;> rfl)

/-- What a point stores, of its blocks: four pieces of 256 rows. -/
theorem piece_x (x : S1024x1024.Idx → EReal) (g b : S1x1024.Idx → EReal) (w : S2176x1024.Idx → EReal) (y : S1024x1024.Idx) :
    out0_5 (F := Ideal) x g b w y = aff x g b (y 0) (y 1) := by
  unfold out0_5
  canon_tiles x hx
  all_goals (rw [at2' hx0 (by omega) hx1]; open_payloads; pointwise [aff])

theorem piece_o (x : S1024x1024.Idx → EReal) (g b : S1x1024.Idx → EReal) (w : S2176x1024.Idx → EReal) (y : S1024x2176.Idx) :
    out0_4 (F := Ideal) x g b w y = affMul x g b w (y 0) (y 1) := by
  unfold out0_4
  canon_tiles x hx
  all_goals (rw [at2' hx0 (by omega) hx1]; open_payloads; pointwise [affMul, aff])

/-- The reference's rows and their product. -/
theorem ref_x (x0 x1 x2) (a : Fin 16384) (k : Fin 1024) : Cert.InRefIdeal.Read.val_main_v23 (F := Ideal) x0 x1 x2 (ix2 a k)
    = Cert.InRefIdeal.Read.val_main_v17 (F := Ideal) x0 (ix2 a k) * x1 (ix1 k) + x2 (ix1 k) := by
  pointwise [Cert.InRefIdeal.Read.val_main_v23, Cert.InRefIdeal.Read.val_main_v22, Cert.InRefIdeal.Read.val_main_v21, Cert.InRefIdeal.Read.val_main_v20,
    Cert.InRefIdeal.Read.val_main_v19, Cert.InRefIdeal.Read.val_main_v18]

theorem ref_o (x0 x1 x2 x3) (a : Fin 16384) (k : Fin 2176) : Cert.InRefIdeal.Read.val_main_v25 (F := Ideal) x0 x1 x2 x3 (ix2 a k)
    = ∑ j : Fin 1024, (Cert.InRefIdeal.Read.val_main_v17 (F := Ideal) x0 (ix2 a j) * x1 (ix1 j) + x2 (ix1 j)) * x3 (ix2 j k) := by
  pointwise [Cert.InRefIdeal.Read.val_main_v25, Cert.InRefIdeal.Read.val_main_v24]
  simp only [ref_x]

/-- The results after the run are the reference's. -/
theorem final_x : (dats m 0 c).arrAt 5 cfg0.N = Cert.InRefIdeal.Read.val_main_v26 (F := Ideal) (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5, piece_x, eq_ix2 (((cfg0.win 5).blk t).view.emb y)]
  refine Eq.trans ?_ (ref_x _ _ _ _ _).symm
  have hk : ((cfg0.win 5).blk t).view.emb y 1 = y 1 := Fin.ext (by blk_simp [idx t])
  rw [hk]
  exact aff_congr (fun k => blk_x m c t _ _ k (by blk_simp [idx t]) rfl) (blk_gam m c t) (blk_bet m c t) _

theorem final_o : (dats m 0 c).arrAt 4 cfg0.N = Cert.InRefIdeal.Read.val_main_v25 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, piece_o, eq_ix2 (((cfg0.win 4).blk t).view.emb y)]
  refine Eq.trans ?_ (ref_o _ _ _ _ _ _).symm
  have hk : ((cfg0.win 4).blk t).view.emb y 1 = y 1 := Fin.ext (by blk_simp [idx t])
  rw [hk]
  exact affMul_congr (fun k => blk_x m c t _ _ k (by blk_simp [idx t]) rfl) (blk_gam m c t) (blk_bet m c t) (blk_w m c t) _

end Cert.InIdeal.Pair

namespace Cert.InPair

/-- The reference's frame. -/
theorem quiescent_ref : Cert.quiescent_InRefIdeal (hInRefIdeal := Cert.InRefIdeal.Gen.facts) := fun m ρ _ =>
  (θ_run Cert.InRefIdeal.defs _ _).mono (fun r h => ⟨fun c => (h c).2.2, sem_eq_zero_of_no_sems (by decide) r.2⟩)
    (Cert.InRefIdeal.Value.run (F := Ideal) m ρ)

/-- Kernel and reference leave equal results. -/
theorem algebraic : Cert.algebraic_InIdeal_InRefIdeal (hInIdeal := Cert.InIdeal.Gen.facts) (hInRefIdeal := Cert.InRefIdeal.Gen.facts) := by
  intro m g m' g' _ hag
  refine ⟨_, _,
    (θ_run _ _ _).mono (fun r h c => ⟨(h c).1.trans (Cert.InIdeal.Pair.final_o m c), (h c).2.1.trans (Cert.InIdeal.Pair.final_x m c), (h c).2.2⟩)
      (Cert.InIdeal.Value.run_blocks m g),
    (θ_run _ _ _).mono (fun r h c => ⟨(h c).1.trans ?_, (h c).2.1.trans ?_, (h c).2.2⟩) (Cert.InRefIdeal.Value.run (F := Ideal) m' g')⟩
  · obtain ⟨h0, h1, h2, h3⟩ := hag c
    rw [Cert.InRefIdeal.Read.val_main_v25_eq, h0, h1, h2, h3]
  · obtain ⟨h0, h1, h2, h3⟩ := hag c
    rw [Cert.InRefIdeal.Read.val_main_v26_eq, h0, h1, h2]

end Cert.InPair

end
-- ==== Proof.AddValue.lean ====
module

public import proofs.«01_k».proof.Defs
public import proofs.«01_k».proof.Proof.Forward
public import proofs.«01_k».proof.Proof.Gen.AddIdeal.Value
public import proofs.«01_k».proof.Proof.Gen.AddRefIdeal.Run
public import proofs.«01_k».proof.Proof.Gen.AddRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AddIdeal.Pair

open Cert.AddIdeal Cert.AddIdeal.Gen Cert.LayerNorm Cert.Forward

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The arrays the region reads, of the arguments. -/
theorem entry_a (i : S16384x2176.Idx) : V m c main_v0 i = (m ((c : Thread nD τ).loc main_arg3)) i := by
  unfold V
  after_results_simp
  pointwise []

theorem entry_w (i : S2176x1024.Idx) (j : Fin 2176) (k : Fin 1024) (h0 : (i 0 : ℕ) = j) (h1 : (i 1 : ℕ) = k) :
    V m c main_v2 i = (m ((c : Thread nD τ).loc main_arg1)) (ix2 k j) := by
  unfold V
  after_results_simp
  rw [at2 i j k h0 h1]
  pointwise []

/-- The blocks a grid point reads, at the arrays' indices. -/
theorem blk_a (t : Fin cfg0.N) (y : S1024x2176.Idx) (a : Fin 16384) (j : Fin 2176) (h0 : (a : ℕ) = t.val * 1024 + y 0) (h1 : (j : ℕ) = y 1) :
    iblk m c 0 t y = (m ((c : Thread nD τ).loc main_arg3)) (ix2 a j) := by
  blk_simp [iblk, idx t]
  refine (entry_a m c _).trans (congrArg _ (at2 _ a j ?_ ?_)) <;> (blk_simp [idx t, h0, h1] <;> rfl)

theorem blk_w (t : Fin cfg0.N) (j : Fin 2176) (k : Fin 1024) : iblk m c 1 t (ix2 j k : S2176x1024.Idx) = (m ((c : Thread nD τ).loc main_arg1)) (ix2 k j) := by
  blk_simp [iblk, idx t]
  refine entry_w m c _ j k ?_ ?_ <;> (blk_simp [idx t] <;> rfl)

theorem blk_r (t : Fin cfg0.N) (y : S1024x1024.Idx) (a : Fin 16384) (k : Fin 1024) (h0 : (a : ℕ) = t.val * 1024 + y 0) (h1 : (k : ℕ) = y 1) :
    iblk m c 2 t y = (m ((c : Thread nD τ).loc main_arg2)) (ix2 a k) := by
  blk_simp [iblk, idx t]
  refine congrArg _ (at2 _ a k ?_ ?_) <;> (blk_simp [idx t, h0, h1] <;> rfl)

/-- One entry of the product plus the scaled residual. -/
def sumAt {l : ℕ} (a : (⟨2, ![l, 2176]⟩ : Shape).Idx → EReal) (w : Fin 2176 → EReal) (i : Fin l) (r : EReal) : EReal :=
  (∑ j : Fin 2176, a (ix2 i j) * w j) + Ideal.ofBits .f32 0x3FD744FD#32 * r

/-- What a point stores, of its blocks: four pieces of 256 rows. -/
theorem piece (a : S1024x2176.Idx → EReal) (w : S2176x1024.Idx → EReal) (r : S1024x1024.Idx → EReal) (y : S1024x1024.Idx) :
    out0_3 (F := Ideal) a w r y = sumAt a (fun j => w (ix2 j (y 1))) (y 0) (r (ix2 (y 0) (y 1))) := by
  unfold out0_3
  canon_tiles x hx
  all_goals (rw [at2' hx0 (by omega) hx1]; open_payloads; pointwise [sumAt])

theorem ref_v (x1 x2 x3) (i : Fin 16384) (k : Fin 1024) : Cert.AddRefIdeal.Read.val_main_v6 (F := Ideal) x1 x2 x3 (ix2 i k)
    = sumAt x3 (fun j => x1 (ix2 k j)) i (x2 (ix2 i k)) := by
  unfold sumAt
  pointwise [Cert.AddRefIdeal.Read.val_main_v6, Cert.AddRefIdeal.Read.val_main_v5, Cert.AddRefIdeal.Read.val_main_v4, Cert.AddRefIdeal.Read.val_main_v3,
    Cert.AddRefIdeal.Read.val_main_cst_0]

/-- The result after the run is the reference's. -/
theorem final : (dats m 0 c).arrAt 3 cfg0.N = Cert.AddRefIdeal.Read.val_main_v6 (F := Ideal) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, piece, eq_ix2 (((cfg0.win 3).blk t).view.emb y)]
  refine Eq.trans ?_ (ref_v _ _ _ _ _).symm
  have hk : ((cfg0.win 3).blk t).view.emb y 1 = y 1 := Fin.ext (by blk_simp [idx t])
  rw [hk]
  have h0 : (((cfg0.win 3).blk t).view.emb y 0 : ℕ) = t.val * 1024 + y 0 := by blk_simp [idx t]
  exact congrArg₂ (fun p q : EReal => p + Ideal.ofBits .f32 0x3FD744FD#32 * q)
    (Finset.sum_congr rfl fun j _ => congrArg₂ (fun p q : EReal => p * q) (blk_a m c t _ _ j h0 rfl) (blk_w m c t j _)) (blk_r m c t _ _ _ h0 rfl)

end Cert.AddIdeal.Pair

namespace Cert.AddPair

/-- The reference's frame. -/
theorem quiescent_ref : Cert.quiescent_AddRefIdeal (hAddRefIdeal := Cert.AddRefIdeal.Gen.facts) := fun m ρ _ =>
  (θ_run Cert.AddRefIdeal.defs _ _).mono (fun r h => ⟨fun c => (h c).2, sem_eq_zero_of_no_sems (by decide) r.2⟩)
    (Cert.AddRefIdeal.Value.run (F := Ideal) m ρ)

/-- Kernel and reference leave equal results. -/
theorem algebraic : Cert.algebraic_AddIdeal_AddRefIdeal (hAddIdeal := Cert.AddIdeal.Gen.facts) (hAddRefIdeal := Cert.AddRefIdeal.Gen.facts) := by
  intro m g m' g' _ hag
  refine ⟨_, (θ_run _ _ _).mono (fun r h c => ⟨(h c).1.trans (Cert.AddIdeal.Pair.final m c), (h c).2⟩) (Cert.AddIdeal.Value.run_blocks m g),
    (θ_run _ _ _).mono (fun r h c => ⟨(h c).1.trans ?_, (h c).2⟩) (Cert.AddRefIdeal.Value.run (F := Ideal) m' g')⟩
  obtain ⟨h0, h1, h2, h3⟩ := hag c
  rw [Cert.AddRefIdeal.Read.val_main_v6_eq, h1, h2, h3]

end Cert.AddPair

end
-- ==== Proof.MixFrame.lean ====
module

public import proofs.«01_k».proof.Proof.Gen.MixIdeal.Frame.RunA
public import proofs.«01_k».proof.Proof.Gen.MixIdeal.Frame.RunB
public import Idealize.ShloMosaic.Lib.Claim

/-! The frame of the mixer's backward kernel: every execution ends, the arguments end as they began, no counter is left up.
The body's two cases — the first point, which fills the accumulators, and every later point, which adds to what the point before
left — are taken from the two runs of the body; this file puts them together along the grid. -/

@[expose] public section

set_option maxRecDepth 16384

noncomputable section

namespace Cert.MixIdeal.Pair

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight results' blocks after a point. -/
abbrev Outs (F : FTy → Type) [FloatOps F] : Type :=
  Vec F S512x2176 .bf16 × Vec F S256x256 .f32 × Vec F S1x256 .f32 × Vec F S8x384 .f32 × Vec F S32x384 .f32 × Vec F S1x384 .f32 × Vec F S1x384 .f32 × Vec F S1x384 .f32

/-- The body's run at the first point, on the blocks of that point. -/
abbrev runA (c : Dev nD) (t : Fin cfg0.N) (h : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t) (ms0_23 t) (hs0_23 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6
    (Memref.isWhole_whole _) scM0_7 (Memref.isWhole_whole _) scM0_8 (Memref.isWhole_whole _) scM0_9 (Memref.isWhole_whole _) scM0_10 (Memref.isWhole_whole _) scM0_11 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t)

/-- The body's run at a later point, over what the point before left in the seven accumulators. -/
abbrev runB (c : Dev nD) (t : Fin cfg0.N) (h : ¬t.val % 32 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    (ms0_19 t) (hs0_19 t) (ms0_20 t) (hs0_20 t) (ms0_21 t) (hs0_21 t) (ms0_22 t) (hs0_22 t) (ms0_23 t) (hs0_23 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6
    (Memref.isWhole_whole _) scM0_7 (Memref.isWhole_whole _) scM0_8 (Memref.isWhole_whole _) scM0_9 (Memref.isWhole_whole _) scM0_10 (Memref.isWhole_whole _) scM0_11 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (iblk m c 13 t) (iblk m c 14 t) (iblk m c 15 t)
    p.2.1 p.2.2.1 p.2.2.2.1 p.2.2.2.2.1 p.2.2.2.2.2.1 p.2.2.2.2.2.2.1 p.2.2.2.2.2.2.2

theorem coverA16 (c : Dev nD) (t : Fin cfg0.N) (h : t.val % 32 = 0) (y) : ∃ pc ∈ (runA m c t h).1, y ∈ pc.1.set :=
  View.cover_of_tiledBy (runA m c t h).1 ![64, 128] (by sl_kernel_rfl) y
theorem coverA17 (c : Dev nD) (t : Fin cfg0.N) (h : t.val % 32 = 0) (y) : ∃ pc ∈ (runA m c t h).2.1, y ∈ pc.1.set :=
  View.cover_of_tiledL (runA m c t h).2.1 S256x256.size (by sl_kernel_rfl) y
theorem coverA18 (c : Dev nD) (t : Fin cfg0.N) (h : t.val % 32 = 0) (y) : ∃ pc ∈ (runA m c t h).2.2.1, y ∈ pc.1.set :=
  View.cover_of_tiledL (runA m c t h).2.2.1 S1x256.size (by sl_kernel_rfl) y
theorem coverA19 (c : Dev nD) (t : Fin cfg0.N) (h : t.val % 32 = 0) (y) : ∃ pc ∈ (runA m c t h).2.2.2.1, y ∈ pc.1.set :=
  View.cover_of_tiledBy (runA m c t h).2.2.2.1 ![1, 384] (by sl_kernel_rfl) y
theorem coverA20 (c : Dev nD) (t : Fin cfg0.N) (h : t.val % 32 = 0) (y) : ∃ pc ∈ (runA m c t h).2.2.2.2.1, y ∈ pc.1.set :=
  View.cover_of_tiledBy (runA m c t h).2.2.2.2.1 ![1, 384] (by sl_kernel_rfl) y
theorem coverA21 (c : Dev nD) (t : Fin cfg0.N) (h : t.val % 32 = 0) (y) : ∃ pc ∈ (runA m c t h).2.2.2.2.2.1, y ∈ pc.1.set :=
  View.cover_of_tiledL (runA m c t h).2.2.2.2.2.1 S1x384.size (by sl_kernel_rfl) y
theorem coverA22 (c : Dev nD) (t : Fin cfg0.N) (h : t.val % 32 = 0) (y) : ∃ pc ∈ (runA m c t h).2.2.2.2.2.2.1, y ∈ pc.1.set :=
  View.cover_of_tiledL (runA m c t h).2.2.2.2.2.2.1 S1x384.size (by sl_kernel_rfl) y
theorem coverA23 (c : Dev nD) (t : Fin cfg0.N) (h : t.val % 32 = 0) (y) : ∃ pc ∈ (runA m c t h).2.2.2.2.2.2.2.1, y ∈ pc.1.set :=
  View.cover_of_tiledL (runA m c t h).2.2.2.2.2.2.2.1 S1x384.size (by sl_kernel_rfl) y

theorem coverB16 (c : Dev nD) (t : Fin cfg0.N) (h : ¬t.val % 32 = 0) (p : Outs F) (y) : ∃ pc ∈ (runB m c t h p).1, y ∈ pc.1.set :=
  View.cover_of_tiledBy (runB m c t h p).1 ![64, 128] (by sl_kernel_rfl) y
theorem coverB17 (c : Dev nD) (t : Fin cfg0.N) (h : ¬t.val % 32 = 0) (p : Outs F) (y) : ∃ pc ∈ (runB m c t h p).2.1, y ∈ pc.1.set :=
  View.cover_of_tiledL (runB m c t h p).2.1 S256x256.size (by sl_kernel_rfl) y
theorem coverB18 (c : Dev nD) (t : Fin cfg0.N) (h : ¬t.val % 32 = 0) (p : Outs F) (y) : ∃ pc ∈ (runB m c t h p).2.2.1, y ∈ pc.1.set :=
  View.cover_of_tiledL (runB m c t h p).2.2.1 S1x256.size (by sl_kernel_rfl) y
theorem coverB21 (c : Dev nD) (t : Fin cfg0.N) (h : ¬t.val % 32 = 0) (p : Outs F) (y) : ∃ pc ∈ (runB m c t h p).2.2.2.2.2.1, y ∈ pc.1.set :=
  View.cover_of_tiledL (runB m c t h p).2.2.2.2.2.1 S1x384.size (by sl_kernel_rfl) y
theorem coverB22 (c : Dev nD) (t : Fin cfg0.N) (h : ¬t.val % 32 = 0) (p : Outs F) (y) : ∃ pc ∈ (runB m c t h p).2.2.2.2.2.2.1, y ∈ pc.1.set :=
  View.cover_of_tiledL (runB m c t h p).2.2.2.2.2.2.1 S1x384.size (by sl_kernel_rfl) y
theorem coverB23 (c : Dev nD) (t : Fin cfg0.N) (h : ¬t.val % 32 = 0) (p : Outs F) (y) : ∃ pc ∈ (runB m c t h p).2.2.2.2.2.2.2.1, y ∈ pc.1.set :=
  View.cover_of_tiledL (runB m c t h p).2.2.2.2.2.2.2.1 S1x384.size (by sl_kernel_rfl) y

/-- What the first point leaves. -/
def outA (c : Dev nD) (t : Fin cfg0.N) (h : t.val % 32 = 0) : Outs F :=
  (VO0_16.read (Elt F) (VO0_16.writes (Elt F) VO0_16.junk (runA m c t h).1),
   VO0_17.read (Elt F) (VO0_17.writes (Elt F) VO0_17.junk (runA m c t h).2.1),
   VO0_18.read (Elt F) (VO0_18.writes (Elt F) VO0_18.junk (runA m c t h).2.2.1),
   VO0_19.read (Elt F) (VO0_19.writes (Elt F) VO0_19.junk (runA m c t h).2.2.2.1),
   VO0_20.read (Elt F) (VO0_20.writes (Elt F) VO0_20.junk (runA m c t h).2.2.2.2.1),
   VO0_21.read (Elt F) (VO0_21.writes (Elt F) VO0_21.junk (runA m c t h).2.2.2.2.2.1),
   VO0_22.read (Elt F) (VO0_22.writes (Elt F) VO0_22.junk (runA m c t h).2.2.2.2.2.2.1),
   VO0_23.read (Elt F) (VO0_23.writes (Elt F) VO0_23.junk (runA m c t h).2.2.2.2.2.2.2.1))

/-- What a later point leaves, over `p` left by the point before. -/
def outB (c : Dev nD) (t : Fin cfg0.N) (h : ¬t.val % 32 = 0) (p : Outs F) : Outs F :=
  (VO0_16.read (Elt F) (VO0_16.writes (Elt F) VO0_16.junk (runB m c t h p).1),
   VO0_17.read (Elt F) (VO0_17.writes (Elt F) VO0_17.junk (runB m c t h p).2.1),
   VO0_18.read (Elt F) (VO0_18.writes (Elt F) VO0_18.junk (runB m c t h p).2.2.1),
   (ms0_19 t).view.read (Elt F) ((ms0_19 t).view.writes (Elt F) ((hs0_19 t).unread p.2.2.2.1) (runB m c t h p).2.2.2.1),
   (ms0_20 t).view.read (Elt F) ((ms0_20 t).view.writes (Elt F) ((hs0_20 t).unread p.2.2.2.2.1) (runB m c t h p).2.2.2.2.1),
   VO0_21.read (Elt F) (VO0_21.writes (Elt F) VO0_21.junk (runB m c t h p).2.2.2.2.2.1),
   VO0_22.read (Elt F) (VO0_22.writes (Elt F) VO0_22.junk (runB m c t h p).2.2.2.2.2.2.1),
   VO0_23.read (Elt F) (VO0_23.writes (Elt F) VO0_23.junk (runB m c t h p).2.2.2.2.2.2.2.1))

/-- The results' blocks after each point, along the grid. -/
def outs (c : Dev nD) : (n : ℕ) → n < cfg0.N → Outs F
  | 0, hn => outA m c ⟨0, hn⟩ (Nat.zero_mod _)
  | n + 1, hn => if h : (n + 1) % 32 = 0 then outA m c ⟨n + 1, hn⟩ h else outB m c ⟨n + 1, hn⟩ h (outs c n (Nat.lt_of_succ_lt hn))

/-- The blocks left by the point before. -/
abbrev prior (c : Dev nD) (t : Fin cfg0.N) : Outs F := outs m c (t.val - 1) (Nat.lt_of_le_of_lt (Nat.sub_le _ _) t.isLt)

theorem outs_first (c : Dev nD) (t : Fin cfg0.N) (h : t.val % 32 = 0) : outs m c t.val t.isLt = outA m c t h := by
  obtain ⟨n, hn⟩ := t
  cases n with
  | zero => rfl
  | succ n => exact (dif_pos h).trans rfl

theorem outs_later (c : Dev nD) (t : Fin cfg0.N) (h : ¬t.val % 32 = 0) : outs m c t.val t.isLt = outB m c t h (prior m c t) := by
  obtain ⟨n, hn⟩ := t
  cases n with
  | zero => exact absurd (Nat.zero_mod _) h
  | succ n => exact (dif_neg h).trans rfl

/-- The data of the pipeline: the arrays as found, the blocks after each point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).1
    | ⟨17, _⟩ => (outs m c t.val t.isLt).2.1
    | ⟨18, _⟩ => (outs m c t.val t.isLt).2.2.1
    | ⟨19, _⟩ => (outs m c t.val t.isLt).2.2.2.1
    | ⟨20, _⟩ => (outs m c t.val t.isLt).2.2.2.2.1
    | ⟨21, _⟩ => (outs m c t.val t.isLt).2.2.2.2.2.1
    | ⟨22, _⟩ => (outs m c t.val t.isLt).2.2.2.2.2.2.1
    | ⟨23, _⟩ => (outs m c t.val t.isLt).2.2.2.2.2.2.2
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = (outs m c t.val t.isLt).1 := by dsimp only [dats]
theorem after17 (c : Dev nD) (t : Fin cfg0.N) : (dats m 0 c).after 17 t = (outs m c t.val t.isLt).2.1 := by dsimp only [dats]
theorem after18 (c : Dev nD) (t : Fin cfg0.N) : (dats m 0 c).after 18 t = (outs m c t.val t.isLt).2.2.1 := by dsimp only [dats]
theorem after19 (c : Dev nD) (t : Fin cfg0.N) : (dats m 0 c).after 19 t = (outs m c t.val t.isLt).2.2.2.1 := by dsimp only [dats]
theorem after20 (c : Dev nD) (t : Fin cfg0.N) : (dats m 0 c).after 20 t = (outs m c t.val t.isLt).2.2.2.2.1 := by dsimp only [dats]
theorem after21 (c : Dev nD) (t : Fin cfg0.N) : (dats m 0 c).after 21 t = (outs m c t.val t.isLt).2.2.2.2.2.1 := by dsimp only [dats]
theorem after22 (c : Dev nD) (t : Fin cfg0.N) : (dats m 0 c).after 22 t = (outs m c t.val t.isLt).2.2.2.2.2.2.1 := by dsimp only [dats]
theorem after23 (c : Dev nD) (t : Fin cfg0.N) : (dats m 0 c).after 23 t = (outs m c t.val t.isLt).2.2.2.2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- At a later point an accumulator is found as the point before left it. -/
theorem found (c : Dev nD) (t : Fin cfg0.N) (h : ¬t.val % 32 = 0) : 0 < t.val ∧ t.val - 1 < 31 := by
  have : t.val < 32 := lt_of_lt_of_eq t.isLt (show cfg0.N = 32 from N_0)
  omega

theorem before17 (c : Dev nD) (t : Fin cfg0.N) (h0 : ¬t.val % 32 = 0) (d) : (dats m 0 c).before 17 t d = (prior m c t).2.1 := by
  have hN := found c t h0
  rw [Dat.before_out_kept _ 17 rfl t (by omega) (Bool.eq_false_iff.mpr fun h => by have := (flush0_17 _).mp h; dsimp only at this; omega)
    (fun _ => rfl) (fun _ _ => rfl)]
  dsimp only [dats]
theorem before18 (c : Dev nD) (t : Fin cfg0.N) (h0 : ¬t.val % 32 = 0) (d) : (dats m 0 c).before 18 t d = (prior m c t).2.2.1 := by
  have hN := found c t h0
  rw [Dat.before_out_kept _ 18 rfl t (by omega) (Bool.eq_false_iff.mpr fun h => by have := (flush0_18 _).mp h; dsimp only at this; omega)
    (fun _ => rfl) (fun _ _ => rfl)]
  dsimp only [dats]
theorem before19 (c : Dev nD) (t : Fin cfg0.N) (h0 : ¬t.val % 32 = 0) (d) : (dats m 0 c).before 19 t d = (prior m c t).2.2.2.1 := by
  have hN := found c t h0
  rw [Dat.before_out_kept _ 19 rfl t (by omega) (Bool.eq_false_iff.mpr fun h => by have := (flush0_19 _).mp h; dsimp only at this; omega)
    (fun _ => rfl) (fun _ _ => rfl)]
  dsimp only [dats]
theorem before20 (c : Dev nD) (t : Fin cfg0.N) (h0 : ¬t.val % 32 = 0) (d) : (dats m 0 c).before 20 t d = (prior m c t).2.2.2.2.1 := by
  have hN := found c t h0
  rw [Dat.before_out_kept _ 20 rfl t (by omega) (Bool.eq_false_iff.mpr fun h => by have := (flush0_20 _).mp h; dsimp only at this; omega)
    (fun _ => rfl) (fun _ _ => rfl)]
  dsimp only [dats]
theorem before21 (c : Dev nD) (t : Fin cfg0.N) (h0 : ¬t.val % 32 = 0) (d) : (dats m 0 c).before 21 t d = (prior m c t).2.2.2.2.2.1 := by
  have hN := found c t h0
  rw [Dat.before_out_kept _ 21 rfl t (by omega) (Bool.eq_false_iff.mpr fun h => by have := (flush0_21 _).mp h; dsimp only at this; omega)
    (fun _ => rfl) (fun _ _ => rfl)]
  dsimp only [dats]
theorem before22 (c : Dev nD) (t : Fin cfg0.N) (h0 : ¬t.val % 32 = 0) (d) : (dats m 0 c).before 22 t d = (prior m c t).2.2.2.2.2.2.1 := by
  have hN := found c t h0
  rw [Dat.before_out_kept _ 22 rfl t (by omega) (Bool.eq_false_iff.mpr fun h => by have := (flush0_22 _).mp h; dsimp only at this; omega)
    (fun _ => rfl) (fun _ _ => rfl)]
  dsimp only [dats]
theorem before23 (c : Dev nD) (t : Fin cfg0.N) (h0 : ¬t.val % 32 = 0) (d) : (dats m 0 c).before 23 t d = (prior m c t).2.2.2.2.2.2.2 := by
  have hN := found c t h0
  rw [Dat.before_out_kept _ 23 rfl t (by omega) (Bool.eq_false_iff.mpr fun h => by have := (flush0_23 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 7200000 in
/-- The body at the first point. -/
theorem soundA (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22,
    after23,
    show (dats m 0 c).Φ t.castSucc = Pipeline.ΦA spec0 c from rfl, PhiA0_eq]
  rw [outs_first m c t h0]
  unfold outA
  dsimp only
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((runA m c t h0).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverA16 m c t h0)
  isplitl [H17]
  · unfold owns; iexists _; isplitr
    swap; · iexact H17
    ipureintro; exact View.read_writes_of_cover _ _ _ _ _ (coverA17 m c t h0)
  isplitl [H18]
  · unfold owns; iexists _; isplitr
    swap; · iexact H18
    ipureintro; exact View.read_writes_of_cover _ _ _ _ _ (coverA18 m c t h0)
  isplitl [H19]
  · unfold owns; iexists _; isplitr
    swap; · iexact H19
    ipureintro; exact View.read_writes_of_cover _ _ _ _ _ (coverA19 m c t h0)
  isplitl [H20]
  · unfold owns; iexists _; isplitr
    swap; · iexact H20
    ipureintro; exact View.read_writes_of_cover _ _ _ _ _ (coverA20 m c t h0)
  isplitl [H21]
  · unfold owns; iexists _; isplitr
    swap; · iexact H21
    ipureintro; exact View.read_writes_of_cover _ _ _ _ _ (coverA21 m c t h0)
  isplitl [H22]
  · unfold owns; iexists _; isplitr
    swap; · iexact H22
    ipureintro; exact View.read_writes_of_cover _ _ _ _ _ (coverA22 m c t h0)
  unfold owns; iexists _; isplitr
  swap; · iexact H23
  ipureintro; exact View.read_writes_of_cover _ _ _ _ _ (coverA23 m c t h0)

set_option maxHeartbeats 7200000 in
/-- The body at a later point. -/
theorem soundB (c : Dev nD) (t : Fin cfg0.N) (h0 : ¬t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22,
    after23,
    show (dats m 0 c).Φ t.castSucc = Pipeline.ΦA spec0 c from rfl, PhiA0_eq]
  rw [outs_later m c t h0]
  simp only [before17 m c t h0, before18 m c t h0, before19 m c t h0, before20 m c t h0, before21 m c t h0, before22 m c t h0, before23 m c t h0]
  unfold outB
  dsimp only
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((runB m c t h0 (prior m c t)).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, ⟨%e16, H16⟩, ⟨%e17, H17⟩, ⟨%e18, H18⟩, H19, H20, ⟨%e21, H21⟩, ⟨%e22, H22⟩, ⟨%e23, H23⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverB16 m c t h0 (prior m c t))
  isplitl [H17]
  · unfold owns; iexists _; isplitr
    swap; · iexact H17
    ipureintro; exact View.read_writes_of_cover _ _ _ _ _ (coverB17 m c t h0 (prior m c t))
  isplitl [H18]
  · unfold owns; iexists _; isplitr
    swap; · iexact H18
    ipureintro; exact View.read_writes_of_cover _ _ _ _ _ (coverB18 m c t h0 (prior m c t))
  isplitl [H19]
  · unfold owns; iexists _; isplitr
    swap; · iexact H19
    ipureintro; rfl
  isplitl [H20]
  · unfold owns; iexists _; isplitr
    swap; · iexact H20
    ipureintro; rfl
  isplitl [H21]
  · unfold owns; iexists _; isplitr
    swap; · iexact H21
    ipureintro; exact View.read_writes_of_cover _ _ _ _ _ (coverB21 m c t h0 (prior m c t))
  isplitl [H22]
  · unfold owns; iexists _; isplitr
    swap; · iexact H22
    ipureintro; exact View.read_writes_of_cover _ _ _ _ _ (coverB22 m c t h0 (prior m c t))
  unfold owns; iexists _; isplitr
  swap; · iexact H23
  ipureintro; exact View.read_writes_of_cover _ _ _ _ _ (coverB23 m c t h0 (prior m c t))

/-- The body at any point. -/
theorem sound (c : Dev nD) (t : Fin cfg0.N) :
    bodyPre m c t ⊢ wp frame (wpE (defs₀ (F := F)) Variants.none c none) Set.univ (bodyAt0 t) (fun _ => bodyPost m c t) := by
  by_cases h0 : t.val % 32 = 0
  · exact soundA m c t h0
  · exact soundB m c t h0

theorem body_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
/-- The launch: what the arrays hold at the end, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they began and no counter is left up. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.MixIdeal.Pair

end
-- ==== Proof.MixQuiet.lean ====
module

public import proofs.«01_k».proof.Defs
public import proofs.«01_k».proof.Proof.Gen.Mix
public import proofs.«01_k».proof.Proof.MixFrame

/-! The frame of the mixer's backward kernel as first printed: the program printed for reading with real numbers is the same
program, so the frame proved of it, for numbers of any kind, is the frame of this one. -/

@[expose] public section

set_option maxRecDepth 65536
set_option maxHeartbeats 4000000

noncomputable section

open Idealize.ShloMosaic Idealize.ShloMosaic.TcCoe Idealize.SL.Sem

namespace Cert.MixPair

theorem quiescent : Cert.quiescent_Mix (hMix := Cert.Mix.Gen.facts) := by
  have h := @Cert.MixIdeal.Pair.quiescent Bits _
  have h' := fun m g (_ : True) => h m g
  exact Eq.mp (by sl_kernel_rfl) h'

theorem quiescent_ideal : Cert.quiescent_MixIdeal (hMixIdeal := Cert.MixIdeal.Gen.facts) :=
  fun m g _ => Cert.MixIdeal.Pair.quiescent m g

end Cert.MixPair

end
-- ==== Proof.MixRefValue.lean ====
module

public import proofs.«01_k».proof.Defs
public import proofs.«01_k».proof.Proof.LayerNorm
public import proofs.«01_k».proof.Proof.Gen.MixRefIdeal.Run
public import proofs.«01_k».proof.Proof.Gen.MixRefIdeal.Read
public import Idealize.ShloMosaic.Lib.Pipeline.ValueKit

@[expose] public section

set_option maxRecDepth 16384

noncomputable section

open Idealize.ShloMosaic

namespace Cert.MixRefIdeal.Pair

open Cert.MixRefIdeal Cert.MixRefIdeal.Read Cert.LayerNorm

/-! ## The convolution of real arrays is real -/

/-- Every entry is a real number. -/
def Reals {ι : Type} (f : ι → EReal) : Prop := ∀ i, ∃ r : ℝ, f i = (r : EReal)

theorem reals_concatenate (t : Shape) (a : Fin t.rank) (xs : List ((s : Shape) × (s.Idx → EReal))) (h : Shape.Concatenates (xs.map (·.1)) t a)
    (H : ∀ p ∈ xs, Reals p.2) : Reals (concatenate t a xs h) := fun j => H _ (List.getElem_mem _) _

variable (P : S16384x2176.Idx → ℝ) (K : S31x384.Idx → ℝ) (D : S384.Idx → ℝ)

theorem reals_gated : Reals (val_main_v8 (F := Ideal) (up P)) := fun i => by
  rw [eq_ix2 i]
  pointwise [val_main_v8, val_main_v7, val_main_v6, val_main_v5, val_main_v4, val_main_v3, val_main_v2, val_main_v1, val_main_v0, val_main_cst, val_main_cst_0]
  simp only [← EReal.coe_neg, Ideal.exp_coe, sgm_up, ← EReal.coe_mul]
  exact ⟨_, rfl⟩

theorem reals_edge : Reals (val_main_v9 (F := Ideal)) := fun i => by
  rw [eq_ix2 i]
  pointwise [val_main_v9, val_main_cst_1]
  exact ⟨0, EReal.coe_zero.symm⟩

theorem reals_padded : Reals (val_main_v17 (F := Ideal) (up P)) := by
  unfold val_main_v17
  refine reals_concatenate _ _ _ _ fun p hp => ?_
  simp only [List.mem_cons, List.not_mem_nil, or_false] at hp
  rcases hp with rfl | rfl | rfl
  · exact reals_edge
  · exact reals_gated P
  · exact reals_edge

theorem reals_taps : Reals (val_main_v18 (F := Ideal) (up P)) := fun i => reals_padded P _

theorem real_conv : ∃ Z : S16384x384.Idx → ℝ, val_main_v25 (F := Ideal) (up P) (up K) (up D) = up Z := by
  choose f hf using reals_taps P
  refine ⟨fun i => ∑ k : Fin 31, f (ix3 (i 0) k (i 1)) * K (ix2 k (i 1)) + D (ix1 (i 1)), funext fun i => ?_⟩
  rw [eq_ix2 i]
  pointwise [val_main_v25, val_main_v24, val_main_v23, val_main_v22, val_main_v21, val_main_v20, val_main_v19, val_main_cst_2]
  simp only [hf, ← EReal.coe_mul, Cert.Base.coe_sum, ← EReal.coe_add]

/-! ## The gradient -/

theorem lit_384 : Ideal.ofBits .f32 0x43C00000#32 = (((384 : ℕ) : ℝ) : EReal) := by
  simp [Ideal.ofBits, Ideal.ieee, -EReal.coe_mul]; norm_num

variable (Z : S16384x384.Idx → ℝ) (G B : S384.Idx → ℝ) (T : S16384x1024.Idx → ℝ)

/-- A row of the convolution. -/
def zrow (a : Fin 16384) (k : Fin 384) : ℝ := Z (ix2 a k)

/-- The normalised, scaled and shifted row. -/
def yrow (a : Fin 16384) (k : Fin 384) : ℝ := nrm (zrow Z a) k * G (ix1 k) + B (ix1 k)

/-- A row of the gradient with respect to the argument of silu. -/
def srow (a : Fin 16384) (k : Fin 384) : ℝ :=
  T (ix2 a ⟨640 + k.val, by omega⟩) * (sgm (yrow Z G B a k) * (1 + yrow Z G B a k * (1 - sgm (yrow Z G B a k))))

/-- A row of the gradient with respect to the normalised rows. -/
def urow (a : Fin 16384) (k : Fin 384) : ℝ := srow Z G B T a k * G (ix1 k)

variable (x0 : S16384x2176.Idx → EReal) (x4 : S31x384.Idx → EReal) (x5 : S384.Idx → EReal) {Z} (hz : val_main_v25 (F := Ideal) x0 x4 x5 = up Z)

include hz

theorem ref_mu (a : Fin 16384) : val_main_v29 (F := Ideal) x0 x4 x5 (ix2 a 0) = ((mean (zrow Z a) : ℝ) : EReal) := by
  pointwise [val_main_v29, val_main_v28, val_main_v27, val_main_v26, val_main_cst_3, val_main_cst_4]
  rw [hz]
  exact mean_up (by decide : 384 ≠ 0) (zrow Z a) _ lit_384

theorem ref_zc (a : Fin 16384) (k : Fin 384) : val_main_v40 (F := Ideal) x0 x4 x5 (ix2 a k) = ((cen (zrow Z a) k : ℝ) : EReal) := by
  pointwise [val_main_v40, val_main_v39]
  simp only [hz, ref_mu x0 x4 x5 hz, ← EReal.coe_sub, cen, zrow]

theorem ref_zc' (a : Fin 16384) (k : Fin 384) : val_main_v31 (F := Ideal) x0 x4 x5 (ix2 a k) = ((cen (zrow Z a) k : ℝ) : EReal) := by
  pointwise [val_main_v31, val_main_v30]
  simp only [hz, ref_mu x0 x4 x5 hz, ← EReal.coe_sub, cen, zrow]

theorem ref_ve (a : Fin 16384) : val_main_v42 (F := Ideal) x0 x4 x5 (ix2 a 0) = ((ve (zrow Z a) : ℝ) : EReal) := by
  pointwise [val_main_v42, val_main_v41, val_main_v38, val_main_v37, val_main_v36, val_main_v35, val_main_v32, val_main_cst_6, val_main_cst_7, val_main_cst_8]
  simp only [ref_zc' x0 x4 x5 hz, ← EReal.coe_mul, mean_up (by decide : 384 ≠ 0) _ _ lit_384, lit_eps, ← EReal.coe_add, ve]

theorem ref_r (a : Fin 16384) : val_main_v43 (F := Ideal) x0 x4 x5 (ix2 a 0) = ((rstd (zrow Z a) : ℝ) : EReal) := by
  pointwise [val_main_v43]
  simp only [ref_ve x0 x4 x5 hz, rstd_up]

theorem ref_xh (a : Fin 16384) (k : Fin 384) : val_main_v48 (F := Ideal) x0 x4 x5 (ix2 a k) = ((nrm (zrow Z a) k : ℝ) : EReal) := by
  pointwise [val_main_v48, val_main_v47]
  simp only [ref_zc x0 x4 x5 hz, ref_r x0 x4 x5 hz, ← EReal.coe_mul, nrm]

theorem ref_y (a : Fin 16384) (k : Fin 384) : val_main_v54 (F := Ideal) x0 x4 x5 (up G) (up B) (ix2 a k) = ((yrow Z G B a k : ℝ) : EReal) := by
  pointwise [val_main_v54, val_main_v53, val_main_v52, val_main_v51, val_main_v50, val_main_v49]
  simp only [ref_xh x0 x4 x5 hz, ← EReal.coe_mul, ← EReal.coe_add, yrow]

theorem ref_s (a : Fin 16384) (k : Fin 384) : val_main_v57 (F := Ideal) x0 x4 x5 (up G) (up B) (up T) (ix2 a k) = ((srow Z G B T a k : ℝ) : EReal) := by
  pointwise [val_main_v57, val_main_call2_v0, val_main_call2_v1, val_main_call2_v2, val_main_v56, val_main_v55_1, val_main_v55_2, val_main_call1_v0, val_main_call1_v1, val_main_call1_v2,
    val_main_call1_v3, val_main_call1_v4, val_main_call1_v6, val_main_call1_v7, val_main_call1_cst, val_main_call1_cst_0, val_main_call1_cst_1]
  simp only [ref_y G B x0 x4 x5 hz, ← EReal.coe_neg, Ideal.exp_coe, sgm_up, one_sub_up, ← EReal.coe_mul, ← EReal.coe_add]
  unfold srow
  congr 1
  ring

theorem ref_u (a : Fin 16384) (k : Fin 384) : val_main_v65 (F := Ideal) x0 x4 x5 (up G) (up B) (up T) (ix2 a k) = ((urow Z G B T a k : ℝ) : EReal) := by
  pointwise [val_main_v65, val_main_v64, val_main_v49]
  simp only [ref_s G B T x0 x4 x5 hz, ← EReal.coe_mul, urow]

theorem ref_v77 (a : Fin 16384) : val_main_v77 (F := Ideal) x0 x4 x5 (up G) (up B) (up T) (ix2 a 0)
    = (((∑ j, cen (zrow Z a) j * urow Z G B T a j) * (-(1 / 2) * (rstd (zrow Z a) / ve (zrow Z a))) / ((384 : ℕ) : ℝ) : ℝ) : EReal) := by
  pointwise [val_main_v77, val_main_v76, val_main_v72, val_main_v69, val_main_v68, val_main_v67, val_main_v46, val_main_v45, val_main_v44, val_main_cst_9, val_main_cst_14, val_main_cst_16]
  simp only [ref_zc x0 x4 x5 hz, ref_u G B T x0 x4 x5 hz, ref_r x0 x4 x5 hz, ref_ve x0 x4 x5 hz, ← EReal.coe_mul, Cert.Base.coe_sum, Cert.Base.lit_neg_half, div_real _ _ (ve_pos _).ne',
    div_nat _ (by decide : 384 ≠ 0) _ lit_384]

theorem ref_dz (a : Fin 16384) (k : Fin 384) : val_main_v90 (F := Ideal) x0 x4 x5 (up G) (up B) (up T) (ix2 a k)
    = ((lnb (zrow Z a) (urow Z G B T a) k : ℝ) : EReal) := by
  rw [← lnb_reverse (by decide) (zrow Z a) (urow Z G B T a) k _ rfl]
  pointwise [val_main_v90, val_main_v89, val_main_v88, val_main_v87, val_main_v86, val_main_v85, val_main_v84, val_main_v83, val_main_v82, val_main_v81, val_main_v80,
    val_main_v79, val_main_v78, val_main_v75, val_main_v74, val_main_v73, val_main_v71, val_main_v70, val_main_v34, val_main_v33, val_main_cst_5,
    val_main_cst_15, val_main_cst_17, val_main_cst_18, val_main_cst_19, val_main_cst_20]
  simp only [Fin.sum_univ_one, ref_v77 G B T x0 x4 x5 hz, ref_u G B T x0 x4 x5 hz, ref_r x0 x4 x5 hz, ref_zc' x0 x4 x5 hz, Cert.Base.lit_two, ← EReal.coe_mul, ← EReal.coe_neg, Cert.Base.coe_sum,
    ← EReal.coe_add, div_nat _ (by decide : 384 ≠ 0) _ lit_384]

theorem ref_dcb (k : Fin 384) : val_main_v129 (F := Ideal) x0 x4 x5 (up G) (up B) (up T) (ix2 0 k)
    = ∑ a : Fin 16384, ((lnb (zrow Z a) (urow Z G B T a) k : ℝ) : EReal) := by
  pointwise [val_main_v129, val_main_v93, val_main_v92, val_main_v91, val_main_cst_21, val_main_cst_22]
  simp only [Fin.sum_univ_one, ref_dz G B T x0 x4 x5 hz]

theorem ref_dcg (k : Fin 384) : val_main_v130 (F := Ideal) x0 x4 x5 (up G) (up B) (up T) (ix2 0 k)
    = ∑ a : Fin 16384, ((srow Z G B T a k : ℝ) : EReal) * ((nrm (zrow Z a) k : ℝ) : EReal) := by
  pointwise [val_main_v130, val_main_v66, val_main_v63, val_main_v62, val_main_v61, val_main_cst_12, val_main_cst_13]
  simp only [Fin.sum_univ_one, ref_xh x0 x4 x5 hz, ref_s G B T x0 x4 x5 hz, mul_comm]

theorem ref_dcbt (k : Fin 384) : val_main_v131 (F := Ideal) x0 x4 x5 (up G) (up B) (up T) (ix2 0 k)
    = ∑ a : Fin 16384, ((srow Z G B T a k : ℝ) : EReal) := by
  pointwise [val_main_v131, val_main_v60, val_main_v59, val_main_v58, val_main_cst_10, val_main_cst_11]
  simp only [Fin.sum_univ_one, ref_s G B T x0 x4 x5 hz]

end Cert.MixRefIdeal.Pair

end
-- ==== Proof.MixRefShort.lean ====
module

public import proofs.«01_k».proof.Proof.LayerNorm
public import proofs.«01_k».proof.Proof.Gen.MixRefIdeal.Read
public import Idealize.ShloMosaic.Lib.Pipeline.ValueKit
public import Idealize.ShloMosaic.Lib.WordCmp

@[expose] public section

set_option maxRecDepth 16384

noncomputable section

open Idealize.ShloMosaic

namespace Cert.MixRefIdeal.Pair

open Cert.MixRefIdeal Cert.MixRefIdeal.Read Cert.LayerNorm

/-- The rows a gather along the first axis reads. -/
theorem gather_three {α : Type} (x : S16386x384.Idx → α) (idx : IVec S16384x3x1 32) (a : Fin 16384) (q : Fin 3) (k : Fin 384) :
    Host.gather gather_S16386x384_S16384x3x1_S16384x3x384_2_0_n_n_0_2_1384 x idx (ix3 a q k)
      = x (ix2 ⟨min (idx (ix3 a q 0)).toInt.toNat 16385, by omega⟩ k) := by
  unfold Host.gather
  refine congrArg x (at2 _ _ _ ?_ ?_)
  · show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16386x384_S16384x3x1_S16384x3x384_2_0_n_n_0_2_1384.startIndexMap from List.mem_singleton.mpr rfl)]
    refine congrArg (fun j => min (idx j).toInt.toNat 16385) (funext fun b => Fin.ext ?_)
    match b with
    | ⟨0, _⟩ => rfl
    | ⟨1, _⟩ => rfl
    | ⟨2, _⟩ => rfl
  · show GatherDims.start _ _ _ _ + GatherDims.batchCoord _ _ _ + GatherDims.offCoord _ _ _ = _
    rw [GatherDims.batchCoord_eq_zero _ _ _ List.not_mem_nil]
    unfold GatherDims.start GatherDims.offCoord
    rw [dif_neg (show (1 : Fin 2) ∉ gather_S16386x384_S16384x3x1_S16384x3x384_2_0_n_n_0_2_1384.startIndexMap from by decide),
      dif_pos ((GatherDims.mem_sKept _ _).mpr ⟨by decide, by decide⟩), Nat.zero_add]
    rfl

variable (P : S16384x2176.Idx → EReal) (T : S16384x1024.Idx → EReal)

/-- Row `n - 1` of the product the short convolution reads, and nothing where there is none. -/
def product (n : ℕ) (k : Fin 384) : EReal :=
  if h : 1 ≤ n ∧ n < 16385 then P (ix2 ⟨n - 1, by omega⟩ ⟨640 + k, by omega⟩) * P (ix2 ⟨n - 1, by omega⟩ ⟨1024 + k, by omega⟩) else 0

/-- What row `a` adds to the gradient of one tap. -/
def tapTerm (a : Fin 16384) (q : ℕ) (k : Fin 384) : EReal :=
  T (ix2 a ⟨256 + k, by omega⟩) * P (ix2 a ⟨256 + k, by omega⟩) * product P (a + q) k

/-- The gradient of one tap of the short convolution. -/
def tapGrad (q : ℕ) (k : Fin 384) : EReal :=
  ∑ a : Fin 16384, tapTerm P T a q k

/-- The gradient with respect to the short convolution's taps, over five rows of zeros. -/
def outDsw (y : S8x384.Idx) : EReal := if (y 0 : ℕ) < 3 then tapGrad P T (y 0) (y 1) else 0

theorem take_three (a : Fin 16384) (q : Fin 3) (k : Fin 384) :
    val_main_v112 (F := Ideal) P (ix3 a q k) = val_main_v111 (F := Ideal) P (ix2 ⟨a + q, by omega⟩ k) := by
  unfold val_main_v112
  rw [gather_three]
  refine congrArg (fun n => val_main_v111 (F := Ideal) P (ix2 n k)) (Fin.ext ?_)
  have e : val_main_call3_v0 (F := Ideal) (ix3 a q 0) = BitVec.ofNat 32 (a + q) := by
    pointwise [val_main_call3_v0, val_main_v110, val_main_v109, val_main_v108, val_main_v107, val_main_v106, val_main_v105, val_main_v104]
    exact (BitVec.ofNat_add ..).symm
  show min (val_main_call3_v0 (F := Ideal) (ix3 a q 0)).toInt.toNat 16385 = a + q
  rw [e, WordCmp.toInt_ofNat_of_lt (w := 32) (by have := a.isLt; have := q.isLt; omega), Int.toNat_natCast]
  omega

theorem ref_product (n : Fin 16386) (k : Fin 384) : val_main_v111 (F := Ideal) P (ix2 n k) = product P n k := by
  pointwise [val_main_v111, val_main_v103, val_main_cst_25, val_main_v102, val_main_v101, val_main_v100]
  unfold product
  by_cases h1 : (n : ℕ) < 1
  · rw [dif_pos h1, dif_neg (by omega)]
  · rw [dif_neg h1]
    by_cases h2 : (n : ℕ) - 1 < 16384
    · rw [dif_pos h2, dif_pos (by omega)]
    · rw [dif_neg h2, dif_neg (by omega)]

/-- The three taps' gradients. -/
theorem ref_three (q : Fin 3) (k : Fin 384) : val_main_v124 (F := Ideal) P T (ix2 q k) = tapGrad P T q k := by
  pointwise [val_main_v124, val_main_v123, val_main_v122, val_main_v121, val_main_v120, val_main_v119, val_main_v118, val_main_v99, val_main_cst_28, val_main_cst_27]
  refine (Fin.sum_univ_one _).trans ?_
  exact Finset.sum_congr rfl fun a _ => (mul_comm _ _).trans (congrArg₂ (· * ·) (mul_comm _ _) ((take_three P a q k).trans (ref_product P _ k)))

theorem ref_dsw : val_main_v126 (F := Ideal) P T = outDsw P T := by
  funext y
  obtain ⟨o, k, rfl⟩ : ∃ (o : Fin 8) (k : Fin 384), y = ix2 o k := ⟨y 0, y 1, Idealize.ShloMosaic.eq_ix2 y⟩
  show _ = if (o : ℕ) < 3 then tapGrad P T o k else 0
  pointwise [val_main_v126, val_main_v125, val_main_cst_29]
  by_cases h : (o : ℕ) < 3
  · rw [dif_pos h, if_pos h]
    exact ref_three P T ⟨o, h⟩ k
  · rw [dif_neg h, if_neg h]

end Cert.MixRefIdeal.Pair
-- ==== Proof.MixRefTaps.lean ====
module

public import proofs.«01_k».proof.Proof.MixRefValue
public import Idealize.ShloMosaic.Lib.WordCmp

@[expose] public section

set_option maxRecDepth 16384

noncomputable section

open Idealize.ShloMosaic

namespace Cert.MixRefIdeal.Pair

open Cert.MixRefIdeal Cert.MixRefIdeal.Read Cert.LayerNorm

/-- The rows a gather along the first axis reads. -/
theorem gather_rows {α : Type} (x : S16414x384.Idx → α) (idx : IVec S16384x31x1 32) (a : Fin 16384) (q : Fin 31) (k : Fin 384) :
    Host.gather gather_S16414x384_S16384x31x1_S16384x31x384_2_0_n_n_0_2_1384 x idx (ix3 a q k)
      = x (ix2 ⟨min (idx (ix3 a q 0)).toInt.toNat 16413, by omega⟩ k) := by
  unfold Host.gather
  refine congrArg x (at2 _ _ _ ?_ ?_)
  · show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16414x384_S16384x31x1_S16384x31x384_2_0_n_n_0_2_1384.startIndexMap from List.mem_singleton.mpr rfl)]
    refine congrArg (fun j => min (idx j).toInt.toNat 16413) (funext fun b => Fin.ext ?_)
    match b with
    | ⟨0, _⟩ => rfl
    | ⟨1, _⟩ => rfl
    | ⟨2, _⟩ => rfl
  · show GatherDims.start _ _ _ _ + GatherDims.batchCoord _ _ _ + GatherDims.offCoord _ _ _ = _
    rw [GatherDims.batchCoord_eq_zero _ _ _ List.not_mem_nil]
    unfold GatherDims.start GatherDims.offCoord
    rw [dif_neg (show (1 : Fin 2) ∉ gather_S16414x384_S16384x31x1_S16384x31x384_2_0_n_n_0_2_1384.startIndexMap from by decide),
      dif_pos ((GatherDims.mem_sKept _ _).mpr ⟨by decide, by decide⟩), Nat.zero_add]
    rfl

variable (P : S16384x2176.Idx → EReal)

/-- The gated row `n - 15`, and nothing where there is none. -/
def padded (n : ℕ) (k : Fin 384) : EReal :=
  if h : 15 ≤ n ∧ n < 16399 then
    P (ix2 ⟨n - 15, by omega⟩ ⟨1408 + k, by omega⟩) * Ideal.div 1 (1 + Ideal.exp (0 - P (ix2 ⟨n - 15, by omega⟩ ⟨1792 + k, by omega⟩)))
  else 0

/-- What row `a` adds to the gradient of one tap of the long convolution, from the gradient with respect to its rows. -/
def convTerm (d : Fin 16384 → Fin 384 → ℝ) (a : Fin 16384) (q : ℕ) (k : Fin 384) : EReal := ((d a k : ℝ) : EReal) * padded P (a + q) k

/-- The gradient of one tap of the long convolution. -/
def convGrad (d : Fin 16384 → Fin 384 → ℝ) (q : ℕ) (k : Fin 384) : EReal := ∑ a : Fin 16384, convTerm P d a q k

/-- The gradient with respect to the long convolution's taps, over one row of zeros. -/
def outDcw (d : Fin 16384 → Fin 384 → ℝ) (y : S32x384.Idx) : EReal := if (y 0 : ℕ) < 31 then convGrad P d (y 0) (y 1) else 0

theorem take_row (a : Fin 16384) (q : Fin 31) (k : Fin 384) :
    val_main_v18 (F := Ideal) P (ix3 a q k) = val_main_v17 (F := Ideal) P (ix2 ⟨a + q, by omega⟩ k) := by
  unfold val_main_v18
  rw [gather_rows]
  refine congrArg (fun n => val_main_v17 (F := Ideal) P (ix2 n k)) (Fin.ext ?_)
  have e : val_main_call0_v0 (F := Ideal) (ix3 a q 0) = BitVec.ofNat 32 (a + q) := by
    pointwise [val_main_call0_v0, val_main_v16, val_main_v15, val_main_v14, val_main_v13, val_main_v12, val_main_v11, val_main_v10]
    exact (BitVec.ofNat_add ..).symm
  show min (val_main_call0_v0 (F := Ideal) (ix3 a q 0)).toInt.toNat 16413 = a + q
  rw [e, WordCmp.toInt_ofNat_of_lt (w := 32) (by have := a.isLt; have := q.isLt; omega), Int.toNat_natCast]
  omega

theorem ref_padded (n : Fin 16414) (k : Fin 384) : val_main_v17 (F := Ideal) P (ix2 n k) = padded P n k := by
  pointwise [val_main_v17, val_main_v9, val_main_cst_1, val_main_v8, val_main_v7, val_main_v6, val_main_v5, val_main_v4, val_main_v3, val_main_v2, val_main_v1, val_main_v0, val_main_cst, val_main_cst_0]
  unfold padded
  simp only [zero_sub]
  by_cases h1 : (n : ℕ) < 15
  · rw [dif_pos h1, dif_neg (by omega)]
  · rw [dif_neg h1]
    by_cases h2 : (n : ℕ) - 15 < 16384
    · rw [dif_pos h2, dif_pos (by omega)]
    · rw [dif_neg h2, dif_neg (by omega)]

variable {Z : S16384x384.Idx → ℝ} (G B : S384.Idx → ℝ) (T : S16384x1024.Idx → ℝ) (x4 : S31x384.Idx → EReal) (x5 : S384.Idx → EReal)
  (hz : val_main_v25 (F := Ideal) P x4 x5 = up Z)

include hz

/-- The thirty-one taps' gradients. -/
theorem ref_taps (q : Fin 31) (k : Fin 384) : val_main_v98 (F := Ideal) P x4 x5 (up G) (up B) (up T) (ix2 q k)
    = convGrad P (fun a j => lnb (zrow Z a) (urow Z G B T a) j) q k := by
  pointwise [val_main_v98, val_main_v97, val_main_v96, val_main_v95, val_main_v94, val_main_cst_23, val_main_cst_24]
  refine (Fin.sum_univ_one _).trans ?_
  exact Finset.sum_congr rfl fun a _ => (mul_comm _ _).trans (congrArg₂ (fun x y : EReal => x * y) (ref_dz G B T P x4 x5 hz a k) ((take_row P a q k).trans (ref_padded P _ k)))

theorem ref_dcw : val_main_v128 (F := Ideal) P x4 x5 (up G) (up B) (up T) = outDcw P (fun a j => lnb (zrow Z a) (urow Z G B T a) j) := by
  funext y
  obtain ⟨o, k, rfl⟩ : ∃ (o : Fin 32) (k : Fin 384), y = ix2 o k := ⟨y 0, y 1, Idealize.ShloMosaic.eq_ix2 y⟩
  show _ = if (o : ℕ) < 31 then convGrad P _ o k else 0
  pointwise [val_main_v128, val_main_v127, val_main_cst_30]
  by_cases h : (o : ℕ) < 31
  · rw [dif_pos h, if_pos h]
    exact ref_taps P G B T x4 x5 hz ⟨o, h⟩ k
  · rw [dif_neg h, if_neg h]

end Cert.MixRefIdeal.Pair
-- ==== Proof.MixBlocks.lean ====
module

public import proofs.«01_k».proof.Proof.MixFrame
public import proofs.«01_k».proof.Proof.LayerNorm

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

variable (m : (ℓ : Loc nD τ sig) → Buf (Elt Ideal) ℓ)

/-- A place among the rows a store of whole rows writes. -/
theorem mem_rows {p q off size : ℕ} (inb) (z : (⟨2, ![p, q]⟩ : Shape).Idx) (h0 : off ≤ (z 0 : ℕ)) (h1 : (z 0 : ℕ) < off + size) :
    z ∈ (Rect.unit (s := ⟨2, ![p, q]⟩) ![off, 0] ![size, q] inb).set :=
  Rect.mem_set_unit.mpr fun a => by
    have hz1 : (z 1 : ℕ) < q := (z 1).isLt
    match a with
    | 0 => exact ⟨h0, h1⟩
    | 1 => exact ⟨Nat.zero_le _, by show (z 1 : ℕ) < 0 + q; omega⟩

/-- What a scratch of rows holds between its halos, whatever the halos hold. -/
theorem canon_mid {q : ℕ} (inb inb') (w : (⟨2, ![32, q]⟩ : Shape).Idx → EReal) (v : (⟨2, ![512, q]⟩ : Shape).Idx → EReal)
    (L : List (View.Piece (Elt Ideal) ⟨2, ![576, q]⟩ .f32)) (z : (⟨2, ![576, q]⟩ : Shape).Idx) (h0 : 32 ≤ (z 0 : ℕ)) (h1 : (z 0 : ℕ) < 544) :
    View.canon (⟨Rect.unit (s := ⟨2, ![576, q]⟩) ![544, 0] ![32, q] inb, w⟩ :: ⟨Rect.unit (s := ⟨2, ![576, q]⟩) ![32, 0] ![512, q] inb', v⟩ :: L) z
      = v (ix2 ⟨(z 0 : ℕ) - 32, by omega⟩ (z 1)) := by
  rw [View.canon_cons_of_not_mem _ _ (by
    intro hm
    have h2 : 544 ≤ (z 0 : ℕ) := (Rect.mem_set_unit (inb := inb).mp hm 0).1
    omega)]
  have hz : z = (Rect.unit (s := ⟨2, ![576, q]⟩) ![32, 0] ![512, q] inb').emb (ix2 (n0 := 512) (n1 := q) ⟨(z 0 : ℕ) - 32, by omega⟩ (z 1)) := by
    funext a
    apply Fin.ext
    rw [ValueKit.rect_emb_unit_val]
    match a with
    | 0 => show (z 0 : ℕ) = 32 + ((z 0 : ℕ) - 32); omega
    | 1 => show (z 1 : ℕ) = 0 + (z 1 : ℕ); omega
  conv_lhs => rw [hz]
  rw [View.canon_cons_emb]

/-- The stores that fill the convolution's rows, and those that fill the gradient's. -/
abbrev convL (c : Dev nD) (t : Fin cfg0.N) : List (View.Piece (Elt Ideal) S576x384 .f32) :=
  [⟨Rect.unit ![544, 0] ![32, 384] inb_S576x384_S32x384_544_0, k0_pay18 (Scalar.cmpi CmpIPredicate.slt (BitVec.ofNat 32 ↑(grid0.coords t 0)) 31#32) (iblk m c 8 t)⟩,
    ⟨Rect.unit ![32, 0] ![512, 384] inb_S576x384_S512x384_32_0, k0_pay17 (iblk m c 7 t)⟩,
    ⟨Rect.unit ![0, 0] ![32, 384] inb_S576x384_S32x384_0_0, k0_pay16 (BitVec.ofNat 32 ↑(grid0.coords t 0)) (iblk m c 6 t)⟩]

abbrev gradL (c : Dev nD) (t : Fin cfg0.N) : List (View.Piece (Elt Ideal) S576x1024 .f32) :=
  [⟨Rect.unit ![544, 0] ![32, 1024] inb_S576x1024_S32x1024_544_0, k0_pay15 (BitVec.ofNat 32 ↑(grid0.coords t 0)) (iblk m c 5 t)⟩,
    ⟨Rect.unit ![32, 0] ![512, 1024] inb_S576x1024_S512x1024_32_0, k0_pay14 (iblk m c 4 t)⟩,
    ⟨Rect.unit ![0, 0] ![32, 1024] inb_S576x1024_S32x1024_0_0, k0_pay13 (k0_pay12 (grid0.coords t) (iblk m c 3 t))⟩]

/-- The convolution's rows as read back: some rows, the middle ones those of the point's own block. -/
theorem conv_rows (c : Dev nD) (t : Fin cfg0.N) : ∃ C : ℕ → ℕ → EReal,
    (∀ (o : ℕ) (inb), (View.whole (sig := sig) cc0_scratch2).readCov (convL m c t) (Rect.unit (s := S576x384) ![o, 0] ![64, 384] inb).toLoadRect = fun y => C (o + (y 0 : ℕ)) (y 1 : ℕ))
    ∧ ∀ (a : Fin 512) (k : Fin 384), C (32 + a) k = iblk m c 7 t (ix2 a k) := by
  refine ⟨fun n k => if h : n < 576 ∧ k < 384 then View.canon (convL m c t) (ix2 ⟨n, h.1⟩ ⟨k, h.2⟩) else 0, fun o inb => ?_, fun a k => ?_⟩
  · rw [View.readCov_eq_canon']
    funext y
    have h0 : o + 64 ≤ 576 := inb 0
    have hy0 : (y 0 : ℕ) < 64 := (y 0).isLt
    have hy1 : (y 1 : ℕ) < 384 := (y 1).isLt
    refine Eq.trans ?_ (dif_pos ⟨by omega, hy1⟩).symm
    exact congrArg (View.canon (convL m c t)) (at2 _ _ _ (by simp) (by simp))
  · refine (dif_pos ⟨by omega, k.isLt⟩).trans ?_
    refine (canon_mid _ _ _ _ _ _ (by show 32 ≤ 32 + (a : ℕ); omega) (by show 32 + (a : ℕ) < 544; omega)).trans ?_
    open_payloads
    pointwise

/-- The gradient's rows as read back, at columns from 640 on. -/
theorem grad_rows (c : Dev nD) (t : Fin cfg0.N) : ∃ D : ℕ → ℕ → EReal,
    (∀ (o : ℕ) (inb), (View.whole (sig := sig) cc0_scratch1).readCov (gradL m c t) (Rect.unit (s := S576x1024) ![o, 640] ![64, 384] inb).toLoadRect = fun y => D (o + (y 0 : ℕ)) (y 1 : ℕ))
    ∧ ∀ (a : Fin 512) (k : Fin 384), D (32 + a) k = iblk m c 4 t (ix2 a ⟨640 + k, by omega⟩) := by
  refine ⟨fun n k => if h : n < 576 ∧ k < 384 then View.canon (gradL m c t) (ix2 ⟨n, h.1⟩ ⟨640 + k, by omega⟩) else 0, fun o inb => ?_, fun a k => ?_⟩
  · rw [View.readCov_eq_canon']
    funext y
    have h0 : o + 64 ≤ 576 := inb 0
    have hy0 : (y 0 : ℕ) < 64 := (y 0).isLt
    have hy1 : (y 1 : ℕ) < 384 := (y 1).isLt
    refine Eq.trans ?_ (dif_pos ⟨by omega, hy1⟩).symm
    exact congrArg (View.canon (gradL m c t)) (at2 _ _ _ (by simp) (by simp))
  · refine (dif_pos ⟨by omega, k.isLt⟩).trans ?_
    refine (canon_mid _ _ _ _ _ _ (by show 32 ≤ 32 + (a : ℕ); omega) (by show 32 + (a : ℕ) < 544; omega)).trans ?_
    open_payloads
    pointwise

/-- A row's norm, the norm's output, the gradient through the gate and through the scale, all on extended reals. -/
def lenE : EReal := Ideal.ofBits .f32 0x43C00000#32
def cenE (z : Fin 384 → EReal) (k : Fin 384) : EReal := z k - Ideal.div (∑ j, z j) lenE
def rE (z : Fin 384 → EReal) : EReal := Ideal.rsqrt (Ideal.div (∑ j, cenE z j * cenE z j) lenE + Ideal.ofBits .f32 0x3727C5AC#32)
def nE (z : Fin 384 → EReal) (k : Fin 384) : EReal := cenE z k * rE z
def yE (z g b : Fin 384 → EReal) (k : Fin 384) : EReal := nE z k * g k + b k
def sgE (v : EReal) : EReal := Ideal.div 1 (1 + Ideal.exp (0 - v))
def sE (z g b d : Fin 384 → EReal) (k : Fin 384) : EReal := d k * (sgE (yE z g b k) * (1 + yE z g b k * (1 - sgE (yE z g b k))))
def dE (z g b d : Fin 384 → EReal) (k : Fin 384) : EReal := lnbAt (fun j => sE z g b d j * g j) (nE z) (rE z) lenE k

/-- The sums of a point's nine stretches of rows, the first and last halves, as one sum of its 512 rows. -/
theorem sum_chunks (e : EReal) (f : ℕ → EReal) :
    e + ∑ a : Fin 32, f (32 + a) + ∑ a : Fin 64, f (64 + a) + ∑ a : Fin 64, f (128 + a) + ∑ a : Fin 64, f (192 + a) + ∑ a : Fin 64, f (256 + a)
      + ∑ a : Fin 64, f (320 + a) + ∑ a : Fin 64, f (384 + a) + ∑ a : Fin 64, f (448 + a) + ∑ a : Fin 32, f (512 + a) = e + ∑ a : Fin 512, f (32 + a) := by
  have s (p q : ℕ) : ∑ a : Fin (p + q), f (32 + a) = ∑ a : Fin p, f (32 + a) + ∑ a : Fin q, f (32 + p + a) := by
    rw [Fin.sum_univ_add]
    simp only [Fin.val_castAdd, Fin.val_natAdd, Nat.add_assoc]
  rw [s 480 32, s 416 64, s 352 64, s 288 64, s 224 64, s 160 64, s 96 64, s 32 64]
  simp only [add_assoc, Nat.reduceAdd]

/-- What a point adds to each of the three column sums: its rows' terms. -/
def bIn (c : Dev nD) (t : Fin cfg0.N) (a : Fin 512) (k : Fin 384) : EReal :=
  dE (fun j => iblk m c 7 t (ix2 a j)) (fun j => iblk m c 14 t (ix2 0 j)) (fun j => iblk m c 15 t (ix2 0 j)) (fun j => iblk m c 4 t (ix2 a ⟨640 + j, by omega⟩)) k
def gIn (c : Dev nD) (t : Fin cfg0.N) (a : Fin 512) (k : Fin 384) : EReal :=
  sE (fun j => iblk m c 7 t (ix2 a j)) (fun j => iblk m c 14 t (ix2 0 j)) (fun j => iblk m c 15 t (ix2 0 j)) (fun j => iblk m c 4 t (ix2 a ⟨640 + j, by omega⟩)) k
    * nE (fun j => iblk m c 7 t (ix2 a j)) k
def tIn (c : Dev nD) (t : Fin cfg0.N) (a : Fin 512) (k : Fin 384) : EReal :=
  sE (fun j => iblk m c 7 t (ix2 a j)) (fun j => iblk m c 14 t (ix2 0 j)) (fun j => iblk m c 15 t (ix2 0 j)) (fun j => iblk m c 4 t (ix2 a ⟨640 + j, by omega⟩)) k

theorem dcb_A (c : Dev nD) (t : Fin cfg0.N) (h) (y : S1x384.Idx) : (outA m c t h).2.2.2.2.2.1 y = 0 + ∑ a : Fin 512, bIn m c t a (y 1) := by
  obtain ⟨C, hC, hC'⟩ := conv_rows m c t
  obtain ⟨D, hD, hD'⟩ := grad_rows m c t
  simp only [bIn, ← hC', ← hD']
  refine Eq.trans ?_ (sum_chunks 0 (fun n => dE (fun j => C n j) (fun j => iblk m c 14 t (ix2 0 j)) (fun j => iblk m c 15 t (ix2 0 j)) (fun j => D n j) (y 1)))
  unfold outA runA
  frame_out
  unfold convL at hC
  unfold gradL at hD
  simp only [hC, hD]
  clear hC hD hC' hD'
  open_payloads
  pointwise [dE, lnbAt, sE, sgE, yE, nE, rE, cenE, lenE]

theorem dcg_A (c : Dev nD) (t : Fin cfg0.N) (h) (y : S1x384.Idx) : (outA m c t h).2.2.2.2.2.2.1 y = 0 + ∑ a : Fin 512, gIn m c t a (y 1) := by
  obtain ⟨C, hC, hC'⟩ := conv_rows m c t
  obtain ⟨D, hD, hD'⟩ := grad_rows m c t
  simp only [gIn, ← hC', ← hD']
  refine Eq.trans ?_ (sum_chunks 0 (fun n => sE (fun j => C n j) (fun j => iblk m c 14 t (ix2 0 j)) (fun j => iblk m c 15 t (ix2 0 j)) (fun j => D n j) (y 1) * nE (fun j => C n j) (y 1)))
  unfold outA runA
  frame_out
  unfold convL at hC
  unfold gradL at hD
  simp only [hC, hD]
  clear hC hD hC' hD'
  open_payloads
  pointwise [dE, lnbAt, sE, sgE, yE, nE, rE, cenE, lenE]

theorem dcbt_A (c : Dev nD) (t : Fin cfg0.N) (h) (y : S1x384.Idx) : (outA m c t h).2.2.2.2.2.2.2 y = 0 + ∑ a : Fin 512, tIn m c t a (y 1) := by
  obtain ⟨C, hC, hC'⟩ := conv_rows m c t
  obtain ⟨D, hD, hD'⟩ := grad_rows m c t
  simp only [tIn, ← hC', ← hD']
  refine Eq.trans ?_ (sum_chunks 0 (fun n => sE (fun j => C n j) (fun j => iblk m c 14 t (ix2 0 j)) (fun j => iblk m c 15 t (ix2 0 j)) (fun j => D n j) (y 1)))
  unfold outA runA
  frame_out
  unfold convL at hC
  unfold gradL at hD
  simp only [hC, hD]
  clear hC hD hC' hD'
  open_payloads
  pointwise [dE, lnbAt, sE, sgE, yE, nE, rE, cenE, lenE]

theorem dcb_B (c : Dev nD) (t : Fin cfg0.N) (h) (p : Outs Ideal) (y : S1x384.Idx) : (outB m c t h p).2.2.2.2.2.1 y = p.2.2.2.2.2.1 y + ∑ a : Fin 512, bIn m c t a (y 1) := by
  obtain ⟨C, hC, hC'⟩ := conv_rows m c t
  obtain ⟨D, hD, hD'⟩ := grad_rows m c t
  simp only [bIn, ← hC', ← hD']
  refine Eq.trans ?_ (sum_chunks (p.2.2.2.2.2.1 y) (fun n => dE (fun j => C n j) (fun j => iblk m c 14 t (ix2 0 j)) (fun j => iblk m c 15 t (ix2 0 j)) (fun j => D n j) (y 1)))
  unfold outB runB
  frame_out
  unfold convL at hC
  unfold gradL at hD
  simp only [hC, hD]
  clear hC hD hC' hD'
  open_payloads
  pointwise [dE, lnbAt, sE, sgE, yE, nE, rE, cenE, lenE]

theorem dcg_B (c : Dev nD) (t : Fin cfg0.N) (h) (p : Outs Ideal) (y : S1x384.Idx) : (outB m c t h p).2.2.2.2.2.2.1 y = p.2.2.2.2.2.2.1 y + ∑ a : Fin 512, gIn m c t a (y 1) := by
  obtain ⟨C, hC, hC'⟩ := conv_rows m c t
  obtain ⟨D, hD, hD'⟩ := grad_rows m c t
  simp only [gIn, ← hC', ← hD']
  refine Eq.trans ?_ (sum_chunks (p.2.2.2.2.2.2.1 y) (fun n => sE (fun j => C n j) (fun j => iblk m c 14 t (ix2 0 j)) (fun j => iblk m c 15 t (ix2 0 j)) (fun j => D n j) (y 1) * nE (fun j => C n j) (y 1)))
  unfold outB runB
  frame_out
  unfold convL at hC
  unfold gradL at hD
  simp only [hC, hD]
  clear hC hD hC' hD'
  open_payloads
  pointwise [dE, lnbAt, sE, sgE, yE, nE, rE, cenE, lenE]

theorem dcbt_B (c : Dev nD) (t : Fin cfg0.N) (h) (p : Outs Ideal) (y : S1x384.Idx) : (outB m c t h p).2.2.2.2.2.2.2 y = p.2.2.2.2.2.2.2 y + ∑ a : Fin 512, tIn m c t a (y 1) := by
  obtain ⟨C, hC, hC'⟩ := conv_rows m c t
  obtain ⟨D, hD, hD'⟩ := grad_rows m c t
  simp only [tIn, ← hC', ← hD']
  refine Eq.trans ?_ (sum_chunks (p.2.2.2.2.2.2.2 y) (fun n => sE (fun j => C n j) (fun j => iblk m c 14 t (ix2 0 j)) (fun j => iblk m c 15 t (ix2 0 j)) (fun j => D n j) (y 1)))
  unfold outB runB
  frame_out
  unfold convL at hC
  unfold gradL at hD
  simp only [hC, hD]
  clear hC hD hC' hD'
  open_payloads
  pointwise [dE, lnbAt, sE, sgE, yE, nE, rE, cenE, lenE]

end Cert.MixIdeal.Pair
-- ==== Proof.MixShort.lean ====
module

public import proofs.«01_k».proof.Proof.MixBlocks
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

/-- The 576 rows a point works from, by number: the last 32 rows of the block before it, its own 512 rows, the
    first 32 rows of the block after it; nothing before the first block nor after the last one. -/
def ext (i : grid0.Coords) (x0 : S32x2176.Idx → EReal) (x1 : S512x2176.Idx → EReal) (x2 : S32x2176.Idx → EReal) (n : ℕ) (k : Fin 2176) : EReal :=
  if h0 : n < 32 then (if 0 < (i 0).val then x0 (ix2 ⟨n, h0⟩ k) else 0)
  else if h1 : n < 544 then x1 (ix2 ⟨n - 32, by omega⟩ k)
  else if h2 : n < 576 then (if (i 0).val < 31 then x2 (ix2 ⟨n - 544, by omega⟩ k) else 0) else 0

theorem cond_first (i : grid0.Coords) : (Scalar.cmpi .sgt (BitVec.ofNat 32 (i 0).val) 0#32 = 1#1) ↔ 0 < (i 0).val := by
  have h : ∀ k : Fin 32, (Scalar.cmpi .sgt (BitVec.ofNat 32 k.val) 0#32 = 1#1) ↔ 0 < k.val := by decide +kernel
  exact h (i 0)

theorem cond_last (i : grid0.Coords) : (Scalar.cmpi .slt (BitVec.ofNat 32 (i 0).val) 31#32 = 1#1) ↔ (i 0).val < 31 := by
  have h : ∀ k : Fin 32, (Scalar.cmpi .slt (BitVec.ofNat 32 k.val) 31#32 = 1#1) ↔ k.val < 31 := by decide +kernel
  exact h (i 0)

section

variable (i : grid0.Coords) (x0 : Vec Ideal S32x2176 .bf16) (x1 : Vec Ideal S512x2176 .bf16) (x2 : Vec Ideal S32x2176 .bf16)

theorem ext_prev {n : ℕ} (k : Fin 2176) (h : n < 32) : ext i x0 x1 x2 n k = if 0 < (i 0).val then x0 (ix2 ⟨n, h⟩ k) else 0 :=
  dif_pos h

theorem ext_cur {n : ℕ} (k : Fin 2176) (h : 32 ≤ n) (h' : n < 544) : ext i x0 x1 x2 n k = x1 (ix2 ⟨n - 32, by omega⟩ k) :=
  (dif_neg (by omega)).trans (dif_pos h')

theorem ext_next {n : ℕ} (k : Fin 2176) (h : 544 ≤ n) (h' : n < 576) :
    ext i x0 x1 x2 n k = if (i 0).val < 31 then x2 (ix2 ⟨n - 544, by omega⟩ k) else 0 :=
  (dif_neg (by omega)).trans ((dif_neg (by omega)).trans (dif_pos h'))

/-- The three stores that fill the first scratch. -/
abbrev extL : List (View.Piece (Elt Ideal) S576x2176 .f32) :=
  [⟨Rect.unit (s := S576x2176) ![544, 0] ![32, 2176] inb_S576x2176_S32x2176_544_0, k0_pay11 i x2⟩,
    ⟨Rect.unit (s := S576x2176) ![32, 0] ![512, 2176] inb_S576x2176_S512x2176_32_0, k0_pay10 x1⟩,
    ⟨Rect.unit (s := S576x2176) ![0, 0] ![32, 2176] inb_S576x2176_S32x2176_0_0, k0_pay9 i x0⟩]

/-- What the first scratch holds: those rows. -/
theorem canon_ext (z : S576x2176.Idx) : View.canon (extL i x0 x1 x2) z = ext i x0 x1 x2 (z 0) (z 1) := by
  have hz : (z 0 : ℕ) < 576 := (z 0).isLt
  have hc : ∃ p ∈ extL i x0 x1 x2, z ∈ p.1.set := by
    by_cases h0 : (z 0 : ℕ) < 32
    · exact ⟨_, List.mem_cons_of_mem _ (List.mem_cons_of_mem _ List.mem_cons_self), mem_rows inb_S576x2176_S32x2176_0_0 z (Nat.zero_le _) (by omega)⟩
    · by_cases h1 : (z 0 : ℕ) < 544
      · exact ⟨_, List.mem_cons_of_mem _ List.mem_cons_self, mem_rows inb_S576x2176_S512x2176_32_0 z (by omega) (by omega)⟩
      · exact ⟨_, List.mem_cons_self, mem_rows inb_S576x2176_S32x2176_544_0 z (by omega) (by omega)⟩
  unfold extL at hc ⊢
  canon_tiles x hx using hc
  · refine Eq.trans ?_ (ext_next i x0 x1 x2 (z 1) (n := z 0) (by omega) (by omega)).symm
    simp only [← cond_last]
    open_payloads
    pointwise
    exact congrArg (fun e => Scalar.select _ e 0) (congrArg x2 (at2 x _ _ (by show (x 0 : ℕ) = (z 0 : ℕ) - 544; omega) (by show (x 1 : ℕ) = (z 1 : ℕ); omega)))
  · refine Eq.trans ?_ (ext_cur i x0 x1 x2 (z 1) (n := z 0) (by omega) (by omega)).symm
    open_payloads
    pointwise
    exact congrArg x1 (at2 x _ _ (by show (x 0 : ℕ) = (z 0 : ℕ) - 32; omega) (by show (x 1 : ℕ) = (z 1 : ℕ); omega))
  · refine Eq.trans ?_ (ext_prev i x0 x1 x2 (z 1) (n := z 0) (by omega)).symm
    simp only [← cond_first]
    open_payloads
    pointwise
    exact congrArg (fun e => Scalar.select _ e 0) (congrArg x0 (at2 x _ _ (by show (x 0 : ℕ) = (z 0 : ℕ); omega) (by show (x 1 : ℕ) = (z 1 : ℕ); omega)))

end

variable (m : (ℓ : Loc nD τ sig) → Buf (Elt Ideal) ℓ)

/-- Stretches of columns of those rows, read back, as one function of row and column. -/
theorem ext_reads (c : Dev nD) (t : Fin cfg0.N) : ∃ E : ℕ → ℕ → EReal,
    (∀ (o : ℕ) (inb), (View.whole (sig := sig) cc0_scratch0).readCov (extL (grid0.coords t) (iblk m c 0 t) (iblk m c 1 t) (iblk m c 2 t)) (Rect.unit (s := S576x2176) ![0, o] ![576, 384] inb).toLoadRect
      = fun y => E (y 0 : ℕ) (o + (y 1 : ℕ)))
    ∧ ∀ (n : ℕ) (k : Fin 2176), E n k = ext (grid0.coords t) (iblk m c 0 t) (iblk m c 1 t) (iblk m c 2 t) n k := by
  refine ⟨fun n k => if h : k < 2176 then ext (grid0.coords t) (iblk m c 0 t) (iblk m c 1 t) (iblk m c 2 t) n ⟨k, h⟩ else 0, fun o inb => ?_, fun n k => dif_pos k.isLt⟩
  rw [View.readCov_eq_canon']
  funext y
  have h1 : o + 384 ≤ 2176 := inb 1
  have hy1 : (y 1 : ℕ) < 384 := (y 1).isLt
  rw [canon_ext]
  refine Eq.trans ?_ (dif_pos (by omega)).symm
  congr 1
  · simp
  · apply Fin.ext; simp

/-- The gradient's rows as read back, at columns from 256 on. -/
theorem short_rows (c : Dev nD) (t : Fin cfg0.N) : ∃ D : ℕ → ℕ → EReal,
    (∀ (inb), (View.whole (sig := sig) cc0_scratch1).readCov (gradL m c t) (Rect.unit (s := S576x1024) ![0, 256] ![576, 384] inb).toLoadRect = fun y => D (y 0 : ℕ) (y 1 : ℕ))
    ∧ ∀ (a : Fin 512) (k : Fin 384), D (32 + a) k = iblk m c 4 t (ix2 a ⟨256 + k, by omega⟩) := by
  refine ⟨fun n k => if h : n < 576 ∧ k < 384 then View.canon (gradL m c t) (ix2 ⟨n, h.1⟩ ⟨256 + k, by omega⟩) else 0, fun inb => ?_, fun a k => ?_⟩
  · rw [View.readCov_eq_canon']
    funext y
    have hy0 : (y 0 : ℕ) < 576 := (y 0).isLt
    have hy1 : (y 1 : ℕ) < 384 := (y 1).isLt
    refine Eq.trans ?_ (dif_pos ⟨by omega, hy1⟩).symm
    exact congrArg (View.canon (gradL m c t)) (at2 _ _ _ (by simp) (by simp))
  · refine (dif_pos ⟨by omega, k.isLt⟩).trans ?_
    refine (canon_mid _ _ _ _ _ _ (by show 32 ≤ 32 + (a : ℕ); omega) (by show 32 + (a : ℕ) < 544; omega)).trans ?_
    open_payloads
    pointwise

/-- The gradient through the gate, at a row and a column. -/
def gateTerm (x4 : S512x1024.Idx → EReal) (x1 : S512x2176.Idx → EReal) (a : Fin 512) (k : Fin 384) : EReal :=
  x4 (ix2 a ⟨256 + k, by omega⟩) * x1 (ix2 a ⟨256 + k, by omega⟩)

/-- A scratch stored whole, read back from a row on. -/
theorem whole_rows {κ} {sp} (v : View sig κ sp S576x384 .f32) (w : S576x384.Idx → EReal) (o : ℕ) (inb inb') (f : ℕ → ℕ → EReal) (hf : ∀ y, w y = f (y 0 : ℕ) (y 1 : ℕ)) :
    v.readCov (Val := Elt Ideal) [⟨Rect.unit (s := S576x384) ![0, 0] ![576, 384] inb', w⟩] (Rect.unit (s := S576x384) ![o, 0] ![512, 384] inb).toLoadRect
      = fun y : S512x384.Idx => f (o + (y 0 : ℕ)) (y 1 : ℕ) := by
  have hc : View.canon (Val := Elt Ideal) (e := .f32) [⟨Rect.unit (s := S576x384) ![0, 0] ![576, 384] inb', w⟩] = w :=
    View.canon_cons_unit_lit' (Val := Elt Ideal) (e := .f32) (S := S576x384) inb' _ [] (by decide)
  rw [View.readCov_eq_canon', hc]
  funext y
  rw [hf]
  refine congrArg₂ f ?_ ?_ <;> simp

/-- What the scratch of the convolved product holds, read back. -/
theorem product_rows (c : Dev nD) (t : Fin cfg0.N) : ∃ C : ℕ → ℕ → EReal,
    (∀ (o : ℕ) (inb), (View.whole (sig := sig) cc0_scratch6).readCov ([⟨Rect.unit (s := S576x384) ![0, 0] ![576, 384] inb_S576x384_S576x384_0_0,
        k0_pay301 ((View.whole (sig := sig) cc0_scratch0).readCov (extL (grid0.coords t) (iblk m c 0 t) (iblk m c 1 t) (iblk m c 2 t)) (Rect.unit (s := S576x2176) ![0, 640] ![576, 384] inb_S576x2176_S576x384_0_640).toLoadRect)
          ((View.whole (sig := sig) cc0_scratch0).readCov (extL (grid0.coords t) (iblk m c 0 t) (iblk m c 1 t) (iblk m c 2 t)) (Rect.unit (s := S576x2176) ![0, 1024] ![576, 384] inb_S576x2176_S576x384_0_1024).toLoadRect)⟩] : List (View.Piece (Elt Ideal) S576x384 .f32))
        (Rect.unit (s := S576x384) ![o, 0] ![512, 384] inb).toLoadRect = fun y => C (o + (y 0 : ℕ)) (y 1 : ℕ))
    ∧ ∀ (n : ℕ) (k : Fin 384), C n k = ext (grid0.coords t) (iblk m c 0 t) (iblk m c 1 t) (iblk m c 2 t) n ⟨640 + k, by omega⟩
        * ext (grid0.coords t) (iblk m c 0 t) (iblk m c 1 t) (iblk m c 2 t) n ⟨1024 + k, by omega⟩ := by
  obtain ⟨E, hE, hE'⟩ := ext_reads m c t
  refine ⟨fun n k => E n (640 + k) * E n (1024 + k), fun o inb => whole_rows _ _ o inb _ (fun n k => E n (640 + k) * E n (1024 + k)) fun y => ?_, fun n k => by rw [← hE', ← hE']⟩
  rw [hE, hE]
  open_payloads
  pointwise

/-- What the scratch of the gradient through the gate holds, read back in its middle rows. -/
theorem gate_rows (c : Dev nD) (t : Fin cfg0.N) : ∃ S : ℕ → ℕ → EReal,
    (∀ (o : ℕ) (inb), (View.whole (sig := sig) cc0_scratch7).readCov ([⟨Rect.unit (s := S576x384) ![0, 0] ![576, 384] inb_S576x384_S576x384_0_0,
        k0_pay302 ((View.whole (sig := sig) cc0_scratch1).readCov (gradL m c t) (Rect.unit (s := S576x1024) ![0, 256] ![576, 384] inb_S576x1024_S576x384_0_256).toLoadRect)
          ((View.whole (sig := sig) cc0_scratch0).readCov (extL (grid0.coords t) (iblk m c 0 t) (iblk m c 1 t) (iblk m c 2 t)) (Rect.unit (s := S576x2176) ![0, 256] ![576, 384] inb_S576x2176_S576x384_0_256).toLoadRect)⟩] : List (View.Piece (Elt Ideal) S576x384 .f32))
        (Rect.unit (s := S576x384) ![o, 0] ![512, 384] inb).toLoadRect = fun y => S (o + (y 0 : ℕ)) (y 1 : ℕ))
    ∧ ∀ (a : Fin 512) (k : Fin 384), S (32 + a) k = gateTerm (iblk m c 4 t) (iblk m c 1 t) a k := by
  obtain ⟨E, hE, hE'⟩ := ext_reads m c t
  obtain ⟨D, hD, hD'⟩ := short_rows m c t
  refine ⟨fun n k => D n k * E n (256 + k), fun o inb => whole_rows _ _ o inb _ (fun n k => D n k * E n (256 + k)) fun y => ?_, fun a k => ?_⟩
  · rw [hE, hD]
    open_payloads
    pointwise
  · refine congrArg₂ (fun p q : EReal => p * q) (hD' a k) ?_
    refine (hE' (32 + a) ⟨256 + k, by omega⟩).trans ((ext_cur _ _ _ _ _ (by omega) (by have := a.isLt; omega)).trans (congrArg (iblk m c 1 t) (at2 _ _ _ ?_ rfl)))
    show 32 + (a : ℕ) - 32 = a
    omega

/-- The three rows' updates. -/
theorem row_0 (v : Vec Ideal S1x384 .f32) (s w : Vec Ideal S512x384 .f32) (y : S1x384.Idx) :
    k0_pay347 v s w y = v y + ∑ a : Fin 512, s (ix2 a (y 1)) * w (ix2 a (y 1)) := by
  open_payloads
  pointwise

theorem row_1 (v : Vec Ideal S1x384 .f32) (s w : Vec Ideal S512x384 .f32) (y : S1x384.Idx) :
    k0_pay348 v s w y = v y + ∑ a : Fin 512, s (ix2 a (y 1)) * w (ix2 a (y 1)) := by
  open_payloads
  pointwise

theorem row_2 (v : Vec Ideal S1x384 .f32) (s w : Vec Ideal S512x384 .f32) (y : S1x384.Idx) :
    k0_pay351 (k0_pay349 v) (k0_pay350 s w) y = v y + ∑ a : Fin 512, s (ix2 a (y 1)) * w (ix2 a (y 1)) := by
  open_payloads
  pointwise

/-- A row of the eight, read back. -/
theorem read_old {κ} {sp} (v : View sig κ sp S8x384 .f32) (L : List (View.Piece (Elt Ideal) S8x384 .f32)) (o : Fin 8) (n : ℕ) (hn : n = o) (inb) (k : Fin 384) :
    v.readCov (Val := Elt Ideal) L (Rect.unit (s := S8x384) ![n, 0] ![1, 384] inb).toLoadRect (ix2 0 k) = View.canon L (ix2 o k) := by
  subst hn
  rw [View.readCov_eq_canon']
  refine congrArg (View.canon L) (at2 _ _ _ ?_ ?_) <;> simp

/-- A store of one row of the eight, at that row and off it. -/
theorem canon_hit (L : List (View.Piece (Elt Ideal) S8x384 .f32)) (o : Fin 8) (n : ℕ) (hn : n = o) (inb) (w : S1x384.Idx → EReal) (k : Fin 384) :
    View.canon (⟨Rect.unit (s := S8x384) ![n, 0] ![1, 384] inb, w⟩ :: L) (ix2 o k) = w (ix2 0 k) := by
  subst hn
  have hz : (ix2 o k : S8x384.Idx) = (Rect.unit (s := S8x384) ![o, 0] ![1, 384] inb).emb (ix2 (n0 := 1) (n1 := 384) 0 k) := by
    funext a
    apply Fin.ext
    rw [ValueKit.rect_emb_unit_val]
    match a with
    | 0 => show (o : ℕ) = o + 0; omega
    | 1 => show (k : ℕ) = 0 + k; omega
  rw [hz, View.canon_cons_emb]

theorem canon_miss (L : List (View.Piece (Elt Ideal) S8x384 .f32)) (o : Fin 8) (n : ℕ) (ho : n ≠ o) (inb) (w : S1x384.Idx → EReal) (k : Fin 384) :
    View.canon (⟨Rect.unit (s := S8x384) ![n, 0] ![1, 384] inb, w⟩ :: L) (ix2 o k) = View.canon L (ix2 o k) :=
  View.canon_cons_of_not_mem _ _ fun hm => by
    have h2 := Rect.mem_set_unit (inb := inb).mp hm 0
    have h3 : n ≤ o ∧ (o : ℕ) < n + 1 := h2
    omega

theorem canon_clear (o : Fin 8) (k : Fin 384) (inb) : View.canon (Val := Elt Ideal) (e := .f32) [⟨Rect.unit (s := S8x384) ![0, 0] ![8, 384] inb, k0_pay4 (F := Ideal)⟩] (ix2 o k) = (0 : EReal) := by
  have hc : View.canon (Val := Elt Ideal) (e := .f32) [⟨Rect.unit (s := S8x384) ![0, 0] ![8, 384] inb, k0_pay4 (F := Ideal)⟩] = k0_pay4 (F := Ideal) :=
    View.canon_cons_unit_lit' (Val := Elt Ideal) (e := .f32) (S := S8x384) inb _ [] (by decide)
  rw [hc]
  open_payloads
  pointwise

/-- A row of the eight, as left by the point before. -/
theorem ld_old (p : Vec Ideal S8x384 .f32) (o : Fin 8) (n : ℕ) (hn : n = o) (inb) (k : Fin 384) : View.ld p (Rect.unit (s := S8x384) ![n, 0] ![1, 384] inb) (ix2 0 k) = p (ix2 o k) := by
  subst hn
  rw [View.ld_apply]
  refine congrArg p (at2 _ _ _ ?_ ?_) <;> simp

/-- A store of one row over what was there, at that row and off it. -/
theorem over_hit {κ} {sp} (v : View sig κ sp S8x384 .f32) (f : v.ty.Contents (Elt Ideal)) (L : List (View.Piece (Elt Ideal) S8x384 .f32)) (o : Fin 8) (n : ℕ) (hn : n = o) (inb) (w : S1x384.Idx → EReal) (k : Fin 384) :
    v.read (Elt Ideal) (v.writes (Elt Ideal) f (⟨Rect.unit (s := S8x384) ![n, 0] ![1, 384] inb, w⟩ :: L)) (ix2 o k) = w (ix2 0 k) :=
  View.read_writes_cons_rows_of_mem (o := n) v f inb w L (ix2 o k) (ix2 (n0 := 1) (n1 := 384) 0 k) rfl hn.symm rfl

theorem over_miss {κ} {sp} (v : View sig κ sp S8x384 .f32) (f : v.ty.Contents (Elt Ideal)) (L : List (View.Piece (Elt Ideal) S8x384 .f32)) (o : Fin 8) (n : ℕ) (ho : n ≠ o) (inb) (w : S1x384.Idx → EReal) (k : Fin 384) :
    v.read (Elt Ideal) (v.writes (Elt Ideal) f (⟨Rect.unit (s := S8x384) ![n, 0] ![1, 384] inb, w⟩ :: L)) (ix2 o k) = v.read (Elt Ideal) (v.writes (Elt Ideal) f L) (ix2 o k) :=
  View.read_writes_cons_rows_of_not_mem (o := n) (W := 1) v f inb w L (ix2 o k) rfl rfl (by
    show (o : ℕ) < n ∨ n + 1 ≤ o
    omega)

/-- The first point's stores: the eight rows cleared, then three of them added to. -/
theorem stored_A {κ} {sp} (v v' v'' : View sig κ sp S8x384 .f32) (s : Vec Ideal S512x384 .f32) (w0 w1 w2 : Vec Ideal S512x384 .f32) (i0 i1 i2 j0 j1 j2 i3) (o : Fin 8) (k : Fin 384) (f : Fin 512 → EReal)
    (h0 : (o : ℕ) = 0 → ∀ a, s (ix2 a k) * w0 (ix2 a k) = f a) (h1 : (o : ℕ) = 1 → ∀ a, s (ix2 a k) * w1 (ix2 a k) = f a) (h2 : (o : ℕ) = 2 → ∀ a, s (ix2 a k) * w2 (ix2 a k) = f a)
    (L0 L1 L2 : List (View.Piece (Elt Ideal) S8x384 .f32)) (hL0 : L0 = [⟨Rect.unit (s := S8x384) ![0, 0] ![8, 384] i3, k0_pay4 (F := Ideal)⟩])
    (hL1 : L1 = ⟨Rect.unit (s := S8x384) ![0, 0] ![1, 384] i0, k0_pay347 (v.readCov (Val := Elt Ideal) L0 (Rect.unit (s := S8x384) ![0, 0] ![1, 384] j0).toLoadRect) s w0⟩ :: L0)
    (hL2 : L2 = ⟨Rect.unit (s := S8x384) ![1, 0] ![1, 384] i1, k0_pay348 (v'.readCov (Val := Elt Ideal) L1 (Rect.unit (s := S8x384) ![1, 0] ![1, 384] j1).toLoadRect) s w1⟩ :: L1) :
    View.canon (⟨Rect.unit (s := S8x384) ![2, 0] ![1, 384] i2, k0_pay351 (k0_pay349 (v''.readCov (Val := Elt Ideal) L2 (Rect.unit (s := S8x384) ![2, 0] ![1, 384] j2).toLoadRect)) (k0_pay350 s w2)⟩ :: L2) (ix2 o k)
      = 0 + if (o : ℕ) < 3 then ∑ a, f a else 0 := by
  have hz : ∀ L, L = L0 → View.canon L (ix2 o k) = (0 : EReal) := fun L h => by rw [h, hL0]; exact canon_clear o k i3
  by_cases e0 : (o : ℕ) = 0
  · rw [canon_miss _ _ _ (by omega), hL2, canon_miss _ _ _ (by omega), hL1, canon_hit _ _ _ e0.symm, row_0, read_old _ _ _ _ e0.symm, hz _ rfl, if_pos (by omega)]
    exact congrArg (fun e : EReal => 0 + e) (Finset.sum_congr rfl fun a _ => h0 e0 a)
  by_cases e1 : (o : ℕ) = 1
  · rw [canon_miss _ _ _ (by omega), hL2, canon_hit _ _ _ e1.symm, row_1, read_old _ _ _ _ e1.symm, hL1, canon_miss _ _ _ (by omega), hz _ rfl, if_pos (by omega)]
    exact congrArg (fun e : EReal => 0 + e) (Finset.sum_congr rfl fun a _ => h1 e1 a)
  by_cases e2 : (o : ℕ) = 2
  · rw [canon_hit _ _ _ e2.symm, row_2, read_old _ _ _ _ e2.symm, hL2, canon_miss _ _ _ (by omega), hL1, canon_miss _ _ _ (by omega), hz _ rfl, if_pos (by omega)]
    exact congrArg (fun e : EReal => 0 + e) (Finset.sum_congr rfl fun a _ => h2 e2 a)
  · rw [canon_miss _ _ _ (by omega), hL2, canon_miss _ _ _ (by omega), hL1, canon_miss _ _ _ (by omega), hz _ rfl, if_neg (by omega), zero_add]

/-- A later point's stores: three of the eight rows added to. -/
theorem stored_B {κ} {sp} (v : View sig κ sp S8x384 .f32) (g : v.ty.Contents (Elt Ideal)) (p : Vec Ideal S8x384 .f32) (hg : v.read (Elt Ideal) g = p) (s : Vec Ideal S512x384 .f32) (w0 w1 w2 : Vec Ideal S512x384 .f32)
    (i0 i1 i2 j0 j1 j2) (o : Fin 8) (k : Fin 384) (f : Fin 512 → EReal)
    (h0 : (o : ℕ) = 0 → ∀ a, s (ix2 a k) * w0 (ix2 a k) = f a) (h1 : (o : ℕ) = 1 → ∀ a, s (ix2 a k) * w1 (ix2 a k) = f a) (h2 : (o : ℕ) = 2 → ∀ a, s (ix2 a k) * w2 (ix2 a k) = f a) :
    v.read (Elt Ideal) (v.writes (Elt Ideal) g
      [⟨Rect.unit (s := S8x384) ![2, 0] ![1, 384] i2, k0_pay351 (k0_pay349 (View.ld p (Rect.unit (s := S8x384) ![2, 0] ![1, 384] j2))) (k0_pay350 s w2)⟩,
        ⟨Rect.unit (s := S8x384) ![1, 0] ![1, 384] i1, k0_pay348 (View.ld p (Rect.unit (s := S8x384) ![1, 0] ![1, 384] j1)) s w1⟩,
        ⟨Rect.unit (s := S8x384) ![0, 0] ![1, 384] i0, k0_pay347 (View.ld p (Rect.unit (s := S8x384) ![0, 0] ![1, 384] j0)) s w0⟩]) (ix2 o k)
      = p (ix2 o k) + if (o : ℕ) < 3 then ∑ a, f a else 0 := by
  by_cases e0 : (o : ℕ) = 0
  · rw [over_miss _ _ _ _ _ (by omega), over_miss _ _ _ _ _ (by omega), over_hit _ _ _ _ _ e0.symm, row_0, ld_old _ _ _ e0.symm, if_pos (by omega)]
    exact congrArg (fun e : EReal => p (ix2 o k) + e) (Finset.sum_congr rfl fun a _ => h0 e0 a)
  by_cases e1 : (o : ℕ) = 1
  · rw [over_miss _ _ _ _ _ (by omega), over_hit _ _ _ _ _ e1.symm, row_1, ld_old _ _ _ e1.symm, if_pos (by omega)]
    exact congrArg (fun e : EReal => p (ix2 o k) + e) (Finset.sum_congr rfl fun a _ => h1 e1 a)
  by_cases e2 : (o : ℕ) = 2
  · rw [over_hit _ _ _ _ _ e2.symm, row_2, ld_old _ _ _ e2.symm, if_pos (by omega)]
    exact congrArg (fun e : EReal => p (ix2 o k) + e) (Finset.sum_congr rfl fun a _ => h2 e2 a)
  · rw [over_miss _ _ _ _ _ (by omega), over_miss _ _ _ _ _ (by omega), over_miss _ _ _ _ _ (by omega), if_neg (by omega), add_zero]
    exact congrFun hg _

/-- What a row of a point's block adds to a tap's gradient. -/
def wIn (c : Dev nD) (t : Fin cfg0.N) (a : Fin 512) (q : ℕ) (k : Fin 384) : EReal :=
  gateTerm (iblk m c 4 t) (iblk m c 1 t) a k
    * (ext (grid0.coords t) (iblk m c 0 t) (iblk m c 1 t) (iblk m c 2 t) (31 + q + a) ⟨640 + k, by omega⟩
      * ext (grid0.coords t) (iblk m c 0 t) (iblk m c 1 t) (iblk m c 2 t) (31 + q + a) ⟨1024 + k, by omega⟩)

def wSum (c : Dev nD) (t : Fin cfg0.N) (y : S8x384.Idx) : EReal := if (y 0 : ℕ) < 3 then ∑ a : Fin 512, wIn m c t a (y 0) (y 1) else 0

theorem dsw_A (c : Dev nD) (t : Fin cfg0.N) (h) (y : S8x384.Idx) : (outA m c t h).2.2.2.1 y = 0 + wSum m c t y := by
  obtain ⟨C, hC, hC'⟩ := product_rows m c t
  obtain ⟨S, hS, hS'⟩ := gate_rows m c t
  have hf : ∀ (q : ℕ) (a : Fin 512) (k : Fin 384), S (32 + a) k * C (31 + q + a) k = wIn m c t a q k := fun q a k => by rw [hC', hS']; rfl
  obtain ⟨o, k, rfl⟩ : ∃ (o : Fin 8) (k : Fin 384), y = ix2 o k := ⟨y 0, y 1, Idealize.ShloMosaic.eq_ix2 y⟩
  show _ = 0 + if (o : ℕ) < 3 then ∑ a : Fin 512, wIn m c t a o k else 0
  unfold outA runA
  frame_out
  unfold extL at hC hS
  unfold gradL at hS
  simp only [hC, hS]
  clear hC hS hC' hS'
  exact stored_A _ _ _ _ _ _ _ _ _ _ _ _ _ _ o k _ (fun e a => (hf 0 a k).trans (by rw [e])) (fun e a => (hf 1 a k).trans (by rw [e])) (fun e a => (hf 2 a k).trans (by rw [e])) _ _ _ rfl rfl rfl

theorem dsw_B (c : Dev nD) (t : Fin cfg0.N) (h) (p : Outs Ideal) (y : S8x384.Idx) : (outB m c t h p).2.2.2.1 y = p.2.2.2.1 y + wSum m c t y := by
  obtain ⟨C, hC, hC'⟩ := product_rows m c t
  obtain ⟨S, hS, hS'⟩ := gate_rows m c t
  have hf : ∀ (q : ℕ) (a : Fin 512) (k : Fin 384), S (32 + a) k * C (31 + q + a) k = wIn m c t a q k := fun q a k => by rw [hC', hS']; rfl
  obtain ⟨o, k, rfl⟩ : ∃ (o : Fin 8) (k : Fin 384), y = ix2 o k := ⟨y 0, y 1, Idealize.ShloMosaic.eq_ix2 y⟩
  show _ = p.2.2.2.1 (ix2 o k) + if (o : ℕ) < 3 then ∑ a : Fin 512, wIn m c t a o k else 0
  unfold outB runB
  frame_out
  unfold extL at hC hS
  unfold gradL at hS
  simp only [hC, hS]
  clear hC hS hC' hS'
  exact stored_B _ _ _ ((hs0_19 t).read_unread (Val := Elt Ideal) p.2.2.2.1) _ _ _ _ _ _ _ _ _ _ o k _ (fun e a => (hf 0 a k).trans (by rw [e])) (fun e a => (hf 1 a k).trans (by rw [e])) (fun e a => (hf 2 a k).trans (by rw [e]))

end Cert.MixIdeal.Pair
-- ==== Proof.MixShortValue.lean ====
module

public import proofs.«01_k».proof.Proof.MixRefShort
public import proofs.«01_k».proof.Proof.MixShort

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm
open Cert.MixRefIdeal.Pair (product tapTerm tapGrad outDsw)

variable (m : (ℓ : Loc nD τ sig) → Buf (Elt Ideal) ℓ) (c : Dev nD)

/-- The block indices of the windows over the rows, over the gradient and over the taps' gradient. -/
theorem idxs : ∀ t : Fin cfg0.N, win0_0.index t = ![16 * t.val - 1, 0] ∧ win0_1.index t = ![t.val, 0] ∧ win0_2.index t = ![min (16 * (t.val + 1)) 511, 0]
    ∧ win0_4.index t = ![t.val, 0] ∧ win0_19.index t = ![0, 0] ∧ ((grid0.coords t) 0).val = t.val :=
  (by decide +kernel : ∀ t : Fin grid0.N, _)

/-! ## The blocks a point reads -/

theorem entry_proj (i : S16384x2176.Idx) : V m c main_v15 i = m ((c : Thread nD τ).loc main_arg0) i := by
  simp only [V, hostOps0, hostOps0_1, hostOps0_2, hostOps0_3, hostOps0_4, hostOps0_5, hostOps0_6, List.flatten_cons, List.flatten_nil, List.cons_append, List.nil_append]
  after_results_simp
  pointwise []

theorem entry_grad (i : S16384x1024.Idx) : V m c main_v42 i = m ((c : Thread nD τ).loc main_arg8) i := by
  simp only [V, hostOps0, hostOps0_1, hostOps0_2, hostOps0_3, hostOps0_4, hostOps0_5, hostOps0_6, List.flatten_cons, List.flatten_nil, List.cons_append, List.nil_append]
  after_results_simp
  pointwise []

theorem blk_prev (t : Fin cfg0.N) (a : Fin 32) (k : Fin 2176) (r : Fin 16384) (h : (r : ℕ) + 32 = 512 * t.val + a) :
    iblk m c 0 t (ix2 a k) = m ((c : Thread nD τ).loc main_arg0) (ix2 r k) := by
  blk_simp [iblk, idxs t]
  refine (entry_proj m c _).trans (congrArg _ (at2 _ r k ?_ ?_))
  · blk_simp [idxs t]; have := a.isLt; omega
  · blk_simp [idxs t]

theorem blk_cur (t : Fin cfg0.N) (a : Fin 512) (k : Fin 2176) (r : Fin 16384) (h : (r : ℕ) = 512 * t.val + a) :
    iblk m c 1 t (ix2 a k) = m ((c : Thread nD τ).loc main_arg0) (ix2 r k) := by
  blk_simp [iblk, idxs t]
  refine (entry_proj m c _).trans (congrArg _ (at2 _ r k ?_ ?_))
  · blk_simp [idxs t]; omega
  · blk_simp [idxs t]

theorem blk_next (t : Fin cfg0.N) (a : Fin 32) (k : Fin 2176) (r : Fin 16384) (h : (r : ℕ) = 512 * t.val + 512 + a) :
    iblk m c 2 t (ix2 a k) = m ((c : Thread nD τ).loc main_arg0) (ix2 r k) := by
  blk_simp [iblk, idxs t]
  refine (entry_proj m c _).trans (congrArg _ (at2 _ r k ?_ ?_))
  · blk_simp [idxs t]; have := r.isLt; omega
  · blk_simp [idxs t]

theorem blk_grad (t : Fin cfg0.N) (a : Fin 512) (k : Fin 1024) (r : Fin 16384) (h : (r : ℕ) = 512 * t.val + a) :
    iblk m c 4 t (ix2 a k) = m ((c : Thread nD τ).loc main_arg8) (ix2 r k) := by
  blk_simp [iblk, idxs t]
  refine (entry_grad m c _).trans (congrArg _ (at2 _ r k ?_ ?_))
  · blk_simp [idxs t]; omega
  · blk_simp [idxs t]

/-- Row `n` of the rows a point works from is row `512 t + n - 32` of the array, and nothing where there is none. -/
theorem ext_row (t : Fin cfg0.N) (n : ℕ) (hn : n < 576) (k : Fin 2176) :
    ext (grid0.coords t) (iblk m c 0 t) (iblk m c 1 t) (iblk m c 2 t) n k
      = if h : 32 ≤ 512 * t.val + n ∧ 512 * t.val + n < 16416 then (m ((c : Thread nD τ).loc main_arg0) (ix2 ⟨512 * t.val + n - 32, by omega⟩ k) : EReal) else (0 : EReal) := by
  have ht : t.val < 32 := t.isLt
  have hc := (idxs t).2.2.2.2.2
  by_cases h0 : n < 32
  · rw [ext_prev _ _ _ _ k h0]
    by_cases hp : 0 < t.val
    · rw [if_pos (by omega), dif_pos (by omega)]
      exact blk_prev m c t _ k _ (by dsimp only; omega)
    · rw [if_neg (by omega), dif_neg (by omega)]
  · by_cases h1 : n < 544
    · rw [ext_cur _ _ _ _ k (by omega) h1, dif_pos (by omega)]
      exact blk_cur m c t _ k _ (by dsimp only; omega)
    · rw [ext_next _ _ _ _ k (by omega) (by omega)]
      by_cases hp : t.val < 31
      · rw [if_pos (by omega), dif_pos (by omega)]
        exact blk_next m c t _ k _ (by dsimp only; omega)
      · rw [if_neg (by omega), dif_neg (by omega)]

/-- What a row of a point's block adds to a tap's gradient. -/
theorem short_terms (t : Fin cfg0.N) (a : Fin 512) (q : ℕ) (hq : q < 3) (k : Fin 384) (r : Fin 16384) (h : (r : ℕ) = 512 * t.val + a) :
    wIn m c t a q k = tapTerm (m ((c : Thread nD τ).loc main_arg0)) (m ((c : Thread nD τ).loc main_arg8)) r q k := by
  unfold wIn gateTerm tapTerm product
  rw [ext_row m c t (31 + q + a) (by omega), ext_row m c t (31 + q + a) (by omega)]
  refine congrArg₂ (fun x y : EReal => x * y) (congrArg₂ (fun x y : EReal => x * y) (blk_grad m c t a _ r h) (blk_cur m c t a _ r h)) ?_
  by_cases hr : 1 ≤ (r : ℕ) + q ∧ (r : ℕ) + q < 16385
  · rw [dif_pos (by omega), dif_pos (by omega), dif_pos hr]
    have e : ∀ k : Fin 2176, ix2 (n0 := 16384) (n1 := 2176) ⟨512 * t.val + (31 + q + a) - 32, by omega⟩ k = ix2 ⟨(r : ℕ) + q - 1, by omega⟩ k :=
      fun k => congrArg (fun n => ix2 n k) (Fin.ext (by dsimp only; omega))
    exact congrArg₂ (fun x y : EReal => x * y) (congrArg _ (e _)) (congrArg _ (e _))
  · rw [dif_neg (by omega), dif_neg hr, zero_mul]

/-! ## The result -/

/-- The gradient with respect to the short convolution's taps, after the run. -/
theorem final_dsw : (dats m 0 c).arrAt 19 cfg0.N = outDsw (m ((c : Thread nD τ).loc main_arg0)) (m ((c : Thread nD τ).loc main_arg8)) := by
  refine (dats m 0 c).arrAt_eq_of_covers 19 _ (by decide +kernel) fun t hf y => ?_
  blk_simp
  rw [after19, Pipeline.eq_sum_fin_of_reset_step_apply_of_flush (fun n h => (outs m c n h).2.2.2.1) 32 (fun _ => 0) (fun t j => wSum m c t j)
    (fun t h j => (congrFun (congrArg (fun o : Outs Ideal => o.2.2.2.1) (outs_first m c t h)) j).trans (dsw_A m c t h j))
    (fun t h j => (congrFun (congrArg (fun o : Outs Ideal => o.2.2.2.1) (outs_later m c t h)) j).trans (dsw_B m c t h _ j)) t ((flush0_19 t).mp hf) _, zero_add]
  have h0 : (((cfg0.win 19).blk t).view.emb y 0 : ℕ) = y 0 := by blk_simp [idxs t]
  have h1 : ((cfg0.win 19).blk t).view.emb y 1 = y 1 := Fin.ext (by blk_simp [idxs t])
  unfold outDsw wSum
  rw [h0, h1]
  by_cases hq : (y 0 : ℕ) < 3
  · simp only [if_pos hq]
    unfold tapGrad
    refine Fin.sum_mul_add_congr fun s k hl => ?_
    have hs : 32 * (t.val / 32) + s.val = s.val := by have := t.isLt; have hN : cfg0.grid.N = 32 := N_0; omega
    exact short_terms m c _ k _ hq (y 1) ⟨s.val * 512 + k.val, hl⟩ (by simp [hs]; omega)
  · simp only [if_neg hq]
    exact Finset.sum_const_zero (ι := Fin 32) (M := EReal) (s := Finset.univ)

end Cert.MixIdeal.Pair

end
-- ==== Proof.MixTaps.lean ====
module

public import proofs.«01_k».proof.Proof.MixShort

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

/-- A place among the rows of a copy a store of whole rows writes, as a place of that store. -/
theorem place_eq {r o s : ℕ} (inb) (z : S8x584x384.Idx) (h0 : (z 0 : ℕ) = r) (h1 : o ≤ (z 1 : ℕ)) (h2 : (z 1 : ℕ) - o < s) :
    z = (Rect.unit (s := S8x584x384) ![r, o, 0] ![1, s, 384] inb).emb (ix3 (n0 := 1) (n1 := s) (n2 := 384) 0 ⟨(z 1 : ℕ) - o, h2⟩ (z 2)) := by
  funext a
  apply Fin.ext
  rw [ValueKit.rect_emb_unit_val]
  match a with
  | 0 => show (z 0 : ℕ) = r + 0; omega
  | 1 => show (z 1 : ℕ) = o + ((z 1 : ℕ) - o); omega
  | 2 => show (z 2 : ℕ) = 0 + (z 2 : ℕ); omega

/-- A place no such store writes. -/
theorem place_off {r o s : ℕ} (inb) (z : S8x584x384.Idx) (h : (z 0 : ℕ) ≠ r ∨ (z 1 : ℕ) < o ∨ o + s ≤ (z 1 : ℕ)) :
    z ∉ (Rect.unit (s := S8x584x384) ![r, o, 0] ![1, s, 384] inb).set := by
  intro hm
  rw [Rect.mem_set_unit] at hm
  have h1 : r ≤ (z 0 : ℕ) := (hm 0).1
  have h2 : (z 0 : ℕ) < r + 1 := (hm 0).2
  have h3 : o ≤ (z 1 : ℕ) := (hm 1).1
  have h4 : (z 1 : ℕ) < o + s := (hm 1).2
  omega

/-- Such a store leaves it as it was. -/
theorem canon_off (L : List (View.Piece (Elt Ideal) S8x584x384 .f32)) (r o s : ℕ) (inb) (w : (⟨3, ![1, s, 384]⟩ : Shape).Idx → EReal) (z : S8x584x384.Idx) (h : (z 0 : ℕ) ≠ r ∨ (z 1 : ℕ) < o ∨ o + s ≤ (z 1 : ℕ)) :
    View.canon (⟨Rect.unit (s := S8x584x384) ![r, o, 0] ![1, s, 384] inb, w⟩ :: L) z = View.canon L z :=
  View.canon_cons_of_not_mem _ _ (place_off (r := r) (o := o) (s := s) inb z h)

variable (G B : ℕ → Fin 384 → EReal)

/-- What the scratch of the gated rows must hold at the first `r` of its eight copies: copy `s` holds the rows from row
    `s` on. -/
def Copied (L : List (View.Piece (Elt Ideal) S8x584x384 .f32)) (r : ℕ) : Prop :=
  ∀ z : S8x584x384.Idx, (z 0 : ℕ) < r → ((z 0 : ℕ) = 0 ∨ (z 1 : ℕ) < 576) → View.canon L z = G ((z 0 : ℕ) + (z 1 : ℕ)) (z 2)

variable {G B}

/-- One more copy: rows `r` to `r + 575` of the first, read back and stored at place `r`. -/
theorem copied_step (r : ℕ) (hr0 : 1 ≤ r) (hr : r < 8) {κ sp} {v : View sig κ sp S8x584x384 .f32} {L : List (View.Piece (Elt Ideal) S8x584x384 .f32)} {inb inb'}
    (pay : Vec Ideal S1x576x384 .f32 → Vec Ideal S1x576x384 .f32) (hp : ∀ w x, pay w x = w x) (hg : Copied G L r) :
    Copied G (⟨Rect.unit (s := S8x584x384) ![r, 0, 0] ![1, 576, 384] inb, pay (v.readCov (Val := Elt Ideal) L (Rect.unit (s := S8x584x384) ![0, r, 0] ![1, 576, 384] inb').toLoadRect)⟩ :: L) (r + 1) := by
  intro z hz hz1
  have hz2 : (z 1 : ℕ) < 584 := (z 1).isLt
  have hz3 : (z 2 : ℕ) < 384 := (z 2).isLt
  by_cases h : (z 0 : ℕ) = r
  · conv_lhs => rw [place_eq inb z h (Nat.zero_le _) (by omega)]
    rw [View.canon_cons_emb, hp, View.readCov_eq_canon']
    show View.canon L _ = _
    rw [hg]
    · congr 1
      · simp only [Rect.idx_unit_val]
        show 0 + 0 + (r + ((z 1 : ℕ) - 0)) = _
        omega
      · apply Fin.ext
        rw [Rect.idx_unit_val]
        show 0 + (z 2 : ℕ) = _
        omega
    · rw [Rect.idx_unit_val]; show 0 + 0 < r; omega
    · left; rw [Rect.idx_unit_val]; rfl
  · rw [canon_off _ r 0 576 _ _ z (Or.inl h)]
    exact hg z (by omega) hz1

/-- The gated rows, of the rows as read back. -/
def gated (E : ℕ → ℕ → EReal) (n : ℕ) (k : Fin 384) : EReal := E n (1408 + k) * sgE (E n (1792 + k))

/-- The first two stores: the gated rows, and eight rows of zeros below them. -/
theorem copied_first (E : ℕ → ℕ → EReal) (hE : ∀ n (k : Fin 2176), 576 ≤ n → E n k = 0) {i0 i1} :
    Copied (gated E) [⟨Rect.unit (s := S8x584x384) ![0, 576, 0] ![1, 8, 384] i0, k0_pay21 (F := Ideal)⟩,
      ⟨Rect.unit (s := S8x584x384) ![0, 0, 0] ![1, 576, 384] i1, k0_pay20 (F := Ideal) (fun y => E (y 0 : ℕ) (1408 + (y 1 : ℕ)))
        (k0_pay19 (F := Ideal) (fun y => E (y 0 : ℕ) (1792 + (y 1 : ℕ))))⟩] 1 := by
  intro z hz hz1
  have hz2 : (z 1 : ℕ) < 584 := (z 1).isLt
  have hz3 : (z 2 : ℕ) < 384 := (z 2).isLt
  by_cases h : (z 1 : ℕ) < 576
  · rw [canon_off _ 0 576 8 _ _ z (Or.inr (Or.inl h))]
    conv_lhs => rw [place_eq i1 z (r := 0) (by omega) (Nat.zero_le _) (by omega)]
    rw [View.canon_cons_emb]
    open_payloads
    pointwise [gated, sgE]
    rw [show (z 0 : ℕ) + (z 1 : ℕ) = (z 1 : ℕ) by omega]
  · conv_lhs => rw [place_eq i0 z (r := 0) (by omega) (by omega) (by omega)]
    rw [View.canon_cons_emb]
    have hp : gated E ((z 0 : ℕ) + (z 1 : ℕ)) (z 2) = 0 := by
      unfold gated
      rw [show 1408 + ((z 2 : Fin 384) : ℕ) = ((⟨1408 + (z 2 : ℕ), by omega⟩ : Fin 2176) : ℕ) from rfl, hE _ _ (by omega), zero_mul]
    rw [hp]
    open_payloads
    pointwise

/-- A stretch of 512 rows of a copy, read back. -/
theorem read_copied {κ sp} (v : View sig κ sp S8x584x384 .f32) (L : List (View.Piece (Elt Ideal) S8x584x384 .f32)) (hg : Copied G L 8) (r o : ℕ) (hr : r < 8) (ho : o + 512 ≤ 576) (inb) (a : Fin 512) (k : Fin 384) :
    v.readCov (Val := Elt Ideal) L (Rect.unit (s := S8x584x384) ![r, o, 0] ![1, 512, 384] inb).toLoadRect (ix3 0 a k) = G (r + o + a) k := by
  rw [View.readCov_eq_canon']
  show View.canon L _ = _
  rw [hg]
  · congr 1
    · simp only [Rect.idx_unit_val]
      show r + 0 + (o + (a : ℕ)) = _
      omega
    · apply Fin.ext
      rw [Rect.idx_unit_val]
      show 0 + (k : ℕ) = _
      omega
  · rw [Rect.idx_unit_val]; show r + 0 < 8; omega
  · right; rw [Rect.idx_unit_val]; show o + (a : ℕ) < 576; omega

variable (B) in
/-- What the first copy of the other scratch must hold in its first `n` rows. -/
def Filled (L : List (View.Piece (Elt Ideal) S8x584x384 .f32)) (n : ℕ) : Prop :=
  ∀ z : S8x584x384.Idx, (z 0 : ℕ) = 0 → (z 1 : ℕ) < n → View.canon L z = B (z 1 : ℕ) (z 2)

theorem filled_none : Filled B [] 0 := fun z h0 h1 => absurd h1 (Nat.not_lt_zero _)

/-- Sixty-four rows more. -/
theorem filled_step (o : ℕ) {L : List (View.Piece (Elt Ideal) S8x584x384 .f32)} {inb} {w : S1x64x384.Idx → EReal} (hw : ∀ (a : Fin 64) (k : Fin 384), w (ix3 0 a k) = B (o + a) k) (hL : Filled B L o) :
    Filled B (⟨Rect.unit (s := S8x584x384) ![0, o, 0] ![1, 64, 384] inb, w⟩ :: L) (o + 64) := by
  intro z h0 h1
  by_cases h : (z 1 : ℕ) < o
  · rw [canon_off _ 0 o 64 _ _ z (Or.inr (Or.inl h))]
    exact hL z h0 h
  · conv_lhs => rw [place_eq inb z (r := 0) (by omega) (by omega) (by omega)]
    rw [View.canon_cons_emb]
    refine (hw _ _).trans ?_
    congr 1
    show o + ((z 1 : ℕ) - o) = _
    omega

/-- A store elsewhere. -/
theorem filled_off (r o s : ℕ) (h : 1 ≤ r ∨ 576 ≤ o) {L : List (View.Piece (Elt Ideal) S8x584x384 .f32)} {inb} {w : (⟨3, ![1, s, 384]⟩ : Shape).Idx → EReal} (hL : Filled B L 576) :
    Filled B (⟨Rect.unit (s := S8x584x384) ![r, o, 0] ![1, s, 384] inb, w⟩ :: L) 576 := by
  intro z h0 h1
  rw [canon_off _ r o s _ _ z (by omega)]
  exact hL z h0 h1

theorem read_filled {κ sp} (v : View sig κ sp S8x584x384 .f32) (L : List (View.Piece (Elt Ideal) S8x584x384 .f32)) (hg : Filled B L 576) (inb) (a : Fin 512) (k : Fin 384) :
    v.readCov (Val := Elt Ideal) L (Rect.unit (s := S8x584x384) ![0, 32, 0] ![1, 512, 384] inb).toLoadRect (ix3 0 a k) = B (32 + a) k := by
  rw [View.readCov_eq_canon']
  show View.canon L _ = _
  rw [hg]
  · congr 1
    · rw [Rect.idx_unit_val]
      rfl
    · apply Fin.ext
      rw [Rect.idx_unit_val]
      show 0 + (k : ℕ) = _
      omega
  · rw [Rect.idx_unit_val]; rfl
  · rw [Rect.idx_unit_val]; show 32 + (a : ℕ) < 576; omega

/-! ## The rows of the taps' gradient -/

/-- A row of the thirty-two, read back. -/
theorem read_row {κ} {sp} (v : View sig κ sp S32x384 .f32) (L : List (View.Piece (Elt Ideal) S32x384 .f32)) (o : Fin 32) (n : ℕ) (hn : n = o) (inb) (k : Fin 384) :
    v.readCov (Val := Elt Ideal) L (Rect.unit (s := S32x384) ![n, 0] ![1, 384] inb).toLoadRect (ix2 0 k) = View.canon L (ix2 o k) := by
  subst hn
  rw [View.readCov_eq_canon']
  refine congrArg (View.canon L) (at2 _ _ _ ?_ ?_) <;> simp

theorem row_hit (L : List (View.Piece (Elt Ideal) S32x384 .f32)) (o : Fin 32) (n : ℕ) (hn : n = o) (inb) (w : S1x384.Idx → EReal) (k : Fin 384) :
    View.canon (⟨Rect.unit (s := S32x384) ![n, 0] ![1, 384] inb, w⟩ :: L) (ix2 o k) = w (ix2 0 k) := by
  subst hn
  have hz : (ix2 o k : S32x384.Idx) = (Rect.unit (s := S32x384) ![o, 0] ![1, 384] inb).emb (ix2 (n0 := 1) (n1 := 384) 0 k) := by
    funext a
    apply Fin.ext
    rw [ValueKit.rect_emb_unit_val]
    match a with
    | 0 => show (o : ℕ) = o + 0; omega
    | 1 => show (k : ℕ) = 0 + k; omega
  rw [hz, View.canon_cons_emb]

theorem row_miss (L : List (View.Piece (Elt Ideal) S32x384 .f32)) (o : Fin 32) (n : ℕ) (ho : n ≠ o) (inb) (w : S1x384.Idx → EReal) (k : Fin 384) :
    View.canon (⟨Rect.unit (s := S32x384) ![n, 0] ![1, 384] inb, w⟩ :: L) (ix2 o k) = View.canon L (ix2 o k) :=
  View.canon_cons_of_not_mem _ _ fun hm => by
    have h2 := Rect.mem_set_unit (inb := inb).mp hm 0
    have h3 : n ≤ o ∧ (o : ℕ) < n + 1 := h2
    omega

theorem row_ld (p : Vec Ideal S32x384 .f32) (o : Fin 32) (n : ℕ) (hn : n = o) (inb) (k : Fin 384) : View.ld p (Rect.unit (s := S32x384) ![n, 0] ![1, 384] inb) (ix2 0 k) = p (ix2 o k) := by
  subst hn
  rw [View.ld_apply]
  refine congrArg p (at2 _ _ _ ?_ ?_) <;> simp

theorem row_over {κ} {sp} (v : View sig κ sp S32x384 .f32) (f : v.ty.Contents (Elt Ideal)) (L : List (View.Piece (Elt Ideal) S32x384 .f32)) (o : Fin 32) (n : ℕ) (hn : n = o) (inb) (w : S1x384.Idx → EReal) (k : Fin 384) :
    v.read (Elt Ideal) (v.writes (Elt Ideal) f (⟨Rect.unit (s := S32x384) ![n, 0] ![1, 384] inb, w⟩ :: L)) (ix2 o k) = w (ix2 0 k) :=
  View.read_writes_cons_rows_of_mem (o := n) v f inb w L (ix2 o k) (ix2 (n0 := 1) (n1 := 384) 0 k) rfl hn.symm rfl

theorem row_under {κ} {sp} (v : View sig κ sp S32x384 .f32) (f : v.ty.Contents (Elt Ideal)) (L : List (View.Piece (Elt Ideal) S32x384 .f32)) (o : Fin 32) (n : ℕ) (ho : n ≠ o) (inb) (w : S1x384.Idx → EReal) (k : Fin 384) :
    v.read (Elt Ideal) (v.writes (Elt Ideal) f (⟨Rect.unit (s := S32x384) ![n, 0] ![1, 384] inb, w⟩ :: L)) (ix2 o k) = v.read (Elt Ideal) (v.writes (Elt Ideal) f L) (ix2 o k) :=
  View.read_writes_cons_rows_of_not_mem (o := n) (W := 1) v f inb w L (ix2 o k) rfl rfl (by
    show (o : ℕ) < n ∨ n + 1 ≤ o
    omega)

variable (G B) in
/-- A tap's sum over the 512 rows. -/
def tapSum (o : ℕ) (k : Fin 384) : EReal := ∑ x : Fin 512, B (32 + x) k * G (17 + o + x) k

variable (G B) in
/-- What the first `n` rows hold after the first point's stores into them. -/
def Added (L : List (View.Piece (Elt Ideal) S32x384 .f32)) (n : ℕ) : Prop :=
  ∀ (o : Fin 32) (k : Fin 384), View.canon L (ix2 o k) = 0 + if (o : ℕ) < n then tapSum G B o k else 0

variable (G B) in
/-- What they hold after a later point's. -/
def Over {κ sp} (v : View sig κ sp S32x384 .f32) (g : v.ty.Contents (Elt Ideal)) (p : Vec Ideal S32x384 .f32) (L : List (View.Piece (Elt Ideal) S32x384 .f32)) (n : ℕ) : Prop :=
  ∀ (o : Fin 32) (k : Fin 384), v.read (Elt Ideal) (v.writes (Elt Ideal) g L) (ix2 o k) = (p (ix2 o k) : EReal) + if (o : ℕ) < n then tapSum G B o k else 0

theorem added_clear {inb} : Added G B [⟨Rect.unit (s := S32x384) ![0, 0] ![32, 384] inb, k0_pay5 (F := Ideal)⟩] 0 := by
  intro o k
  have hc : View.canon (Val := Elt Ideal) (e := .f32) [⟨Rect.unit (s := S32x384) ![0, 0] ![32, 384] inb, k0_pay5 (F := Ideal)⟩] = k0_pay5 (F := Ideal) :=
    View.canon_cons_unit_lit' (Val := Elt Ideal) (e := .f32) (S := S32x384) inb _ [] (by decide)
  rw [hc, if_neg (by omega), add_zero]
  open_payloads
  pointwise

theorem over_none {κ sp} {v : View sig κ sp S32x384 .f32} {g : v.ty.Contents (Elt Ideal)} {p : Vec Ideal S32x384 .f32} (hg : v.read (Elt Ideal) g = p) : Over G B v g p [] 0 := by
  intro o k
  rw [if_neg (by omega), add_zero]
  exact congrFun hg _

theorem tap_A (n r o : ℕ) (hn : n < 31) (hro : r + o = 17 + n) (hr : r < 8) (ho : o + 512 ≤ 576) (pay : Vec Ideal S1x384 .f32 → Vec Ideal S1x512x384 .f32 → Vec Ideal S1x512x384 .f32 → Vec Ideal S1x384 .f32)
    (hp : ∀ u b a (y : S1x384.Idx), pay u b a y = u y + ∑ x : Fin 512, b (ix3 0 x (y 1)) * a (ix3 0 x (y 1)))
    {κ sp κ' sp' κ'' sp''} {v : View sig κ sp S32x384 .f32} {va : View sig κ' sp' S8x584x384 .f32} {vb : View sig κ'' sp'' S8x584x384 .f32} {La Lb : List (View.Piece (Elt Ideal) S8x584x384 .f32)}
    (ha : Copied G La 8) (hb : Filled B Lb 576) {L : List (View.Piece (Elt Ideal) S32x384 .f32)} (hL : Added G B L n) {i0 i1 i2 i3} :
    Added G B (⟨Rect.unit (s := S32x384) ![n, 0] ![1, 384] i0, pay (v.readCov (Val := Elt Ideal) L (Rect.unit (s := S32x384) ![n, 0] ![1, 384] i1).toLoadRect)
      (vb.readCov (Val := Elt Ideal) Lb (Rect.unit (s := S8x584x384) ![0, 32, 0] ![1, 512, 384] i2).toLoadRect)
      (va.readCov (Val := Elt Ideal) La (Rect.unit (s := S8x584x384) ![r, o, 0] ![1, 512, 384] i3).toLoadRect)⟩ :: L) (n + 1) := by
  intro q k
  by_cases e : n = (q : ℕ)
  · rw [row_hit _ _ _ e, hp, read_row _ _ _ _ e, hL, if_neg (by omega), add_zero, if_pos (by omega)]
    refine congrArg (fun e : EReal => 0 + e) (Finset.sum_congr rfl fun x _ => ?_)
    refine congrArg₂ (fun e e' : EReal => e * e') (read_filled _ _ hb _ _ _) ((read_copied _ _ ha _ _ hr ho _ _ _).trans ?_)
    rw [hro, e]
    rfl
  · rw [row_miss _ _ _ e, hL]
    by_cases h : (q : ℕ) < n
    · rw [if_pos h, if_pos (by omega)]
    · rw [if_neg h, if_neg (by omega)]

theorem tap_B (n r o : ℕ) (hn : n < 31) (hro : r + o = 17 + n) (hr : r < 8) (ho : o + 512 ≤ 576) (pay : Vec Ideal S1x384 .f32 → Vec Ideal S1x512x384 .f32 → Vec Ideal S1x512x384 .f32 → Vec Ideal S1x384 .f32)
    (hp : ∀ u b a (y : S1x384.Idx), pay u b a y = u y + ∑ x : Fin 512, b (ix3 0 x (y 1)) * a (ix3 0 x (y 1)))
    {κ sp κ' sp' κ'' sp''} {v : View sig κ sp S32x384 .f32} {g : v.ty.Contents (Elt Ideal)} {p : Vec Ideal S32x384 .f32} {va : View sig κ' sp' S8x584x384 .f32} {vb : View sig κ'' sp'' S8x584x384 .f32}
    {La Lb : List (View.Piece (Elt Ideal) S8x584x384 .f32)}
    (ha : Copied G La 8) (hb : Filled B Lb 576) {L : List (View.Piece (Elt Ideal) S32x384 .f32)} (hL : Over G B v g p L n) {i0 i1 i2 i3} :
    Over G B v g p (⟨Rect.unit (s := S32x384) ![n, 0] ![1, 384] i0, pay (View.ld p (Rect.unit (s := S32x384) ![n, 0] ![1, 384] i1))
      (vb.readCov (Val := Elt Ideal) Lb (Rect.unit (s := S8x584x384) ![0, 32, 0] ![1, 512, 384] i2).toLoadRect)
      (va.readCov (Val := Elt Ideal) La (Rect.unit (s := S8x584x384) ![r, o, 0] ![1, 512, 384] i3).toLoadRect)⟩ :: L) (n + 1) := by
  intro q k
  by_cases e : n = (q : ℕ)
  · rw [row_over _ _ _ _ _ e, hp, row_ld _ _ _ e, if_pos (by omega)]
    refine congrArg (fun e : EReal => (p (ix2 q k) : EReal) + e) (Finset.sum_congr rfl fun x _ => ?_)
    refine congrArg₂ (fun e e' : EReal => e * e') (read_filled _ _ hb _ _ _) ((read_copied _ _ ha _ _ hr ho _ _ _).trans ?_)
    rw [hro, e]
    rfl
  · rw [row_under _ _ _ _ _ e, hL]
    by_cases h : (q : ℕ) < n
    · rw [if_pos h, if_pos (by omega)]
    · rw [if_neg h, if_neg (by omega)]

theorem added_all {L : List (View.Piece (Elt Ideal) S32x384 .f32)} (h : Added G B L 31) (o : Fin 32) (k : Fin 384) : View.canon L (ix2 o k) = 0 + if (o : ℕ) < 31 then tapSum G B o k else 0 := h o k

theorem over_all {κ sp} {v : View sig κ sp S32x384 .f32} {g : v.ty.Contents (Elt Ideal)} {p : Vec Ideal S32x384 .f32} {L : List (View.Piece (Elt Ideal) S32x384 .f32)} (h : Over G B v g p L 31) (o : Fin 32) (k : Fin 384) :
    v.read (Elt Ideal) (v.writes (Elt Ideal) g L) (ix2 o k) = (p (ix2 o k) : EReal) + if (o : ℕ) < 31 then tapSum G B o k else 0 := h o k

/-! ## The payloads -/

/-- A copy's value is what was read. -/
theorem copy_self (w : S1x576x384.Idx → EReal) (x : S1x576x384.Idx) :
    k0_pay23 (F := Ideal) (k0_pay22 w) x = w x ∧ k0_pay24 (F := Ideal) w x = w x ∧ k0_pay25 (F := Ideal) w x = w x ∧ k0_pay26 (F := Ideal) w x = w x
      ∧ k0_pay27 (F := Ideal) w x = w x ∧ k0_pay29 (F := Ideal) (k0_pay28 w) x = w x ∧ k0_pay30 (F := Ideal) w x = w x := by
  refine ⟨?_, ?_, ?_, ?_, ?_, ?_, ?_⟩
  all_goals
    open_payloads
    pointwise

theorem tap_0 (u : Vec Ideal S1x384 .f32) (b a : Vec Ideal S1x512x384 .f32) (y : S1x384.Idx) :
    k0_pay257 u b a y = u y + ∑ x : Fin 512, b (ix3 0 x (y 1)) * a (ix3 0 x (y 1)) := by
  open_payloads
  pointwise

theorem tap_1 (u : Vec Ideal S1x384 .f32) (b a : Vec Ideal S1x512x384 .f32) (y : S1x384.Idx) :
    k0_pay259 (k0_pay258 u) b a y = u y + ∑ x : Fin 512, b (ix3 0 x (y 1)) * a (ix3 0 x (y 1)) := by
  open_payloads
  pointwise

theorem tap_2 (u : Vec Ideal S1x384 .f32) (b a : Vec Ideal S1x512x384 .f32) (y : S1x384.Idx) :
    k0_pay260 u b a y = u y + ∑ x : Fin 512, b (ix3 0 x (y 1)) * a (ix3 0 x (y 1)) := by
  open_payloads
  pointwise

theorem tap_3 (u : Vec Ideal S1x384 .f32) (b a : Vec Ideal S1x512x384 .f32) (y : S1x384.Idx) :
    k0_pay261 u b a y = u y + ∑ x : Fin 512, b (ix3 0 x (y 1)) * a (ix3 0 x (y 1)) := by
  open_payloads
  pointwise

theorem tap_4 (u : Vec Ideal S1x384 .f32) (b a : Vec Ideal S1x512x384 .f32) (y : S1x384.Idx) :
    k0_pay262 u b a y = u y + ∑ x : Fin 512, b (ix3 0 x (y 1)) * a (ix3 0 x (y 1)) := by
  open_payloads
  pointwise

theorem tap_5 (u : Vec Ideal S1x384 .f32) (b a : Vec Ideal S1x512x384 .f32) (y : S1x384.Idx) :
    k0_pay263 u b a y = u y + ∑ x : Fin 512, b (ix3 0 x (y 1)) * a (ix3 0 x (y 1)) := by
  open_payloads
  pointwise

theorem tap_6 (u : Vec Ideal S1x384 .f32) (b a : Vec Ideal S1x512x384 .f32) (y : S1x384.Idx) :
    k0_pay266 (k0_pay264 u) (k0_pay265 b) a y = u y + ∑ x : Fin 512, b (ix3 0 x (y 1)) * a (ix3 0 x (y 1)) := by
  open_payloads
  pointwise

theorem tap_7 (u : Vec Ideal S1x384 .f32) (b a : Vec Ideal S1x512x384 .f32) (y : S1x384.Idx) :
    k0_pay267 u b a y = u y + ∑ x : Fin 512, b (ix3 0 x (y 1)) * a (ix3 0 x (y 1)) := by
  open_payloads
  pointwise

theorem tap_8 (u : Vec Ideal S1x384 .f32) (b a : Vec Ideal S1x512x384 .f32) (y : S1x384.Idx) :
    k0_pay268 u b a y = u y + ∑ x : Fin 512, b (ix3 0 x (y 1)) * a (ix3 0 x (y 1)) := by
  open_payloads
  pointwise

theorem tap_9 (u : Vec Ideal S1x384 .f32) (b a : Vec Ideal S1x512x384 .f32) (y : S1x384.Idx) :
    k0_pay269 u b a y = u y + ∑ x : Fin 512, b (ix3 0 x (y 1)) * a (ix3 0 x (y 1)) := by
  open_payloads
  pointwise

theorem tap_10 (u : Vec Ideal S1x384 .f32) (b a : Vec Ideal S1x512x384 .f32) (y : S1x384.Idx) :
    k0_pay270 u b a y = u y + ∑ x : Fin 512, b (ix3 0 x (y 1)) * a (ix3 0 x (y 1)) := by
  open_payloads
  pointwise

theorem tap_11 (u : Vec Ideal S1x384 .f32) (b a : Vec Ideal S1x512x384 .f32) (y : S1x384.Idx) :
    k0_pay273 (k0_pay271 u) (k0_pay272 b a) y = u y + ∑ x : Fin 512, b (ix3 0 x (y 1)) * a (ix3 0 x (y 1)) := by
  open_payloads
  pointwise

theorem tap_12 (u : Vec Ideal S1x384 .f32) (b a : Vec Ideal S1x512x384 .f32) (y : S1x384.Idx) :
    k0_pay274 u b a y = u y + ∑ x : Fin 512, b (ix3 0 x (y 1)) * a (ix3 0 x (y 1)) := by
  open_payloads
  pointwise

theorem tap_13 (u : Vec Ideal S1x384 .f32) (b a : Vec Ideal S1x512x384 .f32) (y : S1x384.Idx) :
    k0_pay275 u b a y = u y + ∑ x : Fin 512, b (ix3 0 x (y 1)) * a (ix3 0 x (y 1)) := by
  open_payloads
  pointwise

theorem tap_14 (u : Vec Ideal S1x384 .f32) (b a : Vec Ideal S1x512x384 .f32) (y : S1x384.Idx) :
    k0_pay277 (k0_pay276 u) b a y = u y + ∑ x : Fin 512, b (ix3 0 x (y 1)) * a (ix3 0 x (y 1)) := by
  open_payloads
  pointwise

theorem tap_15 (u : Vec Ideal S1x384 .f32) (b a : Vec Ideal S1x512x384 .f32) (y : S1x384.Idx) :
    k0_pay278 u b a y = u y + ∑ x : Fin 512, b (ix3 0 x (y 1)) * a (ix3 0 x (y 1)) := by
  open_payloads
  pointwise

theorem tap_16 (u : Vec Ideal S1x384 .f32) (b a : Vec Ideal S1x512x384 .f32) (y : S1x384.Idx) :
    k0_pay279 u b a y = u y + ∑ x : Fin 512, b (ix3 0 x (y 1)) * a (ix3 0 x (y 1)) := by
  open_payloads
  pointwise

theorem tap_17 (u : Vec Ideal S1x384 .f32) (b a : Vec Ideal S1x512x384 .f32) (y : S1x384.Idx) :
    k0_pay280 u b a y = u y + ∑ x : Fin 512, b (ix3 0 x (y 1)) * a (ix3 0 x (y 1)) := by
  open_payloads
  pointwise

theorem tap_18 (u : Vec Ideal S1x384 .f32) (b a : Vec Ideal S1x512x384 .f32) (y : S1x384.Idx) :
    k0_pay281 u b a y = u y + ∑ x : Fin 512, b (ix3 0 x (y 1)) * a (ix3 0 x (y 1)) := by
  open_payloads
  pointwise

theorem tap_19 (u : Vec Ideal S1x384 .f32) (b a : Vec Ideal S1x512x384 .f32) (y : S1x384.Idx) :
    k0_pay284 (k0_pay282 u) (k0_pay283 b) a y = u y + ∑ x : Fin 512, b (ix3 0 x (y 1)) * a (ix3 0 x (y 1)) := by
  open_payloads
  pointwise

theorem tap_20 (u : Vec Ideal S1x384 .f32) (b a : Vec Ideal S1x512x384 .f32) (y : S1x384.Idx) :
    k0_pay285 u b a y = u y + ∑ x : Fin 512, b (ix3 0 x (y 1)) * a (ix3 0 x (y 1)) := by
  open_payloads
  pointwise

theorem tap_21 (u : Vec Ideal S1x384 .f32) (b a : Vec Ideal S1x512x384 .f32) (y : S1x384.Idx) :
    k0_pay286 u b a y = u y + ∑ x : Fin 512, b (ix3 0 x (y 1)) * a (ix3 0 x (y 1)) := by
  open_payloads
  pointwise

theorem tap_22 (u : Vec Ideal S1x384 .f32) (b a : Vec Ideal S1x512x384 .f32) (y : S1x384.Idx) :
    k0_pay288 (k0_pay287 u) b a y = u y + ∑ x : Fin 512, b (ix3 0 x (y 1)) * a (ix3 0 x (y 1)) := by
  open_payloads
  pointwise

theorem tap_23 (u : Vec Ideal S1x384 .f32) (b a : Vec Ideal S1x512x384 .f32) (y : S1x384.Idx) :
    k0_pay289 u b a y = u y + ∑ x : Fin 512, b (ix3 0 x (y 1)) * a (ix3 0 x (y 1)) := by
  open_payloads
  pointwise

theorem tap_24 (u : Vec Ideal S1x384 .f32) (b a : Vec Ideal S1x512x384 .f32) (y : S1x384.Idx) :
    k0_pay292 (k0_pay290 u) (k0_pay291 b a) y = u y + ∑ x : Fin 512, b (ix3 0 x (y 1)) * a (ix3 0 x (y 1)) := by
  open_payloads
  pointwise

theorem tap_25 (u : Vec Ideal S1x384 .f32) (b a : Vec Ideal S1x512x384 .f32) (y : S1x384.Idx) :
    k0_pay293 u b a y = u y + ∑ x : Fin 512, b (ix3 0 x (y 1)) * a (ix3 0 x (y 1)) := by
  open_payloads
  pointwise

theorem tap_26 (u : Vec Ideal S1x384 .f32) (b a : Vec Ideal S1x512x384 .f32) (y : S1x384.Idx) :
    k0_pay294 u b a y = u y + ∑ x : Fin 512, b (ix3 0 x (y 1)) * a (ix3 0 x (y 1)) := by
  open_payloads
  pointwise

theorem tap_27 (u : Vec Ideal S1x384 .f32) (b a : Vec Ideal S1x512x384 .f32) (y : S1x384.Idx) :
    k0_pay297 (k0_pay295 u) (k0_pay296 b) a y = u y + ∑ x : Fin 512, b (ix3 0 x (y 1)) * a (ix3 0 x (y 1)) := by
  open_payloads
  pointwise

theorem tap_28 (u : Vec Ideal S1x384 .f32) (b a : Vec Ideal S1x512x384 .f32) (y : S1x384.Idx) :
    k0_pay298 u b a y = u y + ∑ x : Fin 512, b (ix3 0 x (y 1)) * a (ix3 0 x (y 1)) := by
  open_payloads
  pointwise

theorem tap_29 (u : Vec Ideal S1x384 .f32) (b a : Vec Ideal S1x512x384 .f32) (y : S1x384.Idx) :
    k0_pay299 u b a y = u y + ∑ x : Fin 512, b (ix3 0 x (y 1)) * a (ix3 0 x (y 1)) := by
  open_payloads
  pointwise

theorem tap_30 (u : Vec Ideal S1x384 .f32) (b a : Vec Ideal S1x512x384 .f32) (y : S1x384.Idx) :
    k0_pay300 u b a y = u y + ∑ x : Fin 512, b (ix3 0 x (y 1)) * a (ix3 0 x (y 1)) := by
  open_payloads
  pointwise

end Cert.MixIdeal.Pair
-- ==== Proof.MixChunks.lean ====
module

public import proofs.«01_k».proof.Proof.MixTaps

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

/-! ## The stores of the gradient's rows, nine stretches of 64 -/

theorem chunk_0 (z d : Vec Ideal S64x384 .f32) (g b : Vec Ideal S1x384 .f32) (a : Fin 64) (k : Fin 384) :
    k0_pay38 (k0_pay32 z) (k0_pay33 z) (k0_pay34 z g b) (k0_pay35 z g b) (Scalar.ofBits (F := Ideal) .f32 0x3F800000#32) d g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_1 (z d : Vec Ideal S64x384 .f32) (g b : Vec Ideal S1x384 .f32) (a : Fin 64) (k : Fin 384) :
    k0_pay48 (k0_pay43 z) (k0_pay44 z) (k0_pay45 z g) b d g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_2 (z d : Vec Ideal S64x384 .f32) (g b : Vec Ideal S1x384 .f32) (a : Fin 64) (k : Fin 384) :
    k0_pay58 (k0_pay53 z) (k0_pay56 (k0_pay52 z) (k0_pay53 z) g b d g) (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_3 (z d : Vec Ideal S64x384 .f32) (g b : Vec Ideal S1x384 .f32) (a : Fin 64) (k : Fin 384) :
    k0_pay71 (k0_pay64 (k0_pay63 z)) (k0_pay65 (k0_pay62 z) (k0_pay63 z)) (k0_pay67 (k0_pay62 z) (k0_pay63 z) g b d g) (k0_pay68 (k0_pay62 z) (k0_pay63 z) g b d g) (k0_pay69 (k0_pay62 z) (k0_pay63 z) g b d g) (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_4 (z d : Vec Ideal S64x384 .f32) (g b : Vec Ideal S1x384 .f32) (a : Fin 64) (k : Fin 384) :
    k0_pay83 (k0_pay77 z (k0_pay75 z)) (k0_pay78 z (k0_pay75 z)) (k0_pay80 z (k0_pay75 z) g b d g) (k0_pay81 z (k0_pay75 z) g b d g) (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_5 (z d : Vec Ideal S64x384 .f32) (g b : Vec Ideal S1x384 .f32) (a : Fin 64) (k : Fin 384) :
    k0_pay92 (k0_pay88 z) (k0_pay89 z) (k0_pay90 z g b d) g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_6 (z d : Vec Ideal S64x384 .f32) (g b : Vec Ideal S1x384 .f32) (a : Fin 64) (k : Fin 384) :
    k0_pay103 (k0_pay97 z) (k0_pay98 z) (k0_pay99 z g b) (k0_pay100 z g b) d (Scalar.ofBits (F := Ideal) .f32 0x3F800000#32) g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_7 (z d : Vec Ideal S64x384 .f32) (g b : Vec Ideal S1x384 .f32) (a : Fin 64) (k : Fin 384) :
    k0_pay117 (k0_pay110 z) (k0_pay111 z) (k0_pay112 z g b) (k0_pay113 z g b) (k0_pay114 ) d g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

theorem chunk_8 (z d : Vec Ideal S64x384 .f32) (g b : Vec Ideal S1x384 .f32) (a : Fin 64) (k : Fin 384) :
    k0_pay128 (k0_pay122 z) (k0_pay123 z) (k0_pay124 z g) (k0_pay125 b) d g (ix3 0 a k) = dE (fun j => z (ix2 a j)) (fun j => g (ix2 0 j)) (fun j => b (ix2 0 j)) (fun j => d (ix2 a j)) k := by
  open_payloads
  pointwise [dE, lnbAt, sE, sgE, yE, nE, rE, cenE, lenE]

variable (m : (ℓ : Loc nD τ sig) → Buf (Elt Ideal) ℓ)

/-- A tap's term at a row of a point's block: the gradient at the row by the gated row the tap meets it with. -/
def tapIn (c : Dev nD) (t : Fin cfg0.N) (x : Fin 512) (n : ℕ) (k : Fin 384) : EReal :=
  bIn m c t x k * (ext (grid0.coords t) (iblk m c 0 t) (iblk m c 1 t) (iblk m c 2 t) (17 + n + x) ⟨1408 + k, by omega⟩
    * sgE (ext (grid0.coords t) (iblk m c 0 t) (iblk m c 1 t) (iblk m c 2 t) (17 + n + x) ⟨1792 + k, by omega⟩))

/-- What a point adds to a row of the taps' gradient. -/
def tapAll (c : Dev nD) (t : Fin cfg0.N) (o : Fin 32) (k : Fin 384) : EReal :=
  if (o : ℕ) < 31 then ∑ x : Fin 512, tapIn m c t x o k else 0

end Cert.MixIdeal.Pair
-- ==== Proof.MixTapsA.lean ====
module

public import proofs.«01_k».proof.Proof.MixChunks

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

variable (m : (ℓ : Loc nD τ sig) → Buf (Elt Ideal) ℓ)

set_option maxHeartbeats 4000000 in
theorem dcw_A (c : Dev nD) (t : Fin cfg0.N) (h) (o : Fin 32) (k : Fin 384) : (outA m c t h).2.2.2.2.1 (ix2 o k) = 0 + tapAll m c t o k := by
  obtain ⟨E, hE, hE'⟩ := ext_reads m c t
  obtain ⟨C, hC, hC'⟩ := conv_rows m c t
  obtain ⟨D, hD, hD'⟩ := grad_rows m c t
  have hz : ∀ n (k : Fin 2176), 576 ≤ n → E n k = 0 := by
    intro n k hn
    rw [hE']
    exact (dif_neg (by omega)).trans ((dif_neg (by omega)).trans (dif_neg (by omega)))
  have hs : tapAll m c t o k = if (o : ℕ) < 31 then tapSum (gated E) (fun n k => dE (fun j => C n j) (fun j => iblk m c 14 t (ix2 0 j)) (fun j => iblk m c 15 t (ix2 0 j)) (fun j => D n j) k) o k else 0 := by
    unfold tapAll tapSum
    refine congrArg (fun e : EReal => if (o : ℕ) < 31 then e else 0) (Finset.sum_congr rfl fun x _ => ?_)
    simp only [tapIn, bIn, gated, ← hC', ← hD', ← hE']
  rw [hs]
  clear hs
  unfold outA runA
  frame_out
  unfold extL at hE
  unfold convL at hC
  unfold gradL at hD
  simp only [hC, hD, hE]
  clear hC hD hC' hD' hE hE'
  refine added_all (tap_A 30 7 40 (by omega) (by omega) (by omega) (by omega) (fun u b a => k0_pay300 u b a) tap_30 ?ha ?hb
    (tap_A 29 6 40 (by omega) (by omega) (by omega) (by omega) (fun u b a => k0_pay299 u b a) tap_29 ?ha ?hb
    (tap_A 28 5 40 (by omega) (by omega) (by omega) (by omega) (fun u b a => k0_pay298 u b a) tap_28 ?ha ?hb
    (tap_A 27 4 40 (by omega) (by omega) (by omega) (by omega) (fun u b a => k0_pay297 (k0_pay295 u) (k0_pay296 b) a) tap_27 ?ha ?hb
    (tap_A 26 3 40 (by omega) (by omega) (by omega) (by omega) (fun u b a => k0_pay294 u b a) tap_26 ?ha ?hb
    (tap_A 25 2 40 (by omega) (by omega) (by omega) (by omega) (fun u b a => k0_pay293 u b a) tap_25 ?ha ?hb
    (tap_A 24 1 40 (by omega) (by omega) (by omega) (by omega) (fun u b a => k0_pay292 (k0_pay290 u) (k0_pay291 b a)) tap_24 ?ha ?hb
    (tap_A 23 0 40 (by omega) (by omega) (by omega) (by omega) (fun u b a => k0_pay289 u b a) tap_23 ?ha ?hb
    (tap_A 22 7 32 (by omega) (by omega) (by omega) (by omega) (fun u b a => k0_pay288 (k0_pay287 u) b a) tap_22 ?ha ?hb
    (tap_A 21 6 32 (by omega) (by omega) (by omega) (by omega) (fun u b a => k0_pay286 u b a) tap_21 ?ha ?hb
    (tap_A 20 5 32 (by omega) (by omega) (by omega) (by omega) (fun u b a => k0_pay285 u b a) tap_20 ?ha ?hb
    (tap_A 19 4 32 (by omega) (by omega) (by omega) (by omega) (fun u b a => k0_pay284 (k0_pay282 u) (k0_pay283 b) a) tap_19 ?ha ?hb
    (tap_A 18 3 32 (by omega) (by omega) (by omega) (by omega) (fun u b a => k0_pay281 u b a) tap_18 ?ha ?hb
    (tap_A 17 2 32 (by omega) (by omega) (by omega) (by omega) (fun u b a => k0_pay280 u b a) tap_17 ?ha ?hb
    (tap_A 16 1 32 (by omega) (by omega) (by omega) (by omega) (fun u b a => k0_pay279 u b a) tap_16 ?ha ?hb
    (tap_A 15 0 32 (by omega) (by omega) (by omega) (by omega) (fun u b a => k0_pay278 u b a) tap_15 ?ha ?hb
    (tap_A 14 7 24 (by omega) (by omega) (by omega) (by omega) (fun u b a => k0_pay277 (k0_pay276 u) b a) tap_14 ?ha ?hb
    (tap_A 13 6 24 (by omega) (by omega) (by omega) (by omega) (fun u b a => k0_pay275 u b a) tap_13 ?ha ?hb
    (tap_A 12 5 24 (by omega) (by omega) (by omega) (by omega) (fun u b a => k0_pay274 u b a) tap_12 ?ha ?hb
    (tap_A 11 4 24 (by omega) (by omega) (by omega) (by omega) (fun u b a => k0_pay273 (k0_pay271 u) (k0_pay272 b a)) tap_11 ?ha ?hb
    (tap_A 10 3 24 (by omega) (by omega) (by omega) (by omega) (fun u b a => k0_pay270 u b a) tap_10 ?ha ?hb
    (tap_A 9 2 24 (by omega) (by omega) (by omega) (by omega) (fun u b a => k0_pay269 u b a) tap_9 ?ha ?hb
    (tap_A 8 1 24 (by omega) (by omega) (by omega) (by omega) (fun u b a => k0_pay268 u b a) tap_8 ?ha ?hb
    (tap_A 7 0 24 (by omega) (by omega) (by omega) (by omega) (fun u b a => k0_pay267 u b a) tap_7 ?ha ?hb
    (tap_A 6 7 16 (by omega) (by omega) (by omega) (by omega) (fun u b a => k0_pay266 (k0_pay264 u) (k0_pay265 b) a) tap_6 ?ha ?hb
    (tap_A 5 6 16 (by omega) (by omega) (by omega) (by omega) (fun u b a => k0_pay263 u b a) tap_5 ?ha ?hb
    (tap_A 4 5 16 (by omega) (by omega) (by omega) (by omega) (fun u b a => k0_pay262 u b a) tap_4 ?ha ?hb
    (tap_A 3 4 16 (by omega) (by omega) (by omega) (by omega) (fun u b a => k0_pay261 u b a) tap_3 ?ha ?hb
    (tap_A 2 3 16 (by omega) (by omega) (by omega) (by omega) (fun u b a => k0_pay260 u b a) tap_2 ?ha ?hb
    (tap_A 1 2 16 (by omega) (by omega) (by omega) (by omega) (fun u b a => k0_pay259 (k0_pay258 u) b a) tap_1 ?ha ?hb
    (tap_A 0 1 16 (by omega) (by omega) (by omega) (by omega) (fun u b a => k0_pay257 u b a) tap_0 ?ha ?hb
    ?base))))))))))))))))))))))))))))))) o k
  case base => exact added_clear
  case ha =>
    refine copied_step 7 (by omega) (by omega) (pay := fun w : Vec Ideal S1x576x384 .f32 => k0_pay30 (F := Ideal) w) (fun w x => (copy_self w x).2.2.2.2.2.2) ?_
    refine copied_step 6 (by omega) (by omega) (pay := fun w : Vec Ideal S1x576x384 .f32 => k0_pay29 (F := Ideal) (k0_pay28 w)) (fun w x => (copy_self w x).2.2.2.2.2.1) ?_
    refine copied_step 5 (by omega) (by omega) (pay := fun w : Vec Ideal S1x576x384 .f32 => k0_pay27 (F := Ideal) w) (fun w x => (copy_self w x).2.2.2.2.1) ?_
    refine copied_step 4 (by omega) (by omega) (pay := fun w : Vec Ideal S1x576x384 .f32 => k0_pay26 (F := Ideal) w) (fun w x => (copy_self w x).2.2.2.1) ?_
    refine copied_step 3 (by omega) (by omega) (pay := fun w : Vec Ideal S1x576x384 .f32 => k0_pay25 (F := Ideal) w) (fun w x => (copy_self w x).2.2.1) ?_
    refine copied_step 2 (by omega) (by omega) (pay := fun w : Vec Ideal S1x576x384 .f32 => k0_pay24 (F := Ideal) w) (fun w x => (copy_self w x).2.1) ?_
    refine copied_step 1 (by omega) (by omega) (pay := fun w : Vec Ideal S1x576x384 .f32 => k0_pay23 (F := Ideal) (k0_pay22 w)) (fun w x => (copy_self w x).1) ?_
    exact copied_first E hz
  case hb =>
    refine filled_off 7 0 576 (by omega) (filled_off 6 0 576 (by omega) (filled_off 5 0 576 (by omega) (filled_off 4 0 576 (by omega)
      (filled_off 3 0 576 (by omega) (filled_off 2 0 576 (by omega) (filled_off 1 0 576 (by omega) (filled_off 0 576 8 (by omega) ?_)))))))
    refine filled_step 512 ?_ (filled_step 448 ?_ (filled_step 384 ?_ (filled_step 320 ?_ (filled_step 256 ?_ (filled_step 192 ?_ (filled_step 128 ?_ (filled_step 64 ?_ (filled_step 0 ?_ filled_none))))))))
    · exact fun a k => chunk_8 _ _ _ _ a k
    · exact fun a k => chunk_7 _ _ _ _ a k
    · exact fun a k => chunk_6 _ _ _ _ a k
    · exact fun a k => chunk_5 _ _ _ _ a k
    · exact fun a k => chunk_4 _ _ _ _ a k
    · exact fun a k => chunk_3 _ _ _ _ a k
    · exact fun a k => chunk_2 _ _ _ _ a k
    · exact fun a k => chunk_1 _ _ _ _ a k
    · exact fun a k => chunk_0 _ _ _ _ a k

end Cert.MixIdeal.Pair
-- ==== Proof.MixTapsB.lean ====
module

public import proofs.«01_k».proof.Proof.MixChunks

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm

variable (m : (ℓ : Loc nD τ sig) → Buf (Elt Ideal) ℓ)

set_option maxHeartbeats 4000000 in
theorem dcw_B (c : Dev nD) (t : Fin cfg0.N) (h) (p : Outs Ideal) (o : Fin 32) (k : Fin 384) : (outB m c t h p).2.2.2.2.1 (ix2 o k) = p.2.2.2.2.1 (ix2 o k) + tapAll m c t o k := by
  obtain ⟨E, hE, hE'⟩ := ext_reads m c t
  obtain ⟨C, hC, hC'⟩ := conv_rows m c t
  obtain ⟨D, hD, hD'⟩ := grad_rows m c t
  have hz : ∀ n (k : Fin 2176), 576 ≤ n → E n k = 0 := by
    intro n k hn
    rw [hE']
    exact (dif_neg (by omega)).trans ((dif_neg (by omega)).trans (dif_neg (by omega)))
  have hs : tapAll m c t o k = if (o : ℕ) < 31 then tapSum (gated E) (fun n k => dE (fun j => C n j) (fun j => iblk m c 14 t (ix2 0 j)) (fun j => iblk m c 15 t (ix2 0 j)) (fun j => D n j) k) o k else 0 := by
    unfold tapAll tapSum
    refine congrArg (fun e : EReal => if (o : ℕ) < 31 then e else 0) (Finset.sum_congr rfl fun x _ => ?_)
    simp only [tapIn, bIn, gated, ← hC', ← hD', ← hE']
  rw [hs]
  clear hs
  unfold outB runB
  frame_out
  unfold extL at hE
  unfold convL at hC
  unfold gradL at hD
  simp only [hC, hD, hE]
  clear hC hD hC' hD' hE hE'
  refine over_all (p := p.2.2.2.2.1) (tap_B 30 7 40 (by omega) (by omega) (by omega) (by omega) (fun u b a => k0_pay300 u b a) tap_30 ?ha ?hb
    (tap_B 29 6 40 (by omega) (by omega) (by omega) (by omega) (fun u b a => k0_pay299 u b a) tap_29 ?ha ?hb
    (tap_B 28 5 40 (by omega) (by omega) (by omega) (by omega) (fun u b a => k0_pay298 u b a) tap_28 ?ha ?hb
    (tap_B 27 4 40 (by omega) (by omega) (by omega) (by omega) (fun u b a => k0_pay297 (k0_pay295 u) (k0_pay296 b) a) tap_27 ?ha ?hb
    (tap_B 26 3 40 (by omega) (by omega) (by omega) (by omega) (fun u b a => k0_pay294 u b a) tap_26 ?ha ?hb
    (tap_B 25 2 40 (by omega) (by omega) (by omega) (by omega) (fun u b a => k0_pay293 u b a) tap_25 ?ha ?hb
    (tap_B 24 1 40 (by omega) (by omega) (by omega) (by omega) (fun u b a => k0_pay292 (k0_pay290 u) (k0_pay291 b a)) tap_24 ?ha ?hb
    (tap_B 23 0 40 (by omega) (by omega) (by omega) (by omega) (fun u b a => k0_pay289 u b a) tap_23 ?ha ?hb
    (tap_B 22 7 32 (by omega) (by omega) (by omega) (by omega) (fun u b a => k0_pay288 (k0_pay287 u) b a) tap_22 ?ha ?hb
    (tap_B 21 6 32 (by omega) (by omega) (by omega) (by omega) (fun u b a => k0_pay286 u b a) tap_21 ?ha ?hb
    (tap_B 20 5 32 (by omega) (by omega) (by omega) (by omega) (fun u b a => k0_pay285 u b a) tap_20 ?ha ?hb
    (tap_B 19 4 32 (by omega) (by omega) (by omega) (by omega) (fun u b a => k0_pay284 (k0_pay282 u) (k0_pay283 b) a) tap_19 ?ha ?hb
    (tap_B 18 3 32 (by omega) (by omega) (by omega) (by omega) (fun u b a => k0_pay281 u b a) tap_18 ?ha ?hb
    (tap_B 17 2 32 (by omega) (by omega) (by omega) (by omega) (fun u b a => k0_pay280 u b a) tap_17 ?ha ?hb
    (tap_B 16 1 32 (by omega) (by omega) (by omega) (by omega) (fun u b a => k0_pay279 u b a) tap_16 ?ha ?hb
    (tap_B 15 0 32 (by omega) (by omega) (by omega) (by omega) (fun u b a => k0_pay278 u b a) tap_15 ?ha ?hb
    (tap_B 14 7 24 (by omega) (by omega) (by omega) (by omega) (fun u b a => k0_pay277 (k0_pay276 u) b a) tap_14 ?ha ?hb
    (tap_B 13 6 24 (by omega) (by omega) (by omega) (by omega) (fun u b a => k0_pay275 u b a) tap_13 ?ha ?hb
    (tap_B 12 5 24 (by omega) (by omega) (by omega) (by omega) (fun u b a => k0_pay274 u b a) tap_12 ?ha ?hb
    (tap_B 11 4 24 (by omega) (by omega) (by omega) (by omega) (fun u b a => k0_pay273 (k0_pay271 u) (k0_pay272 b a)) tap_11 ?ha ?hb
    (tap_B 10 3 24 (by omega) (by omega) (by omega) (by omega) (fun u b a => k0_pay270 u b a) tap_10 ?ha ?hb
    (tap_B 9 2 24 (by omega) (by omega) (by omega) (by omega) (fun u b a => k0_pay269 u b a) tap_9 ?ha ?hb
    (tap_B 8 1 24 (by omega) (by omega) (by omega) (by omega) (fun u b a => k0_pay268 u b a) tap_8 ?ha ?hb
    (tap_B 7 0 24 (by omega) (by omega) (by omega) (by omega) (fun u b a => k0_pay267 u b a) tap_7 ?ha ?hb
    (tap_B 6 7 16 (by omega) (by omega) (by omega) (by omega) (fun u b a => k0_pay266 (k0_pay264 u) (k0_pay265 b) a) tap_6 ?ha ?hb
    (tap_B 5 6 16 (by omega) (by omega) (by omega) (by omega) (fun u b a => k0_pay263 u b a) tap_5 ?ha ?hb
    (tap_B 4 5 16 (by omega) (by omega) (by omega) (by omega) (fun u b a => k0_pay262 u b a) tap_4 ?ha ?hb
    (tap_B 3 4 16 (by omega) (by omega) (by omega) (by omega) (fun u b a => k0_pay261 u b a) tap_3 ?ha ?hb
    (tap_B 2 3 16 (by omega) (by omega) (by omega) (by omega) (fun u b a => k0_pay260 u b a) tap_2 ?ha ?hb
    (tap_B 1 2 16 (by omega) (by omega) (by omega) (by omega) (fun u b a => k0_pay259 (k0_pay258 u) b a) tap_1 ?ha ?hb
    (tap_B 0 1 16 (by omega) (by omega) (by omega) (by omega) (fun u b a => k0_pay257 u b a) tap_0 ?ha ?hb
    ?base))))))))))))))))))))))))))))))) o k
  case base => exact over_none ((hs0_20 t).read_unread (Val := Elt Ideal) p.2.2.2.2.1)
  case ha =>
    refine copied_step 7 (by omega) (by omega) (pay := fun w : Vec Ideal S1x576x384 .f32 => k0_pay30 (F := Ideal) w) (fun w x => (copy_self w x).2.2.2.2.2.2) ?_
    refine copied_step 6 (by omega) (by omega) (pay := fun w : Vec Ideal S1x576x384 .f32 => k0_pay29 (F := Ideal) (k0_pay28 w)) (fun w x => (copy_self w x).2.2.2.2.2.1) ?_
    refine copied_step 5 (by omega) (by omega) (pay := fun w : Vec Ideal S1x576x384 .f32 => k0_pay27 (F := Ideal) w) (fun w x => (copy_self w x).2.2.2.2.1) ?_
    refine copied_step 4 (by omega) (by omega) (pay := fun w : Vec Ideal S1x576x384 .f32 => k0_pay26 (F := Ideal) w) (fun w x => (copy_self w x).2.2.2.1) ?_
    refine copied_step 3 (by omega) (by omega) (pay := fun w : Vec Ideal S1x576x384 .f32 => k0_pay25 (F := Ideal) w) (fun w x => (copy_self w x).2.2.1) ?_
    refine copied_step 2 (by omega) (by omega) (pay := fun w : Vec Ideal S1x576x384 .f32 => k0_pay24 (F := Ideal) w) (fun w x => (copy_self w x).2.1) ?_
    refine copied_step 1 (by omega) (by omega) (pay := fun w : Vec Ideal S1x576x384 .f32 => k0_pay23 (F := Ideal) (k0_pay22 w)) (fun w x => (copy_self w x).1) ?_
    exact copied_first E hz
  case hb =>
    refine filled_off 7 0 576 (by omega) (filled_off 6 0 576 (by omega) (filled_off 5 0 576 (by omega) (filled_off 4 0 576 (by omega)
      (filled_off 3 0 576 (by omega) (filled_off 2 0 576 (by omega) (filled_off 1 0 576 (by omega) (filled_off 0 576 8 (by omega) ?_)))))))
    refine filled_step 512 ?_ (filled_step 448 ?_ (filled_step 384 ?_ (filled_step 320 ?_ (filled_step 256 ?_ (filled_step 192 ?_ (filled_step 128 ?_ (filled_step 64 ?_ (filled_step 0 ?_ filled_none))))))))
    · exact fun a k => chunk_8 _ _ _ _ a k
    · exact fun a k => chunk_7 _ _ _ _ a k
    · exact fun a k => chunk_6 _ _ _ _ a k
    · exact fun a k => chunk_5 _ _ _ _ a k
    · exact fun a k => chunk_4 _ _ _ _ a k
    · exact fun a k => chunk_3 _ _ _ _ a k
    · exact fun a k => chunk_2 _ _ _ _ a k
    · exact fun a k => chunk_1 _ _ _ _ a k
    · exact fun a k => chunk_0 _ _ _ _ a k

end Cert.MixIdeal.Pair
-- ==== Proof.MixValue.lean ====
module

public import proofs.«01_k».proof.Proof.MixRefValue
public import proofs.«01_k».proof.Proof.MixRefShort
public import proofs.«01_k».proof.Proof.MixRefTaps
public import proofs.«01_k».proof.Proof.MixShortValue
public import proofs.«01_k».proof.Proof.MixTapsA
public import proofs.«01_k».proof.Proof.MixTapsB
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixIdeal.Pair

open Cert.MixIdeal Cert.MixIdeal.Gen Cert.LayerNorm
open Cert.MixRefIdeal.Pair (zrow yrow srow urow lit_384 padded convTerm convGrad outDcw)

/-! ## A row of real numbers -/

variable (z g b d : Fin 384 → ℝ)

/-- The gradient with respect to the argument of silu, of one row. -/
def sR (k : Fin 384) : ℝ := d k * (sgm (nrm z k * g k + b k) * (1 + (nrm z k * g k + b k) * (1 - sgm (nrm z k * g k + b k))))

theorem cenE_up (k : Fin 384) : cenE (fun j => ((z j : ℝ) : EReal)) k = ((cen z k : ℝ) : EReal) := by
  unfold cenE lenE
  rw [mean_up (by decide : 384 ≠ 0) z _ lit_384, ← EReal.coe_sub]
  rfl

theorem rE_up : rE (fun j => ((z j : ℝ) : EReal)) = ((rstd z : ℝ) : EReal) := by
  unfold rE lenE
  simp only [cenE_up, ← EReal.coe_mul, mean_up (by decide : 384 ≠ 0) _ _ lit_384, lit_eps, ← EReal.coe_add]
  exact rstd_up z

theorem nE_up (k : Fin 384) : nE (fun j => ((z j : ℝ) : EReal)) k = ((nrm z k : ℝ) : EReal) := by
  unfold nE
  rw [cenE_up, rE_up, ← EReal.coe_mul]
  rfl

theorem sgE_up (v : ℝ) : sgE ((v : ℝ) : EReal) = ((sgm v : ℝ) : EReal) := by
  unfold sgE
  rw [zero_sub, ← EReal.coe_neg, Ideal.exp_coe, sgm_up]

theorem sE_up (k : Fin 384) : sE (fun j => ((z j : ℝ) : EReal)) (fun j => ((g j : ℝ) : EReal)) (fun j => ((b j : ℝ) : EReal)) (fun j => ((d j : ℝ) : EReal)) k
    = ((sR z g b d k : ℝ) : EReal) := by
  unfold sE yE
  simp only [nE_up, ← EReal.coe_mul, ← EReal.coe_add, sgE_up, one_sub_up, one_add_up]
  rfl

theorem dE_up (k : Fin 384) : dE (fun j => ((z j : ℝ) : EReal)) (fun j => ((g j : ℝ) : EReal)) (fun j => ((b j : ℝ) : EReal)) (fun j => ((d j : ℝ) : EReal)) k
    = ((lnb z (fun j => sR z g b d j * g j) k : ℝ) : EReal) :=
  lnbAt_eq (by decide) lit_384 z _ (fun j => by rw [sE_up, ← EReal.coe_mul]) (nE_up z) (rE_up z) k

/-! ## The blocks a point reads -/

variable (m : (ℓ : Loc nD τ sig) → Buf (Elt Ideal) ℓ)
variable (P : S16384x2176.Idx → ℝ) (K : S31x384.Idx → ℝ) (H G B : S384.Idx → ℝ) (T : S16384x1024.Idx → ℝ) (Z : S16384x384.Idx → ℝ)

/-- The arguments of one device are these arrays of real numbers, and the convolution of the first three is `Z`. -/
structure Args (c : Dev nD) : Prop where
  proj : m ((c : Thread nD τ).loc main_arg0) = up P
  taps : m ((c : Thread nD τ).loc main_arg4) = up K
  bias : m ((c : Thread nD τ).loc main_arg5) = up H
  gam : m ((c : Thread nD τ).loc main_arg6) = up G
  bet : m ((c : Thread nD τ).loc main_arg7) = up B
  ct : m ((c : Thread nD τ).loc main_arg8) = up T
  conv : Cert.MixRefIdeal.Read.val_main_v25 (F := Ideal) (up P) (up K) (up H) = up Z

variable {m P K H G B T Z} {c : Dev nD} (h : Args m P K H G B T Z c)

/-- The windows' block indices. -/
theorem idx : ∀ t : Fin cfg0.N, win0_4.index t = ![t.val, 0] ∧ win0_7.index t = ![t.val, 0] ∧ win0_14.index t = ![0, 0] ∧ win0_15.index t = ![0, 0]
    ∧ win0_20.index t = ![0, 0] ∧ win0_21.index t = ![0, 0] ∧ win0_22.index t = ![0, 0] ∧ win0_23.index t = ![0, 0] :=
  (by decide +kernel : ∀ t : Fin grid0.N, _)

include h

/-- The convolution's rows the region reads. -/
theorem entry_conv : V m c main_v41 = up Z := by
  have e : V m c main_v41 = Cert.MixRefIdeal.Read.val_main_v25 (F := Ideal) (m ((c : Thread nD τ).loc main_arg0)) (m ((c : Thread nD τ).loc main_arg4)) (m ((c : Thread nD τ).loc main_arg5)) := by
    sl_kernel_rfl
  rw [e, h.proj, h.taps, h.bias]
  exact h.conv

theorem entry_ct (i : S16384x1024.Idx) : V m c main_v42 i = ((T i : ℝ) : EReal) := by
  simp only [V, hostOps0, hostOps0_1, hostOps0_2, hostOps0_3, hostOps0_4, hostOps0_5, hostOps0_6, List.flatten_cons, List.flatten_nil, List.cons_append, List.nil_append]
  after_results_simp
  rw [h.ct]
  pointwise []

theorem entry_gam (i : S1x384.Idx) (k : Fin 384) (h0 : (i 0 : ℕ) = (0 : Fin 1)) (h1 : (i 1 : ℕ) = k) : V m c main_v45 i = ((G (ix1 k) : ℝ) : EReal) := by
  simp only [V, hostOps0, hostOps0_1, hostOps0_2, hostOps0_3, hostOps0_4, hostOps0_5, hostOps0_6, List.flatten_cons, List.flatten_nil, List.cons_append, List.nil_append]
  after_results_simp
  rw [h.gam, at2 i 0 k h0 h1]
  pointwise []

theorem entry_bet (i : S1x384.Idx) (k : Fin 384) (h0 : (i 0 : ℕ) = (0 : Fin 1)) (h1 : (i 1 : ℕ) = k) : V m c main_v46 i = ((B (ix1 k) : ℝ) : EReal) := by
  simp only [V, hostOps0, hostOps0_1, hostOps0_2, hostOps0_3, hostOps0_4, hostOps0_5, hostOps0_6, List.flatten_cons, List.flatten_nil, List.cons_append, List.nil_append]
  after_results_simp
  rw [h.bet, at2 i 0 k h0 h1]
  pointwise []

theorem blk_conv (t : Fin cfg0.N) (y : S512x384.Idx) (a : Fin 16384) (k : Fin 384) (h0 : (a : ℕ) = t.val * 512 + y 0) (h1 : (k : ℕ) = y 1) :
    iblk m c 7 t y = ((Z (ix2 a k) : ℝ) : EReal) := by
  blk_simp [iblk, idx t]
  refine (congrFun (entry_conv h) _).trans (congrArg (fun i => ((Z i : ℝ) : EReal)) (at2 _ a k ?_ ?_)) <;> (blk_simp [idx t, h0, h1] <;> rfl)

theorem blk_ct (t : Fin cfg0.N) (y : S512x1024.Idx) (a : Fin 16384) (k : Fin 1024) (h0 : (a : ℕ) = t.val * 512 + y 0) (h1 : (k : ℕ) = y 1) :
    iblk m c 4 t y = ((T (ix2 a k) : ℝ) : EReal) := by
  blk_simp [iblk, idx t]
  refine (entry_ct h _).trans (congrArg (fun i => ((T i : ℝ) : EReal)) (at2 _ a k ?_ ?_)) <;> (blk_simp [idx t, h0, h1] <;> rfl)

theorem blk_gam (t : Fin cfg0.N) (k : Fin 384) : iblk m c 14 t (ix2 0 k) = ((G (ix1 k) : ℝ) : EReal) := by
  blk_simp [iblk, idx t]
  refine entry_gam h _ k ?_ ?_ <;> (blk_simp [idx t] <;> rfl)

theorem blk_bet (t : Fin cfg0.N) (k : Fin 384) : iblk m c 15 t (ix2 0 k) = ((B (ix1 k) : ℝ) : EReal) := by
  blk_simp [iblk, idx t]
  refine entry_bet h _ k ?_ ?_ <;> (blk_simp [idx t] <;> rfl)

/-- What a row of a point's block adds to the three sums, as numbers. -/
theorem row_terms (t : Fin cfg0.N) (i : Fin 512) (k : Fin 384) (a : Fin 16384) (h0 : (a : ℕ) = t.val * 512 + i) :
    bIn m c t i k = ((lnb (zrow Z a) (urow Z G B T a) k : ℝ) : EReal)
    ∧ gIn m c t i k = ((srow Z G B T a k : ℝ) : EReal) * ((nrm (zrow Z a) k : ℝ) : EReal)
    ∧ tIn m c t i k = ((srow Z G B T a k : ℝ) : EReal) := by
  unfold bIn gIn tIn
  have e7 : (fun j : Fin 384 => (iblk m c 7 t (ix2 i j) : EReal)) = fun j => ((zrow Z a j : ℝ) : EReal) := funext fun j => blk_conv h t (ix2 i j) a j h0 rfl
  have e14 : (fun j : Fin 384 => (iblk m c 14 t (ix2 0 j) : EReal)) = fun j => ((G (ix1 j) : ℝ) : EReal) := funext fun j => blk_gam h t j
  have e15 : (fun j : Fin 384 => (iblk m c 15 t (ix2 0 j) : EReal)) = fun j => ((B (ix1 j) : ℝ) : EReal) := funext fun j => blk_bet h t j
  have e4 : (fun j : Fin 384 => (iblk m c 4 t (ix2 i ⟨640 + j, by omega⟩) : EReal)) = fun j : Fin 384 => ((T (ix2 a ⟨640 + j, by omega⟩) : ℝ) : EReal) :=
    funext fun j => blk_ct h t (ix2 i ⟨640 + j, by omega⟩) a _ h0 rfl
  refine ⟨?_, ?_, ?_⟩
  · refine (congrArg₂ (fun p q => dE p _ _ q k) e7 e4).trans ((congrArg₂ (fun p q => dE _ p q _ k) e14 e15).trans (dE_up _ _ _ _ k))
  · refine congrArg₂ (fun p q : EReal => p * q) ((congrArg₂ (fun p q => sE p _ _ q k) e7 e4).trans ((congrArg₂ (fun p q => sE _ p q _ k) e14 e15).trans (sE_up _ _ _ _ k)))
      ((congrArg (fun p => nE p k) e7).trans (nE_up _ k))
  · exact (congrArg₂ (fun p q => sE p _ _ q k) e7 e4).trans ((congrArg₂ (fun p q => sE _ p q _ k) e14 e15).trans (sE_up _ _ _ _ k))

omit h

/-! ## The results -/

def outDcb (Z : S16384x384.Idx → ℝ) (G B : S384.Idx → ℝ) (T : S16384x1024.Idx → ℝ) (j : S1x384.Idx) : EReal :=
  ∑ a : Fin 16384, ((lnb (zrow Z a) (urow Z G B T a) (j 1) : ℝ) : EReal)

def outDcg (Z : S16384x384.Idx → ℝ) (G B : S384.Idx → ℝ) (T : S16384x1024.Idx → ℝ) (j : S1x384.Idx) : EReal :=
  ∑ a : Fin 16384, ((srow Z G B T a (j 1) : ℝ) : EReal) * ((nrm (zrow Z a) (j 1) : ℝ) : EReal)

def outDcbt (Z : S16384x384.Idx → ℝ) (G B : S384.Idx → ℝ) (T : S16384x1024.Idx → ℝ) (j : S1x384.Idx) : EReal :=
  ∑ a : Fin 16384, ((srow Z G B T a (j 1) : ℝ) : EReal)

include h

theorem final_dcb : (dats m 0 c).arrAt 21 cfg0.N = outDcb Z G B T := by
  refine (dats m 0 c).arrAt_eq_of_covers 21 _ (by decide +kernel) fun t hf y => ?_
  blk_simp
  rw [after21, Pipeline.eq_sum_fin_of_reset_step_apply_of_flush (fun n h => (outs m c n h).2.2.2.2.2.1) 32 (fun _ => 0) (fun t j => ∑ a : Fin 512, bIn m c t a (j 1))
    (fun t h j => (congrFun (congrArg (fun o : Outs Ideal => o.2.2.2.2.2.1) (outs_first m c t h)) j).trans (dcb_A m c t h j))
    (fun t h j => (congrFun (congrArg (fun o : Outs Ideal => o.2.2.2.2.2.1) (outs_later m c t h)) j).trans (dcb_B m c t h _ j)) t ((flush0_21 t).mp hf) _, zero_add]
  unfold outDcb
  refine Fin.sum_mul_add_congr fun s k hl => ?_
  have hs : 32 * (t.val / 32) + s.val = s.val := by have := t.isLt; have hN : cfg0.grid.N = 32 := N_0; omega
  refine ((row_terms h _ k _ ⟨s.val * 512 + k.val, hl⟩ (by simp [hs])).1).trans ?_
  exact congrArg (fun q => ((lnb (zrow Z _) (urow Z G B T _) q : ℝ) : EReal)) (Fin.ext (by blk_simp [idx t]))

theorem final_dcg : (dats m 0 c).arrAt 22 cfg0.N = outDcg Z G B T := by
  refine (dats m 0 c).arrAt_eq_of_covers 22 _ (by decide +kernel) fun t hf y => ?_
  blk_simp
  rw [after22, Pipeline.eq_sum_fin_of_reset_step_apply_of_flush (fun n h => (outs m c n h).2.2.2.2.2.2.1) 32 (fun _ => 0) (fun t j => ∑ a : Fin 512, gIn m c t a (j 1))
    (fun t h j => (congrFun (congrArg (fun o : Outs Ideal => o.2.2.2.2.2.2.1) (outs_first m c t h)) j).trans (dcg_A m c t h j))
    (fun t h j => (congrFun (congrArg (fun o : Outs Ideal => o.2.2.2.2.2.2.1) (outs_later m c t h)) j).trans (dcg_B m c t h _ j)) t ((flush0_22 t).mp hf) _, zero_add]
  unfold outDcg
  refine Fin.sum_mul_add_congr fun s k hl => ?_
  have hs : 32 * (t.val / 32) + s.val = s.val := by have := t.isLt; have hN : cfg0.grid.N = 32 := N_0; omega
  refine ((row_terms h _ k _ ⟨s.val * 512 + k.val, hl⟩ (by simp [hs])).2.1).trans ?_
  exact congrArg (fun q => ((srow Z G B T _ q : ℝ) : EReal) * ((nrm (zrow Z _) q : ℝ) : EReal)) (Fin.ext (by blk_simp [idx t]))

theorem final_dcbt : (dats m 0 c).arrAt 23 cfg0.N = outDcbt Z G B T := by
  refine (dats m 0 c).arrAt_eq_of_covers 23 _ (by decide +kernel) fun t hf y => ?_
  blk_simp
  rw [after23, Pipeline.eq_sum_fin_of_reset_step_apply_of_flush (fun n h => (outs m c n h).2.2.2.2.2.2.2) 32 (fun _ => 0) (fun t j => ∑ a : Fin 512, tIn m c t a (j 1))
    (fun t h j => (congrFun (congrArg (fun o : Outs Ideal => o.2.2.2.2.2.2.2) (outs_first m c t h)) j).trans (dcbt_A m c t h j))
    (fun t h j => (congrFun (congrArg (fun o : Outs Ideal => o.2.2.2.2.2.2.2) (outs_later m c t h)) j).trans (dcbt_B m c t h _ j)) t ((flush0_23 t).mp hf) _, zero_add]
  unfold outDcbt
  refine Fin.sum_mul_add_congr fun s k hl => ?_
  have hs : 32 * (t.val / 32) + s.val = s.val := by have := t.isLt; have hN : cfg0.grid.N = 32 := N_0; omega
  refine ((row_terms h _ k _ ⟨s.val * 512 + k.val, hl⟩ (by simp [hs])).2.2).trans ?_
  exact congrArg (fun q => ((srow Z G B T _ q : ℝ) : EReal)) (Fin.ext (by blk_simp [idx t]))

/-- What a row of a point's block adds to a tap of the long convolution. -/
theorem tap_terms (t : Fin cfg0.N) (x : Fin 512) (n : ℕ) (hn : n < 31) (k : Fin 384) (r : Fin 16384) (hr : (r : ℕ) = t.val * 512 + x) :
    tapIn m c t x n k = convTerm (up P) (fun a j => lnb (zrow Z a) (urow Z G B T a) j) r n k := by
  unfold tapIn convTerm padded
  rw [ext_row m c t (17 + n + x) (by omega), ext_row m c t (17 + n + x) (by omega), h.proj]
  refine congrArg₂ (fun p q : EReal => p * q) ((row_terms h t x k r hr).1) ?_
  by_cases hp : 15 ≤ (r : ℕ) + n ∧ (r : ℕ) + n < 16399
  · rw [dif_pos (by omega), dif_pos (by omega), dif_pos hp]
    have e : ∀ k : Fin 2176, ix2 (n0 := 16384) (n1 := 2176) ⟨512 * t.val + (17 + n + x) - 32, by omega⟩ k = ix2 ⟨(r : ℕ) + n - 15, by omega⟩ k :=
      fun k => congrArg (fun n => ix2 n k) (Fin.ext (by dsimp only; omega))
    exact congrArg₂ (fun p q : EReal => p * sgE q) (congrArg _ (e _)) (congrArg _ (e _))
  · rw [dif_neg (by omega), dif_neg hp, zero_mul]

/-- The gradient with respect to the long convolution's taps, after the run. -/
theorem final_dcw : (dats m 0 c).arrAt 20 cfg0.N = outDcw (up P) (fun a j => lnb (zrow Z a) (urow Z G B T a) j) := by
  refine (dats m 0 c).arrAt_eq_of_covers 20 _ (by decide +kernel) fun t hf y => ?_
  blk_simp
  have hA : ∀ (t : Fin cfg0.N) (h) (j : S32x384.Idx), (outA m c t h).2.2.2.2.1 j = 0 + tapAll m c t (j 0) (j 1) := fun t h j =>
    (congrArg (outA m c t h).2.2.2.2.1 (Idealize.ShloMosaic.eq_ix2 j)).trans (dcw_A m c t h (j 0) (j 1))
  have hB : ∀ (t : Fin cfg0.N) (h) (p : Outs Ideal) (j : S32x384.Idx), (outB m c t h p).2.2.2.2.1 j = p.2.2.2.2.1 j + tapAll m c t (j 0) (j 1) := fun t h p j => by
    obtain ⟨o, k, rfl⟩ : ∃ (o : Fin 32) (k : Fin 384), j = ix2 o k := ⟨j 0, j 1, Idealize.ShloMosaic.eq_ix2 j⟩
    exact dcw_B m c t h p o k
  rw [after20, Pipeline.eq_sum_fin_of_reset_step_apply_of_flush (fun n h => (outs m c n h).2.2.2.2.1) 32 (fun _ => 0) (fun t j => tapAll m c t (j 0) (j 1))
    (fun t h j => (congrFun (congrArg (fun o : Outs Ideal => o.2.2.2.2.1) (outs_first m c t h)) j).trans (hA t h j))
    (fun t h j => (congrFun (congrArg (fun o : Outs Ideal => o.2.2.2.2.1) (outs_later m c t h)) j).trans (hB t h _ j)) t ((flush0_20 t).mp hf) _, zero_add]
  have h0 : (((cfg0.win 20).blk t).view.emb y 0 : ℕ) = y 0 := by blk_simp [idx t]
  have h1 : ((cfg0.win 20).blk t).view.emb y 1 = y 1 := Fin.ext (by blk_simp [idx t])
  unfold outDcw tapAll
  rw [h0, h1]
  by_cases hq : (y 0 : ℕ) < 31
  · simp only [if_pos hq]
    unfold convGrad
    refine Fin.sum_mul_add_congr fun s k hl => ?_
    have hs : 32 * (t.val / 32) + s.val = s.val := by have := t.isLt; have hN : cfg0.grid.N = 32 := N_0; omega
    exact tap_terms h _ k _ hq (y 1) ⟨s.val * 512 + k.val, hl⟩ (by simp [hs])
  · simp only [if_neg hq]
    exact Finset.sum_const_zero (ι := Fin 32) (M := EReal) (s := Finset.univ)

omit h

/-- The run leaves the five results and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v47_3) = (dats m 0 c).arrAt 19 cfg0.N
        ∧ r.2.mem ((c.tc : Thread nD τ).loc main_v47_4) = (dats m 0 c).arrAt 20 cfg0.N
        ∧ r.2.mem ((c.tc : Thread nD τ).loc main_v47_5) = (dats m 0 c).arrAt 21 cfg0.N
        ∧ r.2.mem ((c.tc : Thread nD τ).loc main_v47_6) = (dats m 0 c).arrAt 22 cfg0.N
        ∧ r.2.mem ((c.tc : Thread nD τ).loc main_v47_7) = (dats m 0 c).arrAt 23 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun r h c => ⟨(h.1 c).1 19, (h.1 c).1 20, (h.1 c).1 21, (h.1 c).1 22, (h.1 c).1 23, h.2.1 c⟩) (θ_run_and (run_main m ρ) (quiescent m ρ))

end Cert.MixIdeal.Pair

namespace Cert.MixPair

open Cert.LayerNorm

/-- The reference's frame. -/
theorem quiescent_ref : Cert.quiescent_MixRefIdeal (hMixRefIdeal := Cert.MixRefIdeal.Gen.facts) := fun m ρ _ =>
  (θ_run Cert.MixRefIdeal.defs _ _).mono (fun r h => ⟨fun c => (h c).2.2.2.2.2, sem_eq_zero_of_no_sems (by decide) r.2⟩)
    (Cert.MixRefIdeal.Value.run (F := Ideal) m ρ)

/-- The precondition's shapes. -/
instance preFacts : Cert.Pre_mix_finite.Facts := ⟨by decide, by decide, by decide, by decide⟩

/-- Under the precondition the arguments are arrays of real numbers. -/
theorem args (m : (ℓ : Loc Cert.MixIdeal.nD Cert.MixIdeal.τ Cert.MixIdeal.sig) → Buf (Elt Ideal) ℓ) (h : Cert.Pre_MixIdeal_mix_finite m) (c) :
    ∃ P K H G B T Z, Cert.MixIdeal.Pair.Args m P K H G B T Z c := by
  obtain ⟨h0, h1, h2, h3, h4, h5⟩ := h c
  obtain ⟨P, hP⟩ := real_of_lt _ _ (fun _ => lit_inf) h0
  obtain ⟨K, hK⟩ := real_of_lt _ _ (fun _ => lit_inf) h1
  obtain ⟨H, hH⟩ := real_of_lt _ _ (fun _ => lit_inf) h2
  obtain ⟨G, hG⟩ := real_of_lt _ _ (fun _ => lit_inf) h3
  obtain ⟨B, hB⟩ := real_of_lt _ _ (fun _ => lit_inf) h4
  obtain ⟨T, hT⟩ := real_of_lt _ _ (fun _ => lit_inf) h5
  obtain ⟨Z, hZ⟩ := Cert.MixRefIdeal.Pair.real_conv P K H
  exact ⟨P, K, H, G, B, T, Z, ⟨hP, hK, hH, hG, hB, hT, hZ⟩⟩

open Cert.MixIdeal.Pair (outDcb outDcg outDcbt) in
/-- The reference's results, of the arrays of real numbers. -/
theorem ref_results (P : Cert.MixRefIdeal.S16384x2176.Idx → ℝ) (K : Cert.MixRefIdeal.S31x384.Idx → ℝ) (H G B : Cert.MixRefIdeal.S384.Idx → ℝ) (T : Cert.MixRefIdeal.S16384x1024.Idx → ℝ)
    (Z : Cert.MixRefIdeal.S16384x384.Idx → ℝ) (hz : Cert.MixRefIdeal.Read.val_main_v25 (F := Ideal) (up P) (up K) (up H) = up Z) :
    Cert.MixRefIdeal.Read.val_main_v129 (F := Ideal) (up P) (up K) (up H) (up G) (up B) (up T) = outDcb Z G B T
    ∧ Cert.MixRefIdeal.Read.val_main_v130 (F := Ideal) (up P) (up K) (up H) (up G) (up B) (up T) = outDcg Z G B T
    ∧ Cert.MixRefIdeal.Read.val_main_v131 (F := Ideal) (up P) (up K) (up H) (up G) (up B) (up T) = outDcbt Z G B T := by
  refine ⟨?_, ?_, ?_⟩ <;> funext j <;> rw [at2 j 0 (j 1) (Nat.lt_one_iff.mp (j 0).isLt) rfl]
  · exact Cert.MixRefIdeal.Pair.ref_dcb G B T _ _ _ hz _
  · exact Cert.MixRefIdeal.Pair.ref_dcg G B T _ _ _ hz _
  · exact Cert.MixRefIdeal.Pair.ref_dcbt G B T _ _ _ hz _

/-- Kernel and reference leave equal results. -/
theorem algebraic : Cert.algebraic_MixIdeal_MixRefIdeal_pre_mix_finite (hMixIdeal := Cert.MixIdeal.Gen.facts) (hMixRefIdeal := Cert.MixRefIdeal.Gen.facts)
    (hPre_mix_finite := preFacts) := by
  intro m g m' g' hpre hag
  choose P K H G B T Z hA using fun c => args m hpre c
  refine ⟨fun c => Cert.MixRefIdeal.Pair.outDsw (up (P c)) (up (T c)),
    fun c => Cert.MixRefIdeal.Pair.outDcw (up (P c)) (fun a j => lnb (Cert.MixRefIdeal.Pair.zrow (Z c) a) (Cert.MixRefIdeal.Pair.urow (Z c) (G c) (B c) (T c) a) j),
    fun c => Cert.MixIdeal.Pair.outDcb (Z c) (G c) (B c) (T c), fun c => Cert.MixIdeal.Pair.outDcg (Z c) (G c) (B c) (T c), fun c => Cert.MixIdeal.Pair.outDcbt (Z c) (G c) (B c) (T c),
    (θ_run _ _ _).mono (fun r h c => ⟨(h c).1.trans ((Cert.MixIdeal.Pair.final_dsw m c).trans (congrArg₂ Cert.MixRefIdeal.Pair.outDsw (hA c).proj (hA c).ct)),
      (h c).2.1.trans (Cert.MixIdeal.Pair.final_dcw (hA c)), (h c).2.2.1.trans (Cert.MixIdeal.Pair.final_dcb (hA c)), (h c).2.2.2.1.trans (Cert.MixIdeal.Pair.final_dcg (hA c)),
      (h c).2.2.2.2.1.trans (Cert.MixIdeal.Pair.final_dcbt (hA c)), (h c).2.2.2.2.2⟩) (Cert.MixIdeal.Pair.run_blocks g),
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.MixRefIdeal.Value.run (F := Ideal) m' g')⟩
  all_goals
    obtain ⟨h0, h1, h2, h3, h4, h5, h6, h7, h8⟩ := hag c
    obtain ⟨r0, r1, r2⟩ := ref_results (P c) (K c) (H c) (G c) (B c) (T c) (Z c) (hA c).conv
    have e0 : StableHlo.launchContents m' c (Proc.devRef .tc Cert.MixRefIdeal.main_arg0) = up (P c) := h0.trans (hA c).proj
    have e4 : StableHlo.launchContents m' c (Proc.devRef .tc Cert.MixRefIdeal.main_arg4) = up (K c) := h4.trans (hA c).taps
    have e5 : StableHlo.launchContents m' c (Proc.devRef .tc Cert.MixRefIdeal.main_arg5) = up (H c) := h5.trans (hA c).bias
    have e6 : StableHlo.launchContents m' c (Proc.devRef .tc Cert.MixRefIdeal.main_arg6) = up (G c) := h6.trans (hA c).gam
    have e7 : StableHlo.launchContents m' c (Proc.devRef .tc Cert.MixRefIdeal.main_arg7) = up (B c) := h7.trans (hA c).bet
    have e8 : StableHlo.launchContents m' c (Proc.devRef .tc Cert.MixRefIdeal.main_arg8) = up (T c) := h8.trans (hA c).ct
  · rw [Cert.MixRefIdeal.Read.val_main_v126_eq, e0, e8]; exact Cert.MixRefIdeal.Pair.ref_dsw _ _
  · rw [Cert.MixRefIdeal.Read.val_main_v128_eq, e0, e4, e5, e6, e7, e8]; exact Cert.MixRefIdeal.Pair.ref_dcw _ _ _ _ _ _ (hA c).conv
  · rw [Cert.MixRefIdeal.Read.val_main_v129_eq, e0, e4, e5, e6, e7, e8]; exact r0
  · rw [Cert.MixRefIdeal.Read.val_main_v130_eq, e0, e4, e5, e6, e7, e8]; exact r1
  · rw [Cert.MixRefIdeal.Read.val_main_v131_eq, e0, e4, e5, e6, e7, e8]; exact r2

end Cert.MixPair
-- ==== Proof.FwdRefValue.lean ====
module

public import proofs.«01_k».proof.Defs
public import proofs.«01_k».proof.Proof.LayerNorm
public import proofs.«01_k».proof.Proof.Gen.FwdRefIdeal.Run
public import proofs.«01_k».proof.Proof.Gen.FwdRefIdeal.Read
public import Idealize.ShloMosaic.Lib.Pipeline.ValueKit
public import Idealize.ShloMosaic.Lib.WordCmp

@[expose] public section

set_option maxRecDepth 16384

noncomputable section

open Idealize.ShloMosaic

namespace Cert.FwdRefIdeal.Pair

open Cert.FwdRefIdeal Cert.FwdRefIdeal.Read Cert.LayerNorm

/-- The rows a gather along the first axis reads. -/
theorem gather_rows {α : Type} (x : S16414x384.Idx → α) (idx : IVec S16384x31x1 32) (a : Fin 16384) (q : Fin 31) (k : Fin 384) :
    Host.gather gather_S16414x384_S16384x31x1_S16384x31x384_2_0_n_n_0_2_1384 x idx (ix3 a q k)
      = x (ix2 ⟨min (idx (ix3 a q 0)).toInt.toNat 16413, by omega⟩ k) := by
  unfold Host.gather
  refine congrArg x (at2 _ _ _ ?_ ?_)
  · show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16414x384_S16384x31x1_S16384x31x384_2_0_n_n_0_2_1384.startIndexMap from List.mem_singleton.mpr rfl)]
    refine congrArg (fun j => min (idx j).toInt.toNat 16413) (funext fun b => Fin.ext ?_)
    match b with
    | ⟨0, _⟩ => rfl
    | ⟨1, _⟩ => rfl
    | ⟨2, _⟩ => rfl
  · show GatherDims.start _ _ _ _ + GatherDims.batchCoord _ _ _ + GatherDims.offCoord _ _ _ = _
    rw [GatherDims.batchCoord_eq_zero _ _ _ List.not_mem_nil]
    unfold GatherDims.start GatherDims.offCoord
    rw [dif_neg (show (1 : Fin 2) ∉ gather_S16414x384_S16384x31x1_S16384x31x384_2_0_n_n_0_2_1384.startIndexMap from by decide),
      dif_pos ((GatherDims.mem_sKept _ _).mpr ⟨by decide, by decide⟩), Nat.zero_add]
    rfl

variable (P : S16384x2176.Idx → EReal) (K : S31x384.Idx → EReal) (H : S384.Idx → EReal)

/-- The gated row `n - 15`, and nothing where there is none. -/
def padded (n : ℕ) (k : Fin 384) : EReal :=
  if h : 15 ≤ n ∧ n < 16399 then
    P (ix2 ⟨n - 15, by omega⟩ ⟨1408 + k, by omega⟩) * Ideal.div 1 (1 + Ideal.exp (0 - P (ix2 ⟨n - 15, by omega⟩ ⟨1792 + k, by omega⟩)))
  else 0

/-- The convolution at a row and a column. -/
def convAt (a : Fin 16384) (k : Fin 384) : EReal := (∑ q : Fin 31, K (ix2 q k) * padded P (a + q) k) + H (ix1 k)

theorem take_row (a : Fin 16384) (q : Fin 31) (k : Fin 384) :
    val_main_v18 (F := Ideal) P (ix3 a q k) = val_main_v17 (F := Ideal) P (ix2 ⟨a + q, by omega⟩ k) := by
  unfold val_main_v18
  rw [gather_rows]
  refine congrArg (fun n => val_main_v17 (F := Ideal) P (ix2 n k)) (Fin.ext ?_)
  have e : val_main_call0_v0 (F := Ideal) (ix3 a q 0) = BitVec.ofNat 32 (a + q) := by
    pointwise [val_main_call0_v0, val_main_v16, val_main_v15, val_main_v14, val_main_v13, val_main_v12, val_main_v11, val_main_v10]
    exact (BitVec.ofNat_add ..).symm
  show min (val_main_call0_v0 (F := Ideal) (ix3 a q 0)).toInt.toNat 16413 = a + q
  rw [e, WordCmp.toInt_ofNat_of_lt (w := 32) (by have := a.isLt; have := q.isLt; omega), Int.toNat_natCast]
  omega

theorem ref_padded (n : Fin 16414) (k : Fin 384) : val_main_v17 (F := Ideal) P (ix2 n k) = padded P n k := by
  pointwise [val_main_v17, val_main_v9, val_main_cst_1, val_main_v8, val_main_v7, val_main_v6, val_main_v5, val_main_v4, val_main_v3, val_main_v2, val_main_v1, val_main_v0, val_main_cst, val_main_cst_0]
  unfold padded
  simp only [zero_sub]
  by_cases h1 : (n : ℕ) < 15
  · rw [dif_pos h1, dif_neg (by omega)]
  · rw [dif_neg h1]
    by_cases h2 : (n : ℕ) - 15 < 16384
    · rw [dif_pos h2, dif_pos (by omega)]
    · rw [dif_neg h2, dif_neg (by omega)]

theorem ref_conv (a : Fin 16384) (k : Fin 384) : val_main_v25 (F := Ideal) P K H (ix2 a k) = convAt P K H a k := by
  pointwise [val_main_v25, val_main_v24, val_main_v23, val_main_v22, val_main_v21, val_main_v20, val_main_v19, val_main_cst_2]
  simp only [take_row, ref_padded]
  exact congrArg (· + H (ix1 k)) (Finset.sum_congr rfl fun q _ => mul_comm _ _)

end Cert.FwdRefIdeal.Pair
-- ==== Proof.FwdBlocks.lean ====
module

public import proofs.«01_k».proof.Proof.Gen.FwdIdeal.Value
public import proofs.«01_k».proof.Proof.LayerNorm

@[expose] public section

set_option maxRecDepth 16384

noncomputable section

open Idealize.ShloMosaic Idealize.ShloMosaic.TcCoe Idealize.SL.Sem
open Idealize.ShloMosaic.Pipeline (Dat)

namespace Cert.FwdIdeal.Pair

open Cert.FwdIdeal Cert.FwdIdeal.Gen Cert.LayerNorm

/-- The 1088 rows a point works from, by number: the last 32 rows of the block before it, its own 1024 rows, the
    first 32 rows of the block after it; nothing before the first block nor after the last one. -/
def ext (i : grid0.Coords) (x0 : S32x2176.Idx → EReal) (x1 : S1024x2176.Idx → EReal) (x2 : S32x2176.Idx → EReal) (n : ℕ) (k : Fin 2176) : EReal :=
  if h0 : n < 32 then (if 0 < (i 0).val then x0 (ix2 ⟨n, h0⟩ k) else 0)
  else if h1 : n < 1056 then x1 (ix2 ⟨n - 32, by omega⟩ k)
  else if h2 : n < 1088 then (if (i 0).val < 15 then x2 (ix2 ⟨n - 1056, by omega⟩ k) else 0) else 0

/-- The gated input of the long convolution, at a row of those. -/
def gatedRow (i : grid0.Coords) (x0 : S32x2176.Idx → EReal) (x1 : S1024x2176.Idx → EReal) (x2 : S32x2176.Idx → EReal) (n : ℕ) (k : Fin 384) : EReal :=
  ext i x0 x1 x2 n ⟨1408 + k, by omega⟩ * Ideal.div 1 (1 + Ideal.exp (0 - ext i x0 x1 x2 n ⟨1792 + k, by omega⟩))

theorem cond_first (i : grid0.Coords) : (Scalar.cmpi .sgt (BitVec.ofNat 32 (i 0).val) 0#32 = 1#1) ↔ 0 < (i 0).val := by
  have h : ∀ k : Fin 16, (Scalar.cmpi .sgt (BitVec.ofNat 32 k.val) 0#32 = 1#1) ↔ 0 < k.val := by decide +kernel
  exact h (i 0)

theorem cond_last (i : grid0.Coords) : (Scalar.cmpi .slt (BitVec.ofNat 32 (i 0).val) 15#32 = 1#1) ↔ (i 0).val < 15 := by
  have h : ∀ k : Fin 16, (Scalar.cmpi .slt (BitVec.ofNat 32 k.val) 15#32 = 1#1) ↔ k.val < 15 := by decide +kernel
  exact h (i 0)

variable (i : grid0.Coords) (x0 : Vec Ideal S32x2176 .bf16) (x1 : Vec Ideal S1024x2176 .bf16) (x2 : Vec Ideal S32x2176 .bf16)

theorem ext_prev {n : ℕ} (k : Fin 2176) (h : n < 32) : ext i x0 x1 x2 n k = if 0 < (i 0).val then x0 (ix2 ⟨n, h⟩ k) else 0 :=
  dif_pos h

theorem ext_cur {n : ℕ} (k : Fin 2176) (h : 32 ≤ n) (h' : n < 1056) : ext i x0 x1 x2 n k = x1 (ix2 ⟨n - 32, by omega⟩ k) :=
  (dif_neg (by omega)).trans (dif_pos h')

theorem ext_next {n : ℕ} (k : Fin 2176) (h : 1056 ≤ n) (h' : n < 1088) :
    ext i x0 x1 x2 n k = if (i 0).val < 15 then x2 (ix2 ⟨n - 1056, by omega⟩ k) else 0 :=
  (dif_neg (by omega)).trans ((dif_neg (by omega)).trans (dif_pos h'))

theorem ext_past {n : ℕ} (k : Fin 2176) (h : 1088 ≤ n) : ext i x0 x1 x2 n k = 0 :=
  (dif_neg (by omega)).trans ((dif_neg (by omega)).trans (dif_neg (by omega)))

/-- The three stores that fill the first scratch. -/
abbrev extL : List (View.Piece (Elt Ideal) S1088x2176 .f32) :=
  [⟨Rect.unit (s := S1088x2176) ![1056, 0] ![32, 2176] inb_S1088x2176_S32x2176_1056_0, k0_pay4 i x2⟩,
    ⟨Rect.unit (s := S1088x2176) ![32, 0] ![1024, 2176] inb_S1088x2176_S1024x2176_32_0, k0_pay3 x1⟩,
    ⟨Rect.unit (s := S1088x2176) ![0, 0] ![32, 2176] inb_S1088x2176_S32x2176_0_0, k0_pay2 i x0⟩]

/-- A place among the rows a store of whole rows writes. -/
theorem mem_rows {off size} (inb) (z : S1088x2176.Idx) (h0 : off ≤ (z 0 : ℕ)) (h1 : (z 0 : ℕ) < off + size) :
    z ∈ (Rect.unit (s := S1088x2176) ![off, 0] ![size, 2176] inb).set :=
  Rect.mem_set_unit.mpr fun a => by
    have hz1 : (z 1 : ℕ) < 2176 := (z 1).isLt
    match a with
    | 0 => exact ⟨h0, h1⟩
    | 1 => exact ⟨Nat.zero_le _, by show (z 1 : ℕ) < 0 + 2176; omega⟩

/-- What the first scratch holds: those rows. -/
theorem canon_ext (z : S1088x2176.Idx) :
    View.canon (extL i x0 x1 x2) z = ext i x0 x1 x2 (z 0) (z 1) := by
  have hz : (z 0 : ℕ) < 1088 := (z 0).isLt
  have hc : ∃ p ∈ extL i x0 x1 x2, z ∈ p.1.set := by
    by_cases h0 : (z 0 : ℕ) < 32
    · exact ⟨_, List.mem_cons_of_mem _ (List.mem_cons_of_mem _ List.mem_cons_self), mem_rows inb_S1088x2176_S32x2176_0_0 z (Nat.zero_le _) (by omega)⟩
    · by_cases h1 : (z 0 : ℕ) < 1056
      · exact ⟨_, List.mem_cons_of_mem _ List.mem_cons_self, mem_rows inb_S1088x2176_S1024x2176_32_0 z (by omega) (by omega)⟩
      · exact ⟨_, List.mem_cons_self, mem_rows inb_S1088x2176_S32x2176_1056_0 z (by omega) (by omega)⟩
  unfold extL at hc ⊢
  canon_tiles x hx using hc
  · refine Eq.trans ?_ (ext_next i x0 x1 x2 (z 1) (n := z 0) (by omega) (by omega)).symm
    simp only [← cond_last]
    open_payloads
    pointwise
    exact congrArg (fun e => Scalar.select _ e 0) (congrArg x2 (at2 x _ _ (by show (x 0 : ℕ) = (z 0 : ℕ) - 1056; omega) (by show (x 1 : ℕ) = (z 1 : ℕ); omega)))
  · refine Eq.trans ?_ (ext_cur i x0 x1 x2 (z 1) (n := z 0) (by omega) (by omega)).symm
    open_payloads
    pointwise
    exact congrArg x1 (at2 x _ _ (by show (x 0 : ℕ) = (z 0 : ℕ) - 32; omega) (by show (x 1 : ℕ) = (z 1 : ℕ); omega))
  · refine Eq.trans ?_ (ext_prev i x0 x1 x2 (z 1) (n := z 0) (by omega)).symm
    simp only [← cond_first]
    open_payloads
    pointwise
    exact congrArg (fun e => Scalar.select _ e 0) (congrArg x0 (at2 x _ _ (by show (x 0 : ℕ) = (z 0 : ℕ); omega) (by show (x 1 : ℕ) = (z 1 : ℕ); omega)))

/-- A stretch of columns of those rows, read back. -/
theorem read_ext (off : ℕ) (hoff : off + 384 ≤ 2176) (inb) :
    (View.whole (sig := sig) cc0_scratch0).readCov (extL i x0 x1 x2) (Rect.unit (s := S1088x2176) ![0, off] ![1088, 384] inb).toLoadRect
      = fun y => ext i x0 x1 x2 (y 0) ⟨off + (y 1 : ℕ), by have : (y 1 : ℕ) < 384 := (y 1).isLt; omega⟩ := by
  rw [View.readCov_eq_canon']
  funext y
  rw [canon_ext]
  congr 1
  · simp
  · apply Fin.ext; simp

/-- What the second scratch must hold at the first `r` of its eight copies: copy `s` holds the gated rows from row
    `s` on. -/
def Good (L : List (View.Piece (Elt Ideal) S8x1096x384 .f32)) (r : ℕ) : Prop :=
  ∀ z : S8x1096x384.Idx, (z 0 : ℕ) < r → ((z 0 : ℕ) = 0 ∨ (z 1 : ℕ) < 1088) →
    View.canon L z = gatedRow i x0 x1 x2 ((z 0 : ℕ) + (z 1 : ℕ)) (z 2)

/-- A place among the rows of a copy a store of whole rows writes, as a place of that store. -/
theorem place_eq {r o s : ℕ} (inb) (z : S8x1096x384.Idx) (h0 : (z 0 : ℕ) = r) (h1 : o ≤ (z 1 : ℕ)) (h2 : (z 1 : ℕ) - o < s) :
    z = (Rect.unit (s := S8x1096x384) ![r, o, 0] ![1, s, 384] inb).emb (ix3 (n0 := 1) (n1 := s) (n2 := 384) 0 ⟨(z 1 : ℕ) - o, h2⟩ (z 2)) := by
  funext a
  apply Fin.ext
  rw [ValueKit.rect_emb_unit_val]
  match a with
  | 0 => show (z 0 : ℕ) = r + 0; omega
  | 1 => show (z 1 : ℕ) = o + ((z 1 : ℕ) - o); omega
  | 2 => show (z 2 : ℕ) = 0 + (z 2 : ℕ); omega

/-- One more copy: rows `r` to `r + 1087` of the first, read back and stored at place `r`. -/
theorem good_copy (r : ℕ) (hr0 : 1 ≤ r) (hr : r < 8) (L : List (View.Piece (Elt Ideal) S8x1096x384 .f32)) (inb inb')
    (w : S1x1088x384.Idx → EReal) (hw : ∀ x, w x = (View.whole (sig := sig) cc0_scratch1).readCov L (Rect.unit (s := S8x1096x384) ![0, r, 0] ![1, 1088, 384] inb').toLoadRect x)
    (hg : Good i x0 x1 x2 L r) :
    Good i x0 x1 x2 (⟨Rect.unit (s := S8x1096x384) ![r, 0, 0] ![1, 1088, 384] inb, w⟩ :: L) (r + 1) := by
  intro z hz hz1
  have hz2 : (z 1 : ℕ) < 1096 := (z 1).isLt
  have hz3 : (z 2 : ℕ) < 384 := (z 2).isLt
  by_cases h : (z 0 : ℕ) = r
  · conv_lhs => rw [place_eq inb z h (Nat.zero_le _) (by omega)]
    rw [View.canon_cons_emb, hw, View.readCov_eq_canon']
    show View.canon L _ = _
    rw [hg]
    · congr 1
      · simp only [Rect.idx_unit_val]
        show 0 + 0 + (r + ((z 1 : ℕ) - 0)) = _
        omega
      · apply Fin.ext
        rw [Rect.idx_unit_val]
        show 0 + (z 2 : ℕ) = _
        omega
    · rw [Rect.idx_unit_val]; show 0 + 0 < r; omega
    · left; rw [Rect.idx_unit_val]; rfl
  · rw [View.canon_cons_of_not_mem]
    · exact hg z (by omega) hz1
    · intro hm
      rw [Rect.mem_set_unit] at hm
      have h1 : r ≤ (z 0 : ℕ) := (hm 0).1
      have h2 : (z 0 : ℕ) < r + 1 := (hm 0).2
      omega

/-- The first two stores of the second scratch: the gated rows, and eight rows of zeros below them. -/
theorem good_first (u w : S1088x384.Idx → EReal) (hu : ∀ y, u y = ext i x0 x1 x2 (y 0) ⟨1408 + (y 1 : ℕ), by have : (y 1 : ℕ) < 384 := (y 1).isLt; omega⟩)
    (hw : ∀ y, w y = ext i x0 x1 x2 (y 0) ⟨1792 + (y 1 : ℕ), by have : (y 1 : ℕ) < 384 := (y 1).isLt; omega⟩) :
    Good i x0 x1 x2 [⟨Rect.unit (s := S8x1096x384) ![0, 1088, 0] ![1, 8, 384] inb_S8x1096x384_S1x8x384_0_1088_0, k0_pay7 (F := Ideal)⟩,
      ⟨Rect.unit (s := S8x1096x384) ![0, 0, 0] ![1, 1088, 384] inb_S8x1096x384_S1x1088x384_0_0_0, k0_pay6 (F := Ideal) u (k0_pay5 w)⟩] 1 := by
  intro z hz hz1
  have hz2 : (z 1 : ℕ) < 1096 := (z 1).isLt
  by_cases h : (z 1 : ℕ) < 1088
  · rw [View.canon_cons_of_not_mem]
    · conv_lhs => rw [place_eq inb_S8x1096x384_S1x1088x384_0_0_0 z (r := 0) (by omega) (Nat.zero_le _) (by omega)]
      rw [View.canon_cons_emb]
      open_payloads
      pointwise
      rw [hu, hw, show (z 0 : ℕ) + (z 1 : ℕ) = (z 1 : ℕ) by omega]
      rfl
    · intro hm
      rw [Rect.mem_set_unit] at hm
      have h1 : 1088 ≤ (z 1 : ℕ) := (hm 1).1
      omega
  · conv_lhs => rw [place_eq inb_S8x1096x384_S1x8x384_0_1088_0 z (r := 0) (by omega) (by omega) (by omega)]
    rw [View.canon_cons_emb]
    have hp : gatedRow i x0 x1 x2 ((z 0 : ℕ) + (z 1 : ℕ)) (z 2) = 0 := by
      unfold gatedRow
      rw [ext_past i x0 x1 x2 _ (by omega), zero_mul]
    rw [hp]
    open_payloads
    pointwise

/-- A stretch of 88 rows of a copy, read back. -/
theorem read_copy88 (L : List (View.Piece (Elt Ideal) S8x1096x384 .f32)) (hg : Good i x0 x1 x2 L 8) (r o : ℕ) (hr : r < 8) (ho : o + 88 ≤ 1088) (inb) :
    (View.whole (sig := sig) cc0_scratch1).readCov L (Rect.unit (s := S8x1096x384) ![r, o, 0] ![1, 88, 384] inb).toLoadRect
      = fun y => gatedRow i x0 x1 x2 (r + o + (y 1 : ℕ)) (y 2) := by
  rw [View.readCov_eq_canon']
  funext y
  have h0 : (y 0 : ℕ) < 1 := (y 0).isLt
  have h1 : (y 1 : ℕ) < 88 := (y 1).isLt
  rw [hg]
  · congr 1
    · simp only [Rect.idx_unit_val]
      show r + (y 0 : ℕ) + (o + (y 1 : ℕ)) = _
      omega
    · apply Fin.ext
      rw [Rect.idx_unit_val]
      show 0 + (y 2 : ℕ) = _
      omega
  · rw [Rect.idx_unit_val]; show r + (y 0 : ℕ) < 8; omega
  · right; rw [Rect.idx_unit_val]; show o + (y 1 : ℕ) < 1088; omega

/-- The same of 80 rows. -/
theorem read_copy80 (L : List (View.Piece (Elt Ideal) S8x1096x384 .f32)) (hg : Good i x0 x1 x2 L 8) (r o : ℕ) (hr : r < 8) (ho : o + 80 ≤ 1088) (inb) :
    (View.whole (sig := sig) cc0_scratch1).readCov L (Rect.unit (s := S8x1096x384) ![r, o, 0] ![1, 80, 384] inb).toLoadRect
      = fun y => gatedRow i x0 x1 x2 (r + o + (y 1 : ℕ)) (y 2) := by
  rw [View.readCov_eq_canon']
  funext y
  have h0 : (y 0 : ℕ) < 1 := (y 0).isLt
  have h1 : (y 1 : ℕ) < 80 := (y 1).isLt
  rw [hg]
  · congr 1
    · simp only [Rect.idx_unit_val]
      show r + (y 0 : ℕ) + (o + (y 1 : ℕ)) = _
      omega
    · apply Fin.ext
      rw [Rect.idx_unit_val]
      show 0 + (y 2 : ℕ) = _
      omega
  · rw [Rect.idx_unit_val]; show r + (y 0 : ℕ) < 8; omega
  · right; rw [Rect.idx_unit_val]; show o + (y 1 : ℕ) < 1088; omega

/-- The stores of the second scratch after one more copy. -/
abbrev copied (r : ℕ) (L : List (View.Piece (Elt Ideal) S8x1096x384 .f32))
    (inb : ∀ a, (![r, 0, 0] : Fin 3 → ℕ) a + (![1, 1088, 384] : Fin 3 → ℕ) a ≤ S8x1096x384.size a)
    (inb' : ∀ a, (![0, r, 0] : Fin 3 → ℕ) a + (![1, 1088, 384] : Fin 3 → ℕ) a ≤ S8x1096x384.size a) (pay : (S1x1088x384.Idx → EReal) → S1x1088x384.Idx → EReal) :
    List (View.Piece (Elt Ideal) S8x1096x384 .f32) :=
  ⟨Rect.unit (s := S8x1096x384) ![r, 0, 0] ![1, 1088, 384] inb,
    pay ((View.whole (sig := sig) cc0_scratch1).readCov L (Rect.unit (s := S8x1096x384) ![0, r, 0] ![1, 1088, 384] inb').toLoadRect)⟩ :: L

/-- The value and the gate columns of the rows, read back. -/
abbrev valCols := (View.whole (sig := sig) cc0_scratch0).readCov (extL i x0 x1 x2) (Rect.unit (s := S1088x2176) ![0, 1408] ![1088, 384] inb_S1088x2176_S1088x384_0_1408).toLoadRect
abbrev gateCols := (View.whole (sig := sig) cc0_scratch0).readCov (extL i x0 x1 x2) (Rect.unit (s := S1088x2176) ![0, 1792] ![1088, 384] inb_S1088x2176_S1088x384_0_1792).toLoadRect

/-- All the stores of the second scratch. -/
abbrev copies : List (View.Piece (Elt Ideal) S8x1096x384 .f32) :=
  copied 7 (copied 6 (copied 5 (copied 4 (copied 3 (copied 2 (copied 1
    [⟨Rect.unit (s := S8x1096x384) ![0, 1088, 0] ![1, 8, 384] inb_S8x1096x384_S1x8x384_0_1088_0, k0_pay7 (F := Ideal)⟩,
      ⟨Rect.unit (s := S8x1096x384) ![0, 0, 0] ![1, 1088, 384] inb_S8x1096x384_S1x1088x384_0_0_0,
        k0_pay6 (F := Ideal) (valCols i x0 x1 x2) (k0_pay5 (gateCols i x0 x1 x2))⟩]
    inb_S8x1096x384_S1x1088x384_1_0_0 inb_S8x1096x384_S1x1088x384_0_1_0 (k0_pay8 (F := Ideal)))
    inb_S8x1096x384_S1x1088x384_2_0_0 inb_S8x1096x384_S1x1088x384_0_2_0 (k0_pay9 (F := Ideal)))
    inb_S8x1096x384_S1x1088x384_3_0_0 inb_S8x1096x384_S1x1088x384_0_3_0 (k0_pay10 (F := Ideal)))
    inb_S8x1096x384_S1x1088x384_4_0_0 inb_S8x1096x384_S1x1088x384_0_4_0 (fun w => k0_pay12 (F := Ideal) (k0_pay11 w)))
    inb_S8x1096x384_S1x1088x384_5_0_0 inb_S8x1096x384_S1x1088x384_0_5_0 (k0_pay13 (F := Ideal)))
    inb_S8x1096x384_S1x1088x384_6_0_0 inb_S8x1096x384_S1x1088x384_0_6_0 (k0_pay14 (F := Ideal)))
    inb_S8x1096x384_S1x1088x384_7_0_0 inb_S8x1096x384_S1x1088x384_0_7_0 (k0_pay15 (F := Ideal))

/-- A copy's value is what was read. -/
theorem copy_self (w : S1x1088x384.Idx → EReal) (x) :
    k0_pay8 (F := Ideal) w x = w x ∧ k0_pay9 (F := Ideal) w x = w x ∧ k0_pay10 (F := Ideal) w x = w x ∧ k0_pay12 (F := Ideal) (k0_pay11 w) x = w x
      ∧ k0_pay13 (F := Ideal) w x = w x ∧ k0_pay14 (F := Ideal) w x = w x ∧ k0_pay15 (F := Ideal) w x = w x := by
  refine ⟨?_, ?_, ?_, ?_, ?_, ?_, ?_⟩
  all_goals
    open_payloads
    pointwise

theorem good_copies : Good i x0 x1 x2 (copies i x0 x1 x2) 8 :=
  good_copy i x0 x1 x2 7 (by omega) (by omega) _ _ _ _ (fun x => (copy_self _ x).2.2.2.2.2.2)
    (good_copy i x0 x1 x2 6 (by omega) (by omega) _ _ _ _ (fun x => (copy_self _ x).2.2.2.2.2.1)
      (good_copy i x0 x1 x2 5 (by omega) (by omega) _ _ _ _ (fun x => (copy_self _ x).2.2.2.2.1)
        (good_copy i x0 x1 x2 4 (by omega) (by omega) _ _ _ _ (fun x => (copy_self _ x).2.2.2.1)
          (good_copy i x0 x1 x2 3 (by omega) (by omega) _ _ _ _ (fun x => (copy_self _ x).2.2.1)
            (good_copy i x0 x1 x2 2 (by omega) (by omega) _ _ _ _ (fun x => (copy_self _ x).2.1)
              (good_copy i x0 x1 x2 1 (by omega) (by omega) _ _ _ _ (fun x => (copy_self _ x).1)
                (good_first i x0 x1 x2 _ _ (congrFun (read_ext i x0 x1 x2 1408 (by omega) _)) (congrFun (read_ext i x0 x1 x2 1792 (by omega) _)))))))))

end Cert.FwdIdeal.Pair

end
-- ==== Proof.FwdConv.lean ====
module

public import proofs.«01_k».proof.Proof.FwdBlocks

@[expose] public section

set_option maxRecDepth 16384

noncomputable section

open Idealize.ShloMosaic Idealize.ShloMosaic.TcCoe Idealize.SL.Sem
open Idealize.ShloMosaic.Pipeline (Dat)

namespace Cert.FwdIdeal.Pair

open Cert.FwdIdeal Cert.FwdIdeal.Gen Cert.LayerNorm

variable (m : (ℓ : Loc nD τ sig) → Buf (Elt Ideal) ℓ)

/-- The slabs the convolution reads from the shifted copies, as one function of row and column. -/
theorem conv_reads (i : grid0.Coords) (x0 : Vec Ideal S32x2176 .bf16) (x1 : Vec Ideal S1024x2176 .bf16) (x2 : Vec Ideal S32x2176 .bf16) : ∃ G : ℕ → ℕ → EReal,
    (∀ (r o : ℕ) (hr : r < 8) (ho : o + 88 ≤ 1088) (inb), (View.whole (sig := sig) cc0_scratch1).readCov (copies i x0 x1 x2) (Rect.unit (s := S8x1096x384) ![r, o, 0] ![1, 88, 384] inb).toLoadRect
      = fun y => G (r + o + (y 1 : ℕ)) (y 2 : ℕ))
    ∧ (∀ (r o : ℕ) (hr : r < 8) (ho : o + 80 ≤ 1088) (inb), (View.whole (sig := sig) cc0_scratch1).readCov (copies i x0 x1 x2) (Rect.unit (s := S8x1096x384) ![r, o, 0] ![1, 80, 384] inb).toLoadRect
      = fun y => G (r + o + (y 1 : ℕ)) (y 2 : ℕ))
    ∧ ∀ (n : ℕ) (k : Fin 384), G n k = gatedRow i x0 x1 x2 n k := by
  refine ⟨fun n k => if h : k < 384 then gatedRow i x0 x1 x2 n ⟨k, h⟩ else 0, fun r o hr ho inb => ?_, fun r o hr ho inb => ?_, fun n k => dif_pos k.isLt⟩
  · rw [read_copy88 i x0 x1 x2 _ (good_copies i x0 x1 x2) r o hr ho inb]
    funext y
    beta_reduce
    rw [dif_pos (show ((y 2 : Fin 384) : ℕ) < 384 from (y 2).isLt)]
    rfl
  · rw [read_copy80 i x0 x1 x2 _ (good_copies i x0 x1 x2) r o hr ho inb]
    funext y
    beta_reduce
    rw [dif_pos (show ((y 2 : Fin 384) : ℕ) < 384 from (y 2).isLt)]
    rfl

/-- The convolution at one row: thirty-one taps of the gated rows from the seventeenth on, and the bias. -/
def convSum (G : ℕ → ℕ → EReal) (w : Vec Ideal S32x384 .f32) (b : Vec Ideal S1x384 .f32) (n : ℕ) (k : Fin 384) : EReal :=
  (∑ q : Fin 31, w (ix2 ⟨q, by omega⟩ k) * G (17 + q + n) k) + b (ix2 0 k)

/-- The order in which the taps are added. -/
theorem taps (f : Fin 31 → EReal) (e : EReal) :
    f ⟨7, by omega⟩ + f ⟨15, by omega⟩ + f ⟨23, by omega⟩ + f ⟨0, by omega⟩ + f ⟨8, by omega⟩ + f ⟨16, by omega⟩ + f ⟨24, by omega⟩
      + f ⟨1, by omega⟩ + f ⟨9, by omega⟩ + f ⟨17, by omega⟩ + f ⟨25, by omega⟩ + f ⟨2, by omega⟩ + f ⟨10, by omega⟩ + f ⟨18, by omega⟩ + f ⟨26, by omega⟩
      + f ⟨3, by omega⟩ + f ⟨11, by omega⟩ + f ⟨19, by omega⟩ + f ⟨27, by omega⟩ + f ⟨4, by omega⟩ + f ⟨12, by omega⟩ + f ⟨20, by omega⟩ + f ⟨28, by omega⟩
      + f ⟨5, by omega⟩ + f ⟨13, by omega⟩ + f ⟨21, by omega⟩ + f ⟨29, by omega⟩ + f ⟨6, by omega⟩ + f ⟨14, by omega⟩ + f ⟨22, by omega⟩ + f ⟨30, by omega⟩ + e
    = (∑ q, f q) + e := by
  obtain ⟨F, hF⟩ : ∃ F : ℕ → EReal, ∀ q (h : q < 31), f ⟨q, h⟩ = F q := ⟨fun q => if h : q < 31 then f ⟨q, h⟩ else 0, fun q h => by simp only [dif_pos h]⟩
  have hs : ∑ q, f q = ∑ q : Fin 31, F q := Finset.sum_congr rfl fun q _ => hF q q.isLt
  rw [hs, Fin.sum_univ_eq_sum_range F 31]
  simp only [hF, Finset.sum_range_succ, Finset.sum_range_zero, zero_add]
  ac_rfl

set_option maxHeartbeats 4000000 in
/-- A point's block of the convolution. -/
theorem conv_block (c : Dev nD) (t : Fin cfg0.N) : ∃ G : ℕ → ℕ → EReal,
   (∀ (n : ℕ) (k : Fin 384), G n k = gatedRow (grid0.coords t) (iblk m c 0 t) (iblk m c 1 t) (iblk m c 2 t) n k) ∧
   ∀ y, (outsAt0 m c t).2 y = convSum G (iblk m c 6 t) (iblk m c 7 t) (y 0) (y 1) := by
  obtain ⟨G, h88, h80, hG⟩ := conv_reads (grid0.coords t) (iblk m c 0 t) (iblk m c 1 t) (iblk m c 2 t)
  refine ⟨G, hG, fun y => ?_⟩
  unfold outsAt0
  frame_out
  unfold copies copied valCols gateCols extL at h80 h88
  simp only [h80, h88, Nat.reduceLT, Nat.reduceAdd, Nat.reduceLeDiff]
  clear h80 h88 hG
  generalize iblk m c 6 t = w
  generalize iblk m c 7 t = b
  canon_tiles x hx
  all_goals
    rw [at2'' hx0 (by omega) hx1 (by omega)]
    open_payloads
    pointwise
    unfold convSum
    rw [← taps]
    simp only [← Nat.add_assoc, Nat.reduceAdd]
    rfl
end Cert.FwdIdeal.Pair

end
-- ==== Proof.FwdValue.lean ====
module

public import proofs.«01_k».proof.Proof.FwdRefValue
public import proofs.«01_k».proof.Proof.FwdConv
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FwdIdeal.Pair

open Cert.FwdIdeal Cert.FwdIdeal.Gen Cert.LayerNorm
open Cert.FwdRefIdeal.Pair (padded convAt)

variable (m : (ℓ : Loc nD τ sig) → Buf (Elt Ideal) ℓ) (c : Dev nD)

/-- The windows' block indices. -/
theorem idx : ∀ t : Fin cfg0.N, win0_0.index t = ![32 * t.val - 1, 0] ∧ win0_1.index t = ![t.val, 0] ∧ win0_2.index t = ![min (32 * (t.val + 1)) 511, 0]
    ∧ win0_6.index t = ![0, 0] ∧ win0_7.index t = ![0, 0] ∧ win0_11.index t = ![t.val, 0] ∧ ((grid0.coords t) 0).val = t.val :=
  (by decide +kernel : ∀ t : Fin grid0.N, _)

/-! ## The blocks a point reads -/

theorem entry_proj (i : S16384x2176.Idx) : V m c main_v13 i = m ((c : Thread nD τ).loc main_arg0) i := by
  simp only [V, hostOps0, hostOps0_1, hostOps0_2, hostOps0_3, hostOps0_4, List.flatten_cons, List.flatten_nil, List.cons_append, List.nil_append]
  after_results_simp
  pointwise []

theorem entry_taps (i : S32x384.Idx) (q : Fin 31) (k : Fin 384) (h0 : (i 0 : ℕ) = q) (h1 : (i 1 : ℕ) = k) :
    V m c main_v16 i = m ((c : Thread nD τ).loc main_arg4) (ix2 q k) := by
  simp only [V, hostOps0, hostOps0_1, hostOps0_2, hostOps0_3, hostOps0_4, List.flatten_cons, List.flatten_nil, List.cons_append, List.nil_append]
  after_results_simp
  rw [at2 i ⟨q, by omega⟩ k h0 h1]
  simp -implicitDefEqProofs only [StableHlo.TRef.toBuf, StableHlo.TRef.ofBuf, cast_cast, cast_eq]
  pointwise []

theorem entry_bias (i : S1x384.Idx) (k : Fin 384) (h0 : (i 0 : ℕ) = (0 : Fin 1)) (h1 : (i 1 : ℕ) = k) :
    V m c main_v17 i = m ((c : Thread nD τ).loc main_arg5) (ix1 k) := by
  simp only [V, hostOps0, hostOps0_1, hostOps0_2, hostOps0_3, hostOps0_4, List.flatten_cons, List.flatten_nil, List.cons_append, List.nil_append]
  after_results_simp
  rw [at2 i 0 k h0 h1]
  pointwise []

theorem blk_prev (t : Fin cfg0.N) (a : Fin 32) (k : Fin 2176) (r : Fin 16384) (h : (r : ℕ) + 32 = 1024 * t.val + a) :
    iblk m c 0 t (ix2 a k) = m ((c : Thread nD τ).loc main_arg0) (ix2 r k) := by
  blk_simp [iblk, idx t]
  refine (entry_proj m c _).trans (congrArg _ (at2 _ r k ?_ ?_))
  · blk_simp [idx t]; have := a.isLt; omega
  · blk_simp [idx t]

theorem blk_cur (t : Fin cfg0.N) (a : Fin 1024) (k : Fin 2176) (r : Fin 16384) (h : (r : ℕ) = 1024 * t.val + a) :
    iblk m c 1 t (ix2 a k) = m ((c : Thread nD τ).loc main_arg0) (ix2 r k) := by
  blk_simp [iblk, idx t]
  refine (entry_proj m c _).trans (congrArg _ (at2 _ r k ?_ ?_))
  · blk_simp [idx t]; omega
  · blk_simp [idx t]

theorem blk_next (t : Fin cfg0.N) (a : Fin 32) (k : Fin 2176) (r : Fin 16384) (h : (r : ℕ) = 1024 * t.val + 1024 + a) :
    iblk m c 2 t (ix2 a k) = m ((c : Thread nD τ).loc main_arg0) (ix2 r k) := by
  blk_simp [iblk, idx t]
  refine (entry_proj m c _).trans (congrArg _ (at2 _ r k ?_ ?_))
  · blk_simp [idx t]; have := r.isLt; omega
  · blk_simp [idx t]

theorem blk_taps (t : Fin cfg0.N) (q : Fin 31) (k : Fin 384) : iblk m c 6 t (ix2 ⟨q, by omega⟩ k) = m ((c : Thread nD τ).loc main_arg4) (ix2 q k) := by
  blk_simp [iblk, idx t]
  refine entry_taps m c _ q k ?_ ?_ <;> blk_simp [idx t]

theorem blk_bias (t : Fin cfg0.N) (k : Fin 384) : iblk m c 7 t (ix2 0 k) = m ((c : Thread nD τ).loc main_arg5) (ix1 k) := by
  blk_simp [iblk, idx t]
  refine entry_bias m c _ k ?_ ?_ <;> (blk_simp [idx t] <;> rfl)

/-- Row `17 + j` of the rows a point works from is row `1024 t + j - 15` of the array, and nothing where there is none. -/
theorem ext_row (t : Fin cfg0.N) (j : ℕ) (hj : j < 1071) (k : Fin 2176) :
    ext (grid0.coords t) (iblk m c 0 t) (iblk m c 1 t) (iblk m c 2 t) (17 + j) k
      = if h : 15 ≤ 1024 * t.val + j ∧ 1024 * t.val + j < 16399 then (m ((c : Thread nD τ).loc main_arg0) (ix2 ⟨1024 * t.val + j - 15, by omega⟩ k) : EReal) else (0 : EReal) := by
  have ht : t.val < 16 := t.isLt
  have hc := (idx t).2.2.2.2.2.2
  by_cases h0 : 17 + j < 32
  · rw [ext_prev _ _ _ _ k h0]
    by_cases hp : 0 < t.val
    · rw [if_pos (by omega), dif_pos (by omega)]
      exact blk_prev m c t _ k _ (by dsimp only; omega)
    · rw [if_neg (by omega), dif_neg (by omega)]
  · by_cases h1 : 17 + j < 1056
    · rw [ext_cur _ _ _ _ k (by omega) h1, dif_pos (by omega)]
      exact blk_cur m c t _ k _ (by dsimp only; omega)
    · rw [ext_next _ _ _ _ k (by omega) (by omega)]
      by_cases hp : t.val < 15
      · rw [if_pos (by omega), dif_pos (by omega)]
        exact blk_next m c t _ k _ (by dsimp only; omega)
      · rw [if_neg (by omega), dif_neg (by omega)]

theorem gated_row (t : Fin cfg0.N) (j : ℕ) (hj : j < 1071) (k : Fin 384) :
    gatedRow (grid0.coords t) (iblk m c 0 t) (iblk m c 1 t) (iblk m c 2 t) (17 + j) k = padded (m ((c : Thread nD τ).loc main_arg0)) (1024 * t.val + j) k := by
  unfold gatedRow padded
  rw [ext_row m c t j hj, ext_row m c t j hj]
  by_cases h : 15 ≤ 1024 * t.val + j ∧ 1024 * t.val + j < 16399
  · rw [dif_pos h, dif_pos h, dif_pos h]
  · simp only [dif_neg h, zero_mul]

/-! ## The result -/

/-- The convolution after the run. -/
theorem final_conv : (dats m 0 c).arrAt 11 cfg0.N
    = fun i => convAt (m ((c : Thread nD τ).loc main_arg0)) (m ((c : Thread nD τ).loc main_arg4)) (m ((c : Thread nD τ).loc main_arg5)) (i 0) (i 1) := by
  refine (dats m 0 c).arrAt_eq_of_covers 11 _ (by decide +kernel) fun t hf y => ?_
  blk_simp
  obtain ⟨G, hG, e⟩ := conv_block m c t
  rw [after0_11, e]
  have hr : (((cfg0.win 11).blk t).view.emb y 0 : ℕ) = 1024 * t.val + y 0 := by blk_simp [idx t]; omega
  have hk : ((cfg0.win 11).blk t).view.emb y 1 = y 1 := Fin.ext (by blk_simp [idx t])
  unfold convSum convAt
  rw [hk]
  refine congrArg₂ (· + ·) (Finset.sum_congr rfl fun q _ => congrArg₂ (· * ·) (blk_taps m c t q _) ?_) (blk_bias m c t _)
  refine (hG _ (y 1)).trans ?_
  rw [hr, Nat.add_assoc 17]
  refine (gated_row m c t _ (by have := q.isLt; have : (y 0 : ℕ) < 1024 := (y 0).isLt; omega) (y 1)).trans ?_
  rw [show 1024 * t.val + (q.val + (y 0 : ℕ)) = 1024 * t.val + (y 0 : ℕ) + q by omega]

end Cert.FwdIdeal.Pair

namespace Cert.FwdPair

/-- The reference's frame. -/
theorem quiescent_ref : Cert.quiescent_FwdRefIdeal (hFwdRefIdeal := Cert.FwdRefIdeal.Gen.facts) := fun m ρ _ =>
  (θ_run Cert.FwdRefIdeal.defs _ _).mono (fun r h => ⟨fun c => (h c).2, sem_eq_zero_of_no_sems (by decide) r.2⟩)
    (Cert.FwdRefIdeal.Value.run (F := Ideal) m ρ)

/-- Kernel and reference leave equal results. -/
theorem algebraic : Cert.algebraic_FwdIdeal_FwdRefIdeal (hFwdIdeal := Cert.FwdIdeal.Gen.facts) (hFwdRefIdeal := Cert.FwdRefIdeal.Gen.facts) := by
  intro m g m' g' _ hag
  refine ⟨_,
    (θ_run _ _ _).mono (fun r h c => ⟨(h c).2.1.trans (Cert.FwdIdeal.Pair.final_conv m c), (h c).2.2⟩) (Cert.FwdIdeal.Value.run_blocks m g),
    (θ_run _ _ _).mono (fun r h c => ⟨(h c).1.trans ?_, (h c).2⟩) (Cert.FwdRefIdeal.Value.run (F := Ideal) m' g')⟩
  obtain ⟨h0, h1, h2, h3, h4, h5, h6, h7⟩ := hag c
  rw [Cert.FwdRefIdeal.Read.val_main_v25_eq, h0, h4, h5]
  funext i
  exact (congrArg _ (Idealize.ShloMosaic.eq_ix2 i)).trans (Cert.FwdRefIdeal.Pair.ref_conv _ _ _ (i 0) (i 1))

end Cert.FwdPair

end
-- ==== Proof.TnValue.lean ====
module

public import proofs.«01_k».proof.Defs
public import proofs.«01_k».proof.Proof.LayerNorm
public import proofs.«01_k».proof.Proof.Gen.TnIdeal.Value
public import proofs.«01_k».proof.Proof.Gen.TnRefIdeal.Run
public import proofs.«01_k».proof.Proof.Gen.TnRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.TnIdeal.Pair

open Cert.TnIdeal Cert.TnIdeal.Gen Cert.LayerNorm

variable (m : (ℓ : Loc nD τ sig) → Buf (Elt Ideal) ℓ) (c : Dev nD)

/-- The windows' block indices: eight points of rows for each half of the columns. -/
theorem idx : ∀ t : Fin cfg0.N, win0_0.index t = ![t.val % 8, t.val / 8] ∧ win0_1.index t = ![t.val % 8, 0] ∧ win0_2.index t = ![t.val / 8, 0]
    ∧ win0_3.index t = ![t.val / 8, 0, 0] :=
  (by decide +kernel : ∀ t : Fin grid0.N, _)

/-- The arrays the region reads, of the arguments. -/
theorem entry_a (i : S16384x2816.Idx) : V m c main_v0 i = (m ((c : Thread nD τ).loc main_arg0)) i := by
  unfold V
  after_results_simp
  pointwise []

theorem entry_b (i : S16384x1024.Idx) : V m c main_v1 i = (m ((c : Thread nD τ).loc main_arg1)) i := by
  unfold V
  after_results_simp
  pointwise []

/-- The blocks a grid point reads, at the arrays' indices. -/
theorem blk_a (t : Fin cfg0.N) (i : Fin 2048) (j : Fin 1408) (a : Fin 16384) (k : Fin 2816) (h0 : (a : ℕ) = t.val % 8 * 2048 + i) (h1 : (k : ℕ) = t.val / 8 * 1408 + j) :
    iblk m c 0 t (ix2 i j : S2048x1408.Idx) = (m ((c : Thread nD τ).loc main_arg0)) (ix2 a k) := by
  blk_simp [iblk, idx t]
  refine (entry_a m c _).trans (congrArg _ (at2 _ a k ?_ ?_)) <;> blk_simp [idx t, h0, h1]

theorem blk_b (t : Fin cfg0.N) (i : Fin 2048) (k : Fin 1024) (a : Fin 16384) (h0 : (a : ℕ) = t.val % 8 * 2048 + i) :
    iblk m c 1 t (ix2 i k : S2048x1024.Idx) = (m ((c : Thread nD τ).loc main_arg1)) (ix2 a k) := by
  blk_simp [iblk, idx t]
  refine (entry_b m c _).trans (congrArg _ (at2 _ a k ?_ ?_)) <;> blk_simp [idx t, h0]

/-- A point's share of one entry of the product. -/
def share (a : S2048x1408.Idx → EReal) (b : S2048x1024.Idx → EReal) (y : S1408x1024.Idx) : EReal := ∑ i : Fin 2048, a (ix2 i (y 0)) * b (ix2 i (y 1))

theorem first (t : Fin cfg0.N) (h : t.val % 8 = 0) (y) : (outsAt0 m c t.val t.isLt).1 y = 0 + share (iblk m c 0 t) (iblk m c 1 t) y := by
  rw [outsAt0_A m c t h (by omega)]
  frame_out
  open_payloads
  unfold share
  pointwise []

theorem step (t : Fin cfg0.N) (h : ¬ t.val % 8 = 0) (y) : (outsAt0 m c t.val t.isLt).1 y
    = (outsAt0 m c (t.val - 1) (Nat.lt_of_le_of_lt (Nat.sub_le _ _) t.isLt)).1 y + share (iblk m c 0 t) (iblk m c 1 t) y := by
  by_cases h1 : t.val % 8 = 7
  · rw [outsAt0_C m c t h h1]
    frame_out
    generalize (outsAt0 m c (t.val - 1) _).1 = acc
    open_payloads
    unfold share
    pointwise []
  · rw [outsAt0_B m c t h h1]
    frame_out
    generalize (outsAt0 m c (t.val - 1) _).1 = acc
    open_payloads
    unfold share
    pointwise []

/-- Rows of the sums just stored, read back. -/
theorem read_rows (t : Fin cfg0.N) (P : S1408x1024.Idx → EReal) (o : ℕ) (inb inb') (x : S352x1024.Idx) (r : Fin 1408) (j : Fin 1024)
    (h0 : (r : ℕ) = o + x 0) (h1 : (j : ℕ) = x 1) :
    (ms0_2 t).view.readCov (Val := Elt Ideal) (e := .f32) [⟨Rect.unit (s := S1408x1024) ![0, 0] ![1408, 1024] inb', P⟩] (Rect.unit (s := S1408x1024) ![o, 0] ![352, 1024] inb).toLoadRect x
      = P (ix2 r j) := by
  have hc : View.canon (Val := Elt Ideal) (e := .f32) [⟨Rect.unit (s := S1408x1024) ![0, 0] ![1408, 1024] inb', P⟩] = P :=
    View.canon_cons_unit_lit' (Val := Elt Ideal) (e := .f32) (S := S1408x1024) inb' P [] (by decide)
  rw [View.readCov_eq_canon', hc]
  exact congrArg P (at2 _ r j (by simp [h0]) (by simp [h1]))

/-- The last point of a half stores the sums as four slots of 352 rows. -/
theorem slots (t : Fin cfg0.N) (h1 : t.val % 8 = 7) (y : S4x352x1024.Idx) (r : Fin 1408) (hr : (r : ℕ) = (y 0 : ℕ) * 352 + y 1) :
    (outsAt0 m c t.val t.isLt).2 y = (outsAt0 m c t.val t.isLt).1 (ix2 r (y 2)) := by
  rw [step m c t (by omega), outsAt0_C m c t (by omega) h1]
  frame_out
  generalize (outsAt0 m c (t.val - 1) _).1 = acc
  canon_tiles x hx
  all_goals
    open_payloads
    pointwise []
    refine (read_rows t _ _ _ _ _ r (y 2) ?_ ?_).trans ?_
    · show (r : ℕ) = _ + (x 1 : ℕ)
      omega
    · exact hx2
    · unfold share
      pointwise []

/-- The product of the transpose with a matrix, entry by entry. -/
def prod (A : S16384x2816.Idx → EReal) (B : S16384x1024.Idx → EReal) (k : Fin 2816) (j : Fin 1024) : EReal := ∑ a : Fin 16384, A (ix2 a k) * B (ix2 a j)

/-- After the last point of a half the sums are the product's entries. -/
theorem sums (t : Fin cfg0.N) (h : t.val % 8 = 7) (y : S1408x1024.Idx) (k : Fin 2816) (hk : (k : ℕ) = t.val / 8 * 1408 + y 0) :
    (outsAt0 m c t.val t.isLt).1 y = prod (m ((c : Thread nD τ).loc main_arg0)) (m ((c : Thread nD τ).loc main_arg1)) k (y 1) := by
  rw [Pipeline.eq_sum_fin_of_reset_step_apply_of_flush (fun n h => (outsAt0 m c n h).1) 8 (fun _ => 0) (fun t j => share (iblk m c 0 t) (iblk m c 1 t) j)
    (fun t h j => first m c t h j) (fun t h j => step m c t h j) t h _, zero_add]
  unfold prod
  refine Fin.sum_mul_add_congr fun s i hl => ?_
  have hN : cfg0.N = 16 := N_0
  have ht := t.isLt
  refine congrArg₂ (fun p q : EReal => p * q) (blk_a m c _ i (y 0) _ k ?_ ?_) (blk_b m c _ i (y 1) _ ?_) <;> (dsimp only; omega)

/-- The two results after the run. -/
theorem final_g : (dats m 0 c).arrAt 2 cfg0.N = fun i => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2, sums m c t ((flush0_2 t).mp hf) _ (((cfg0.win 2).blk t).view.emb y 0) (by blk_simp [idx t]),
    show ((cfg0.win 2).blk t).view.emb y 1 = y 1 from Fin.ext (by blk_simp [idx t])]

theorem final_b : (dats m 0 c).arrAt 3 cfg0.N = fun i => prod (m ((c : Thread nD τ).loc main_arg0)) (m ((c : Thread nD τ).loc main_arg1))
    ⟨(i 0 : ℕ) * 352 + (i 1 : ℕ), by have h0 : (i 0 : ℕ) < 8 := (i 0).isLt; have h1 : (i 1 : ℕ) < 352 := (i 1).isLt; omega⟩ (i 2) := by
  refine (dats m 0 c).arrAt_eq_of_covers 3 _ (by decide +kernel) fun t hf y => ?_
  blk_simp
  have h7 := (flush0_3 t).mp hf
  have y0 : (y 0 : ℕ) < 4 := (y 0).isLt
  have y1 : (y 1 : ℕ) < 352 := (y 1).isLt
  rw [after0_3, slots m c t h7 y ⟨(y 0 : ℕ) * 352 + (y 1 : ℕ), by omega⟩ rfl, sums m c t h7 _ _ ?_,
    show ((cfg0.win 3).blk t).view.emb y 2 = y 2 from Fin.ext (by blk_simp [idx t])]
  · rfl
  · change _ = t.val / 8 * 1408 + ((y 0 : ℕ) * 352 + (y 1 : ℕ))
    blk_simp [idx t]
    show (t.val / 8 * 4 + (y 0 : ℕ)) * 352 + (y 1 : ℕ) = t.val / 8 * 1408 + ((y 0 : ℕ) * 352 + (y 1 : ℕ))
    omega

open Cert.TnRefIdeal.Read in
/-- The reference's results. -/
theorem ref_g (A : Cert.TnRefIdeal.S16384x2816.Idx → EReal) (B : Cert.TnRefIdeal.S16384x1024.Idx → EReal) (i : Fin 2816) (j : Fin 1024) :
    val_main_v4 (F := Ideal) A B (ix2 i j) = prod A B i j := by
  unfold prod
  pointwise [val_main_v4, val_main_v3, val_main_v2]

open Cert.TnRefIdeal.Read in
theorem ref_b (A : Cert.TnRefIdeal.S16384x2816.Idx → EReal) (B : Cert.TnRefIdeal.S16384x1024.Idx → EReal) (i : Cert.TnRefIdeal.S8x352x1024.Idx) (k : Fin 2816)
    (hk : (k : ℕ) = (i 0 : ℕ) * 352 + (i 1 : ℕ)) : val_main_v6 (F := Ideal) A B i = prod A B k (i 2) := by
  refine Eq.trans ?_ (ref_g A B k (i 2))
  have h2 : (i 2 : ℕ) < 1024 := (i 2).isLt
  show val_main_v5 (F := Ideal) A B i = _
  rw [val_main_v5_apply]
  refine congrArg _ (at2 _ k (i 2) ?_ ?_)
  · show (((i 0 : ℕ) * 352 + (i 1 : ℕ)) * 1024 + (i 2 : ℕ)) / 1024 = _
    omega
  · show (((i 0 : ℕ) * 352 + (i 1 : ℕ)) * 1024 + (i 2 : ℕ)) % 1024 = _
    omega

end Cert.TnIdeal.Pair

namespace Cert.TnPair

/-- The reference's frame. -/
theorem quiescent_ref : Cert.quiescent_TnRefIdeal (hTnRefIdeal := Cert.TnRefIdeal.Gen.facts) := fun m ρ _ =>
  (θ_run Cert.TnRefIdeal.defs _ _).mono (fun r h => ⟨fun c => (h c).2.2, sem_eq_zero_of_no_sems (by decide) r.2⟩)
    (Cert.TnRefIdeal.Value.run (F := Ideal) m ρ)

/-- Kernel and reference leave equal results. -/
theorem algebraic : Cert.algebraic_TnIdeal_TnRefIdeal (hTnIdeal := Cert.TnIdeal.Gen.facts) (hTnRefIdeal := Cert.TnRefIdeal.Gen.facts) := by
  intro m g m' g' _ hag
  refine ⟨_, _, (θ_run _ _ _).mono (fun r h c => ⟨(h c).1.trans (Cert.TnIdeal.Pair.final_g m c), (h c).2.1.trans (Cert.TnIdeal.Pair.final_b m c), (h c).2.2⟩) (Cert.TnIdeal.Value.run_blocks m g),
    (θ_run _ _ _).mono (fun r h c => ⟨(h c).1.trans ?_, (h c).2.1.trans ?_, (h c).2.2⟩) (Cert.TnRefIdeal.Value.run (F := Ideal) m' g')⟩
  all_goals
    obtain ⟨h0, h1, h2, h3⟩ := hag c
    funext i
  · rw [Cert.TnRefIdeal.Read.val_main_v4_eq, h0, h1]
    exact (congrArg _ (Idealize.ShloMosaic.eq_ix2 i)).trans (Cert.TnIdeal.Pair.ref_g _ _ (i 0) (i 1))
  · rw [Cert.TnRefIdeal.Read.val_main_v6_eq, h0, h1]
    exact Cert.TnIdeal.Pair.ref_b _ _ i _ rfl

end Cert.TnPair

end
-- ==== Proof.PartsValue.lean ====
module

public import proofs.«01_k».proof.Defs
public import proofs.«01_k».proof.Proof.LayerNorm
public import proofs.«01_k».proof.Proof.Gen.PartsIdeal.Value
public import proofs.«01_k».proof.Proof.Gen.PartsRefIdeal.Run
public import proofs.«01_k».proof.Proof.Gen.PartsRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PartsIdeal.Pair

open Cert.PartsIdeal Cert.PartsIdeal.Gen Cert.LayerNorm

variable (m : (ℓ : Loc nD τ sig) → Buf (Elt Ideal) ℓ) (c : Dev nD)

/-- The windows' block indices. -/
theorem idx : ∀ t : Fin cfg0.N, win0_0.index t = ![t.val, 0] ∧ win0_1.index t = ![0, t.val, 0] ∧ win0_2.index t = ![t.val, 0] :=
  (by decide +kernel : ∀ t : Fin grid0.N, _)

/-- The received parts the region reads, of the arguments. -/
theorem entry_recv (i : S7x2816x1024.Idx) : V m c main_v0 i = (m ((c : Thread nD τ).loc main_arg1)) i := by
  unfold V
  after_results_simp
  pointwise []

/-- The blocks a grid point reads, at the arrays' indices. -/
theorem blk_own (t : Fin cfg0.N) (y : S256x1024.Idx) (a : Fin 2816) (k : Fin 1024) (h0 : (a : ℕ) = t.val * 256 + y 0) (h1 : (k : ℕ) = y 1) :
    iblk m c 0 t y = (m ((c : Thread nD τ).loc main_arg0)) (ix2 a k) := by
  blk_simp [iblk, idx t]
  refine congrArg _ (at2 _ a k ?_ ?_) <;> (blk_simp [idx t, h0, h1] <;> rfl)

theorem blk_recv (t : Fin cfg0.N) (q : Fin 7) (b : Fin 256) (a : Fin 2816) (k : Fin 1024) (h0 : (a : ℕ) = t.val * 256 + b) :
    iblk m c 1 t (ix3 q b k : S7x256x1024.Idx) = (m ((c : Thread nD τ).loc main_arg1)) (ix3 q a k) := by
  blk_simp [iblk, idx t]
  refine (entry_recv m c _).trans (congrArg _ (funext fun d => Fin.ext ?_))
  match d with
  | ⟨0, _⟩ => blk_simp [idx t]
  | ⟨1, _⟩ => blk_simp [idx t, h0]
  | ⟨2, _⟩ => blk_simp [idx t]

/-- What a point stores, of its blocks. -/
theorem piece (x0 : S256x1024.Idx → EReal) (x1 : S7x256x1024.Idx → EReal) (y : S256x1024.Idx) :
    out0_2 (F := Ideal) x0 x1 y = x0 (ix2 (y 0) (y 1)) + ∑ q : Fin 7, x1 (ix3 q (y 0) (y 1)) := by
  rw [Fin.sum_univ_seven]
  simp only [← add_assoc]
  unfold out0_2
  canon_tiles x hx
  all_goals (rw [at2 _ _ _ hx0 hx1]; open_payloads; pointwise [])

theorem ref_v (x0 x1) (i : Fin 2816) (k : Fin 1024) : Cert.PartsRefIdeal.Read.val_main_v1 (F := Ideal) x0 x1 (ix2 i k)
    = x0 (ix2 i k) + ∑ q : Fin 7, x1 (ix3 q i k) := by
  pointwise [Cert.PartsRefIdeal.Read.val_main_v1, Cert.PartsRefIdeal.Read.val_main_v0, Cert.PartsRefIdeal.Read.val_main_cst]

/-- The result after the run is the reference's. -/
theorem final : (dats m 0 c).arrAt 2 cfg0.N = Cert.PartsRefIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2, piece, eq_ix2 (((cfg0.win 2).blk t).view.emb y)]
  refine Eq.trans ?_ (ref_v _ _ _ _).symm
  have hk : ((cfg0.win 2).blk t).view.emb y 1 = y 1 := Fin.ext (by blk_simp [idx t])
  rw [hk]
  have h0 : (((cfg0.win 2).blk t).view.emb y 0 : ℕ) = t.val * 256 + y 0 := by blk_simp [idx t]
  exact congrArg₂ (fun p q : EReal => p + q) (blk_own m c t _ _ _ h0 rfl) (Finset.sum_congr rfl fun q _ => blk_recv m c t q _ _ _ h0)

end Cert.PartsIdeal.Pair

namespace Cert.PartsPair

/-- The reference's frame. -/
theorem quiescent_ref : Cert.quiescent_PartsRefIdeal (hPartsRefIdeal := Cert.PartsRefIdeal.Gen.facts) := fun m ρ _ =>
  (θ_run Cert.PartsRefIdeal.defs _ _).mono (fun r h => ⟨fun c => (h c).2, sem_eq_zero_of_no_sems (by decide) r.2⟩)
    (Cert.PartsRefIdeal.Value.run (F := Ideal) m ρ)

/-- Kernel and reference leave equal results. -/
theorem algebraic : Cert.algebraic_PartsIdeal_PartsRefIdeal (hPartsIdeal := Cert.PartsIdeal.Gen.facts) (hPartsRefIdeal := Cert.PartsRefIdeal.Gen.facts) := by
  intro m g m' g' _ hag
  refine ⟨_, (θ_run _ _ _).mono (fun r h c => ⟨(h c).1.trans (Cert.PartsIdeal.Pair.final m c), (h c).2⟩) (Cert.PartsIdeal.Value.run_blocks m g),
    (θ_run _ _ _).mono (fun r h c => ⟨(h c).1.trans ?_, (h c).2⟩) (Cert.PartsRefIdeal.Value.run (F := Ideal) m' g')⟩
  obtain ⟨h0, h1⟩ := hag c
  rw [Cert.PartsRefIdeal.Read.val_main_v1_eq, h0, h1]

end Cert.PartsPair

end
-- ==== Proof.GatheredValue.lean ====
module

public import proofs.«01_k».proof.Defs
public import proofs.«01_k».proof.Proof.LayerNorm
public import proofs.«01_k».proof.Proof.Gen.GatheredIdeal.Value
public import proofs.«01_k».proof.Proof.Gen.GatheredRefIdeal.Run
public import proofs.«01_k».proof.Proof.Gen.GatheredRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GatheredIdeal.Pair

open Cert.GatheredIdeal Cert.GatheredIdeal.Gen Cert.GatheredIdeal.Value Cert.LayerNorm

/-- The eight parts added one after the other are the reference's sum. -/
theorem ref_sum (x : S8x1160x128.Idx → EReal) : Cert.GatheredRefIdeal.Read.val_main_v0 (F := Ideal) x = G1 (F := Ideal) x := by
  funext i
  rw [eq_ix2 i]
  unfold G1
  refine Eq.trans (b := ∑ q : Fin 8, x (ix3 q (i 0) (i 1))) ?_ ?_
  · pointwise [Cert.GatheredRefIdeal.Read.val_main_v0, Cert.GatheredRefIdeal.Read.val_main_cst]
  · rw [Fin.sum_univ_eight]
    unfold k0_pay1
    pointwise []

end Cert.GatheredIdeal.Pair

namespace Cert.GatheredPair

/-- The reference's frame. -/
theorem quiescent_ref : Cert.quiescent_GatheredRefIdeal (hGatheredRefIdeal := Cert.GatheredRefIdeal.Gen.facts) := fun m ρ _ =>
  (θ_run Cert.GatheredRefIdeal.defs _ _).mono (fun r h => ⟨fun c => (h c).2, sem_eq_zero_of_no_sems (by decide) r.2⟩)
    (Cert.GatheredRefIdeal.Value.run (F := Ideal) m ρ)

/-- Kernel and reference leave equal results. -/
theorem algebraic : Cert.algebraic_GatheredIdeal_GatheredRefIdeal (hGatheredIdeal := Cert.GatheredIdeal.Gen.facts) (hGatheredRefIdeal := Cert.GatheredRefIdeal.Gen.facts) := by
  intro m g m' g' _ hag
  refine ⟨_, (θ_run _ _ _).mono (fun r h c => h c) (Cert.GatheredIdeal.Value.run m g),
    (θ_run _ _ _).mono (fun r h c => ⟨(h c).1.trans ?_, (h c).2⟩) (Cert.GatheredRefIdeal.Value.run (F := Ideal) m' g')⟩
  have h0 := hag c
  rw [Cert.GatheredRefIdeal.Read.val_main_v0_eq, h0]
  exact Cert.GatheredIdeal.Pair.ref_sum _

end Cert.GatheredPair

end
-- ==== Proof.AdamValue.lean ====
module

public import proofs.«01_k».proof.Defs
public import proofs.«01_k».proof.Proof.LayerNorm
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamIdeal.Pair

open Cert.AdamIdeal.Value Cert.AdamRefIdeal.Read

variable (w g m v : Cert.AdamRefIdeal.S4096x352.Idx → EReal)

/-- The two moments and the step of the reference, entry by entry, are the kernel's. -/
theorem ref_m : val_main_v4 (F := Ideal) g m = G5 (F := Ideal) g m := by
  funext i
  pointwise [val_main_v4, val_main_v3, val_main_v2, val_main_v1, val_main_v0, val_main_cst, val_main_cst_0]

theorem ref_v : val_main_v10 (F := Ideal) g v = G6 (F := Ideal) g v := by
  funext i
  pointwise [val_main_v10, val_main_v9, val_main_v8, val_main_v7, val_main_v6, val_main_v5, val_main_cst_1, val_main_cst_2]

theorem ref_step : val_main_v23 (F := Ideal) w g m v = G4 (F := Ideal) g m v w := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

end Cert.AdamIdeal.Pair

namespace Cert.AdamPair

/-- The reference's frame. -/
theorem quiescent_ref : Cert.quiescent_AdamRefIdeal (hAdamRefIdeal := Cert.AdamRefIdeal.Gen.facts) := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

/-- Kernel and reference leave equal results. -/
theorem algebraic : Cert.algebraic_AdamIdeal_AdamRefIdeal (hAdamIdeal := Cert.AdamIdeal.Gen.facts) (hAdamRefIdeal := Cert.AdamRefIdeal.Gen.facts) := by
  intro m g m' g' _ hag
  refine ⟨_, _, _, (θ_run _ _ _).mono (fun r h c => h c) (Cert.AdamIdeal.Value.run m g),
    (θ_run _ _ _).mono (fun r h c => ⟨(h c).1.trans ?_, (h c).2.1.trans ?_, (h c).2.2.1.trans ?_, (h c).2.2.2⟩) (Cert.AdamRefIdeal.Value.run (F := Ideal) m' g')⟩
  all_goals obtain ⟨h0, h1, h2, h3⟩ := hag c
  · rw [Cert.AdamRefIdeal.Read.val_main_v23_eq, h0, h1, h2, h3]; exact Cert.AdamIdeal.Pair.ref_step _ _ _ _
  · rw [Cert.AdamRefIdeal.Read.val_main_v4_eq, h1, h2]; exact Cert.AdamIdeal.Pair.ref_m _ _
  · rw [Cert.AdamRefIdeal.Read.val_main_v10_eq, h1, h3]; exact Cert.AdamIdeal.Pair.ref_v _ _

end Cert.AdamPair

end
-- ==== Proof.lean ====
module

public import proofs.«01_k».proof.Defs
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.NormValue
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnValue
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.UpValue
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownValue
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutValue
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.InValue
public import proofs.«01_k».proof.Proof.Gen.Add.Frame
public import proofs.«01_k».proof.Proof.Gen.AddIdeal.Value
public import proofs.«01_k».proof.Proof.Gen.AddRefIdeal.Run
public import proofs.«01_k».proof.Proof.Gen.AddRefIdeal.Read
public import proofs.«01_k».proof.Proof.AddValue
public import proofs.«01_k».proof.Proof.Gen.Mix
public import proofs.«01_k».proof.Proof.Gen.MixRefIdeal.Run
public import proofs.«01_k».proof.Proof.Gen.MixRefIdeal.Read
public import proofs.«01_k».proof.Proof.MixQuiet
public import proofs.«01_k».proof.Proof.MixValue
public import proofs.«01_k».proof.Proof.Gen.Fwd.Frame
public import proofs.«01_k».proof.Proof.Gen.FwdIdeal.Value
public import proofs.«01_k».proof.Proof.Gen.FwdRefIdeal.Run
public import proofs.«01_k».proof.Proof.Gen.FwdRefIdeal.Read
public import proofs.«01_k».proof.Proof.FwdValue
public import proofs.«01_k».proof.Proof.Gen.Tn.Frame
public import proofs.«01_k».proof.Proof.Gen.TnIdeal.Value
public import proofs.«01_k».proof.Proof.Gen.TnRefIdeal.Run
public import proofs.«01_k».proof.Proof.Gen.TnRefIdeal.Read
public import proofs.«01_k».proof.Proof.TnValue
public import proofs.«01_k».proof.Proof.Gen.Parts.Frame
public import proofs.«01_k».proof.Proof.Gen.PartsIdeal.Value
public import proofs.«01_k».proof.Proof.Gen.PartsRefIdeal.Run
public import proofs.«01_k».proof.Proof.Gen.PartsRefIdeal.Read
public import proofs.«01_k».proof.Proof.PartsValue
public import proofs.«01_k».proof.Proof.Gen.Gathered.Frame
public import proofs.«01_k».proof.Proof.Gen.GatheredIdeal.Value
public import proofs.«01_k».proof.Proof.Gen.GatheredRefIdeal.Run
public import proofs.«01_k».proof.Proof.Gen.GatheredRefIdeal.Read
public import proofs.«01_k».proof.Proof.GatheredValue
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamValue
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Loss.Gen.facts, Cert.LossIdeal.Gen.facts, Cert.LossRefIdeal.Gen.facts, Cert.Norm.Gen.facts, Cert.NormIdeal.Gen.facts, Cert.NormRefIdeal.Gen.facts, Cert.Ffn.Gen.facts, Cert.FfnIdeal.Gen.facts, Cert.FfnRefIdeal.Gen.facts, Cert.Up.Gen.facts, Cert.UpIdeal.Gen.facts, Cert.UpRefIdeal.Gen.facts, Cert.Down.Gen.facts, Cert.DownIdeal.Gen.facts, Cert.DownRefIdeal.Gen.facts, Cert.Out.Gen.facts, Cert.OutIdeal.Gen.facts, Cert.OutRefIdeal.Gen.facts, Cert.In.Gen.facts, Cert.InIdeal.Gen.facts, Cert.InRefIdeal.Gen.facts, Cert.Add.Gen.facts, Cert.AddIdeal.Gen.facts, Cert.AddRefIdeal.Gen.facts, Cert.Mix.Gen.facts, Cert.MixIdeal.Gen.facts, Cert.MixRefIdeal.Gen.facts, Cert.Fwd.Gen.facts, Cert.FwdIdeal.Gen.facts, Cert.FwdRefIdeal.Gen.facts, Cert.Tn.Gen.facts, Cert.TnIdeal.Gen.facts, Cert.TnRefIdeal.Gen.facts, Cert.Parts.Gen.facts, Cert.PartsIdeal.Gen.facts, Cert.PartsRefIdeal.Gen.facts, Cert.Gathered.Gen.facts, Cert.GatheredIdeal.Gen.facts, Cert.GatheredRefIdeal.Gen.facts, Cert.Adam.Gen.facts, Cert.AdamIdeal.Gen.facts, Cert.AdamRefIdeal.Gen.facts, NormPair.preFacts, FfnPair.preFacts, MixPair.preFacts,
  fun m ρ _ => Cert.Loss.Gen.frame m ρ,
  fun m ρ _ => Cert.LossIdeal.Gen.frame m ρ,
  fun m ρ _ => LossPair.quiescent_ref m ρ trivial,
  fun m ρ _ => Cert.Norm.Gen.frame m ρ,
  fun m ρ _ => Cert.NormIdeal.Gen.frame m ρ,
  fun m ρ _ => Cert.NormIdeal.Gen.frame m ρ,
  fun m ρ _ => NormPair.quiescent_ref m ρ trivial,
  fun m ρ _ => NormPair.quiescent_ref m ρ trivial,
  fun m ρ _ => Cert.Ffn.Gen.frame m ρ,
  fun m ρ _ => Cert.FfnIdeal.Gen.frame m ρ,
  fun m ρ _ => Cert.FfnIdeal.Gen.frame m ρ,
  fun m ρ _ => FfnPair.quiescent_ref m ρ trivial,
  fun m ρ _ => FfnPair.quiescent_ref m ρ trivial,
  fun m ρ _ => Cert.Up.Gen.frame m ρ,
  fun m ρ _ => Cert.UpIdeal.Gen.frame m ρ,
  fun m ρ _ => UpPair.quiescent_ref m ρ trivial,
  fun m ρ _ => Cert.Down.Gen.frame m ρ,
  fun m ρ _ => Cert.DownIdeal.Gen.frame m ρ,
  fun m ρ _ => DownPair.quiescent_ref m ρ trivial,
  fun m ρ _ => Cert.Out.Gen.frame m ρ,
  fun m ρ _ => Cert.OutIdeal.Gen.frame m ρ,
  fun m ρ _ => OutPair.quiescent_ref m ρ trivial,
  fun m ρ _ => Cert.In.Gen.frame m ρ,
  fun m ρ _ => Cert.InIdeal.Gen.frame m ρ,
  fun m ρ _ => InPair.quiescent_ref m ρ trivial,
  fun m ρ _ => Cert.Add.Gen.frame m ρ,
  fun m ρ _ => Cert.AddIdeal.Gen.frame m ρ,
  fun m ρ _ => AddPair.quiescent_ref m ρ trivial,
  MixPair.quiescent,
  fun m ρ _ => MixPair.quiescent_ideal m ρ trivial,
  fun m ρ _ => MixPair.quiescent_ideal m ρ trivial,
  fun m ρ _ => MixPair.quiescent_ref m ρ trivial,
  fun m ρ _ => MixPair.quiescent_ref m ρ trivial,
  fun m ρ _ => Cert.Fwd.Gen.frame m ρ,
  fun m ρ _ => Cert.FwdIdeal.Gen.frame m ρ,
  fun m ρ _ => FwdPair.quiescent_ref m ρ trivial,
  fun m ρ _ => Cert.Tn.Gen.frame m ρ,
  fun m ρ _ => Cert.TnIdeal.Gen.frame m ρ,
  fun m ρ _ => TnPair.quiescent_ref m ρ trivial,
  fun m ρ _ => Cert.Parts.Gen.frame m ρ,
  fun m ρ _ => Cert.PartsIdeal.Gen.frame m ρ,
  fun m ρ _ => PartsPair.quiescent_ref m ρ trivial,
  fun m ρ _ => Cert.Gathered.Gen.frame m ρ,
  fun m ρ _ => Cert.GatheredIdeal.Gen.frame m ρ,
  fun m ρ _ => GatheredPair.quiescent_ref m ρ trivial,
  fun m ρ _ => Cert.Adam.Gen.frame m ρ,
  fun m ρ _ => Cert.AdamIdeal.Gen.frame m ρ,
  fun m ρ _ => AdamPair.quiescent_ref m ρ trivial,
  trivial,
  LossPair.algebraic,
  trivial,
  NormPair.algebraic,
  trivial,
  FfnPair.algebraic,
  trivial,
  UpPair.algebraic,
  trivial,
  DownPair.algebraic,
  trivial,
  OutPair.algebraic,
  trivial,
  InPair.algebraic,
  trivial,
  AddPair.algebraic,
  trivial,
  MixPair.algebraic,
  trivial,
  FwdPair.algebraic,
  trivial,
  TnPair.algebraic,
  trivial,
  PartsPair.algebraic,
  trivial,
  GatheredPair.algebraic,
  trivial,
  AdamPair.algebraic⟩

end Cert.Proof

end
